-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_inputs_KernelIdeal [hPre_finite_scores_inputs_KernelIdeal : Cert.Pre_finite_scores_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_inputs_ReferenceIdeal [hPre_finite_scores_inputs_ReferenceIdeal : Cert.Pre_finite_scores_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_inputs_KernelIdeal [hKernelIdeal : Cert.KernelIdeal.Facts] [hPre_finite_scores_inputs_KernelIdeal : Cert.Pre_finite_scores_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_inputs_ReferenceIdeal [hReferenceIdeal : Cert.ReferenceIdeal.Facts] [hPre_finite_scores_inputs_ReferenceIdeal : Cert.Pre_finite_scores_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_inputs_KernelIdeal [hKernelIdeal : Cert.KernelIdeal.Facts] [hReferenceIdeal : Cert.ReferenceIdeal.Facts] [hPre_finite_scores_inputs_KernelIdeal : Cert.Pre_finite_scores_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![32, 512, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_inputs_KernelIdeal : Cert.Pre_finite_scores_inputs_KernelIdeal.Facts) (hPre_finite_scores_inputs_ReferenceIdeal : Cert.Pre_finite_scores_inputs_ReferenceIdeal.Facts),
    quiescent_Kernel (hKernel := hKernel)
    ∧ quiescent_KernelIdeal (hKernelIdeal := hKernelIdeal)
    ∧ quiescent_KernelIdeal_pre_finite_scores_inputs_KernelIdeal (hKernelIdeal := hKernelIdeal) (hPre_finite_scores_inputs_KernelIdeal := hPre_finite_scores_inputs_KernelIdeal)
    ∧ quiescent_ReferenceIdeal (hReferenceIdeal := hReferenceIdeal)
    ∧ quiescent_ReferenceIdeal_pre_finite_scores_inputs_ReferenceIdeal (hReferenceIdeal := hReferenceIdeal) (hPre_finite_scores_inputs_ReferenceIdeal := hPre_finite_scores_inputs_ReferenceIdeal)
    ∧ preserves_Kernel_KernelIdeal
    ∧ algebraic_KernelIdeal_ReferenceIdeal_pre_finite_scores_inputs_KernelIdeal (hKernelIdeal := hKernelIdeal) (hReferenceIdeal := hReferenceIdeal) (hPre_finite_scores_inputs_KernelIdeal := hPre_finite_scores_inputs_KernelIdeal)
-- ==== Pre_finite_scores_inputs_KernelIdeal.lean ====
abbrev S2048x512 : Shape := ⟨2, ![2048, 512]⟩
abbrev S512x32 : Shape := ⟨2, ![512, 32]⟩
abbrev S2048x1 : Shape := ⟨2, ![2048, 1]⟩
abbrev S8x512x1024 : Shape := ⟨3, ![8, 512, 1024]⟩
abbrev S512x1024 : Shape := ⟨2, ![512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S2048x512 .f32) (main_arg1 : FVec F S512x32 .f32) (main_arg2 : IVec S2048x1 32) (main_arg3 : FVec F S8x512x1024 .f32) (main_arg4 : FVec F S512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  main_v8
-- ==== Pre_finite_scores_inputs_ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S512x1024 : Shape := ⟨2, ![512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S2048x512 .f32) (main_arg1 : FVec F S512x32 .f32) (main_arg2 : IVec S2048x1 32) (main_arg3 : FVec F S32x512x1024 .f32) (main_arg4 : FVec F S512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  main_v8
-- ==== Kernel.lean ====
abbrev S2048x512 : Shape := ⟨2, ![2048, 512]⟩
abbrev S512x32 : Shape := ⟨2, ![512, 32]⟩
abbrev S2048x1 : Shape := ⟨2, ![2048, 1]⟩
abbrev S8x512x1024 : Shape := ⟨3, ![8, 512, 1024]⟩
abbrev S512x1024 : Shape := ⟨2, ![512, 1024]⟩
abbrev S2048x1024 : Shape := ⟨2, ![2048, 1024]⟩
abbrev S2x2048x512 : Shape := ⟨3, ![2, 2048, 512]⟩
abbrev S3x2x256x512 : Shape := ⟨4, ![3, 2, 256, 512]⟩
abbrev S24 : Shape := ⟨1, ![24]⟩
abbrev S512x512 : Shape := ⟨2, ![512, 512]⟩
abbrev S512x1 : Shape := ⟨2, ![512, 1]⟩
abbrev S512 : Shape := ⟨1, ![512]⟩
abbrev S1x512x1024 : Shape := ⟨3, ![1, 512, 1024]⟩
abbrev S1x512x512 : Shape := ⟨3, ![1, 512, 512]⟩
abbrev S_ : Shape := ⟨0, ![]⟩
abbrev S1 : Shape := ⟨1, ![1]⟩
abbrev S1x1x256x512 : Shape := ⟨4, ![1, 1, 256, 512]⟩
abbrev S256x512 : Shape := ⟨2, ![256, 512]⟩
abbrev S1x256x512 : Shape := ⟨3, ![1, 256, 512]⟩

abbrev nBuf : Space → Nat
  | .hbm => 6
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x1, .i32⟩
  | .hbm, ⟨3, _⟩ => ⟨S8x512x1024, .f32⟩
  | .hbm, ⟨4, _⟩ => ⟨S512x1024, .f32⟩
  | .hbm, ⟨5, _⟩ => ⟨S2048x1024, .f32⟩
  | .local _ .vmem, ⟨0, _⟩ => ⟨S2048x512, .f32⟩
  | .local _ .vmem, ⟨1, _⟩ => ⟨S512x32, .f32⟩
  | .local _ .vmem, ⟨2, _⟩ => ⟨S2048x1, .i32⟩
  | .local _ .vmem, ⟨3, _⟩ => ⟨S8x512x1024, .f32⟩
  | .local _ .vmem, ⟨4, _⟩ => ⟨S512x1024, .f32⟩
  | .local _ .vmem, ⟨5, _⟩ => ⟨S2048x1024, .f32⟩
  | .local _ .vmem, ⟨6, _⟩ => ⟨S2x2048x512, .bf16⟩
  | .local _ .vmem, ⟨7, _⟩ => ⟨S3x2x256x512, .bf16⟩
  | .local _ .vmem, ⟨8, _⟩ => ⟨S3x2x256x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v15 : BitVec 32 := Scalar.muli v2 c512_i32
  let v16 : Index := Scalar.indexCast v15
  let c0 : Index := 0#32
  ![v16.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_11 : BitVec 32 := 512#32
  let v19 : BitVec 32 := Scalar.muli v2 c512_i32_11
  let v20 : Index := Scalar.indexCast v19
  let c0_12 : Index := 0#32
  ![v20.toNat, 0]
def k0_off3 (d0 : Dev nD) : Fin 3 → Nat :=
  let c0_70 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_69 : BitVec 32 := 512#32
  let v158 : BitVec 32 := Scalar.muli v2 c512_i32_69
  let v159 : Index := Scalar.indexCast v158
  let c0_71 : Index := 0#32
  ![0, v159.toNat, 0]
def k0_dev1 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_73 : BitVec 32 := 1#32
  let v164 : BitVec 32 := Scalar.muli v5 c1_i32_73
  let v165 : BitVec 32 := Scalar.addi c0_i32_74 v164
  v165.toNat
def k0_dev2 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_76 : BitVec 32 := 1#32
  let v166 : BitVec 32 := Scalar.muli v7 c1_i32_76
  let v167 : BitVec 32 := Scalar.addi c0_i32_77 v166
  v167.toNat
def k0_off4 (d0 : Dev nD) (c0_i32_79 : BitVec 32) : Fin 3 → Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v168 : BitVec 32 := Scalar.subi v2 c0_i32_79
  let c4_i32_80 : BitVec 32 := 4#32
  let v169 : BitVec 32 := Scalar.addi v168 c4_i32_80
  let c4_i32_81 : BitVec 32 := 4#32
  let v170 : BitVec 32 := Scalar.remsi v169 c4_i32_81
  let c512_i32_84 : BitVec 32 := 512#32
  let v173 : BitVec 32 := Scalar.muli v170 c512_i32_84
  let c0_i32_95 : BitVec 32 := 0#32
  ![0, v173.toNat, 0]
def k0_dev3 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_91 : BitVec 32 := 1#32
  let v176 : BitVec 32 := Scalar.muli v7 c1_i32_91
  let v177 : BitVec 32 := Scalar.addi c0_i32_92 v176
  v177.toNat
def k0_off5 (d0 : Dev nD) (c0_i32_82 : BitVec 32) : Fin 3 → Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v171 : BitVec 32 := Scalar.addi v2 c0_i32_82
  let c4_i32_83 : BitVec 32 := 4#32
  let v172 : BitVec 32 := Scalar.remsi v171 c4_i32_83
  let c512_i32_85 : BitVec 32 := 512#32
  let v174 : BitVec 32 := Scalar.muli v172 c512_i32_85
  let c256_i32 : BitVec 32 := 256#32
  let v175 : BitVec 32 := Scalar.addi v174 c256_i32
  let c0_i32_105 : BitVec 32 := 0#32
  ![0, v175.toNat, 0]
def k0_dev4 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_101 : BitVec 32 := 1#32
  let v186 : BitVec 32 := Scalar.muli v5 c1_i32_101
  let v187 : BitVec 32 := Scalar.addi c0_i32_102 v186
  v187.toNat
def k0_off6 (d0 : Dev nD) : Fin 3 → Nat :=
  let c1_169 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_168 : BitVec 32 := 512#32
  let v312 : BitVec 32 := Scalar.muli v2 c512_i32_168
  let v313 : Index := Scalar.indexCast v312
  let c0_170 : Index := 0#32
  ![1, v313.toNat, 0]
def k0_off7 (d0 : Dev nD) (c0_i32_171 : BitVec 32) : Fin 3 → Nat :=
  let c1_i32_179 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v317 : BitVec 32 := Scalar.subi v2 c0_i32_171
  let c4_i32_172 : BitVec 32 := 4#32
  let v318 : BitVec 32 := Scalar.addi v317 c4_i32_172
  let c4_i32_173 : BitVec 32 := 4#32
  let v319 : BitVec 32 := Scalar.remsi v318 c4_i32_173
  let c512_i32_176 : BitVec 32 := 512#32
  let v322 : BitVec 32 := Scalar.muli v319 c512_i32_176
  let c0_i32_188 : BitVec 32 := 0#32
  ![1, v322.toNat, 0]
def k0_dev5 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_184 : BitVec 32 := 1#32
  let v325 : BitVec 32 := Scalar.muli v7 c1_i32_184
  let v326 : BitVec 32 := Scalar.addi c0_i32_185 v325
  v326.toNat
def k0_off8 (d0 : Dev nD) (c0_i32_174 : BitVec 32) : Fin 3 → Nat :=
  let c1_i32_189 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v320 : BitVec 32 := Scalar.addi v2 c0_i32_174
  let c4_i32_175 : BitVec 32 := 4#32
  let v321 : BitVec 32 := Scalar.remsi v320 c4_i32_175
  let c512_i32_177 : BitVec 32 := 512#32
  let v323 : BitVec 32 := Scalar.muli v321 c512_i32_177
  let c256_i32_178 : BitVec 32 := 256#32
  let v324 : BitVec 32 := Scalar.addi v323 c256_i32_178
  let c0_i32_197 : BitVec 32 := 0#32
  ![1, v324.toNat, 0]
def k0_dev6 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_193 : BitVec 32 := 1#32
  let v335 : BitVec 32 := Scalar.muli v5 c1_i32_193
  let v336 : BitVec 32 := Scalar.addi c0_i32_194 v335
  v336.toNat
def k0_off9 (d0 : Dev nD) (c1_i32_5 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c1_i32_5
  let c4_i32_6 : BitVec 32 := 4#32
  let v9 : BitVec 32 := Scalar.remsi v8 c4_i32_6
  let c512_i32_198 : BitVec 32 := 512#32
  let v345 : BitVec 32 := Scalar.muli v9 c512_i32_198
  let v346 : Index := Scalar.indexCast v345
  let c0_199 : Index := 0#32
  ![v346.toNat, 0]
def k0_off10 (d0 : Dev nD) (c1_i32_5 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c1_i32_5
  let c4_i32_6 : BitVec 32 := 4#32
  let v9 : BitVec 32 := Scalar.remsi v8 c4_i32_6
  let c512_i32_200 : BitVec 32 := 512#32
  let v349 : BitVec 32 := Scalar.muli v9 c512_i32_200
  let v350 : Index := Scalar.indexCast v349
  let c0_201 : Index := 0#32
  ![v350.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v10 : BitVec 32 := Scalar.subi v2 c1_i32_7
  let c4_i32_8 : BitVec 32 := 4#32
  let v11 : BitVec 32 := Scalar.addi v10 c4_i32_8
  let c4_i32_9 : BitVec 32 := 4#32
  let v12 : BitVec 32 := Scalar.remsi v11 c4_i32_9
  let c512_i32_209 : BitVec 32 := 512#32
  let v372 : BitVec 32 := Scalar.muli v12 c512_i32_209
  let v373 : Index := Scalar.indexCast v372
  let c0_210 : Index := 0#32
  ![v373.toNat, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v10 : BitVec 32 := Scalar.subi v2 c1_i32_7
  let c4_i32_8 : BitVec 32 := 4#32
  let v11 : BitVec 32 := Scalar.addi v10 c4_i32_8
  let c4_i32_9 : BitVec 32 := 4#32
  let v12 : BitVec 32 := Scalar.remsi v11 c4_i32_9
  let c512_i32_211 : BitVec 32 := 512#32
  let v376 : BitVec 32 := Scalar.muli v12 c512_i32_211
  let v377 : Index := Scalar.indexCast v376
  let c0_212 : Index := 0#32
  ![v377.toNat, 0]
def k0_off13 (d0 : Dev nD) (c1_i32_5 : BitVec 32) : Fin 3 → Nat :=
  let c0_281 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c1_i32_5
  let c4_i32_6 : BitVec 32 := 4#32
  let v9 : BitVec 32 := Scalar.remsi v8 c4_i32_6
  let c512_i32_280 : BitVec 32 := 512#32
  let v511 : BitVec 32 := Scalar.muli v9 c512_i32_280
  let v512 : Index := Scalar.indexCast v511
  let c0_282 : Index := 0#32
  ![0, v512.toNat, 0]
def k0_off14 (d0 : Dev nD) : Fin 3 → Nat :=
  let c0_344 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v10 : BitVec 32 := Scalar.subi v2 c1_i32_7
  let c4_i32_8 : BitVec 32 := 4#32
  let v11 : BitVec 32 := Scalar.addi v10 c4_i32_8
  let c4_i32_9 : BitVec 32 := 4#32
  let v12 : BitVec 32 := Scalar.remsi v11 c4_i32_9
  let c512_i32_343 : BitVec 32 := 512#32
  let v628 : BitVec 32 := Scalar.muli v12 c512_i32_343
  let v629 : Index := Scalar.indexCast v628
  let c0_345 : Index := 0#32
  ![0, v629.toNat, 0]
def k0_off15 (d0 : Dev nD) (c0_i32_366 : BitVec 32) : Fin 3 → Nat :=
  let c0_370 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_365 : BitVec 32 := 1#32
  let v647 : BitVec 32 := Scalar.subi v2 c1_i32_365
  let v648 : BitVec 32 := Scalar.subi v647 c0_i32_366
  let c4_i32_367 : BitVec 32 := 4#32
  let v649 : BitVec 32 := Scalar.addi v648 c4_i32_367
  let c4_i32_368 : BitVec 32 := 4#32
  let v650 : BitVec 32 := Scalar.remsi v649 c4_i32_368
  let c512_i32_369 : BitVec 32 := 512#32
  let v651 : BitVec 32 := Scalar.muli v650 c512_i32_369
  let v652 : Index := Scalar.indexCast v651
  let c0_371 : Index := 0#32
  ![0, v652.toNat, 0]
def k0_dev7 (d0 : Dev nD) : Nat :=
  let c0_i32_392 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_391 : BitVec 32 := 1#32
  let v670 : BitVec 32 := Scalar.muli v7 c1_i32_391
  let v671 : BitVec 32 := Scalar.addi c0_i32_392 v670
  v671.toNat
def k0_off16 (d0 : Dev nD) (c0_i32_416 : BitVec 32) : Fin 3 → Nat :=
  let c0_420 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_415 : BitVec 32 := 1#32
  let v694 : BitVec 32 := Scalar.addi v2 c1_i32_415
  let v695 : BitVec 32 := Scalar.addi v694 c0_i32_416
  let c4_i32_417 : BitVec 32 := 4#32
  let v696 : BitVec 32 := Scalar.remsi v695 c4_i32_417
  let c512_i32_418 : BitVec 32 := 512#32
  let v697 : BitVec 32 := Scalar.muli v696 c512_i32_418
  let c256_i32_419 : BitVec 32 := 256#32
  let v698 : BitVec 32 := Scalar.addi v697 c256_i32_419
  let v699 : Index := Scalar.indexCast v698
  let c0_421 : Index := 0#32
  ![0, v699.toNat, 0]
def k0_dev8 (d0 : Dev nD) : Nat :=
  let c0_i32_434 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_433 : BitVec 32 := 1#32
  let v709 : BitVec 32 := Scalar.muli v5 c1_i32_433
  let v710 : BitVec 32 := Scalar.addi c0_i32_434 v709
  v710.toNat
def k0_off17 (d0 : Dev nD) (c1_i32_5 : BitVec 32) : Fin 3 → Nat :=
  let c1_499 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c1_i32_5
  let c4_i32_6 : BitVec 32 := 4#32
  let v9 : BitVec 32 := Scalar.remsi v8 c4_i32_6
  let c512_i32_498 : BitVec 32 := 512#32
  let v831 : BitVec 32 := Scalar.muli v9 c512_i32_498
  let v832 : Index := Scalar.indexCast v831
  let c0_500 : Index := 0#32
  ![1, v832.toNat, 0]
def k0_off18 (d0 : Dev nD) : Fin 3 → Nat :=
  let c1_562 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v10 : BitVec 32 := Scalar.subi v2 c1_i32_7
  let c4_i32_8 : BitVec 32 := 4#32
  let v11 : BitVec 32 := Scalar.addi v10 c4_i32_8
  let c4_i32_9 : BitVec 32 := 4#32
  let v12 : BitVec 32 := Scalar.remsi v11 c4_i32_9
  let c512_i32_561 : BitVec 32 := 512#32
  let v948 : BitVec 32 := Scalar.muli v12 c512_i32_561
  let v949 : Index := Scalar.indexCast v948
  let c0_563 : Index := 0#32
  ![1, v949.toNat, 0]
def k0_off19 (d0 : Dev nD) (c0_i32_584 : BitVec 32) : Fin 3 → Nat :=
  let c1_588 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_583 : BitVec 32 := 1#32
  let v967 : BitVec 32 := Scalar.subi v2 c1_i32_583
  let v968 : BitVec 32 := Scalar.subi v967 c0_i32_584
  let c4_i32_585 : BitVec 32 := 4#32
  let v969 : BitVec 32 := Scalar.addi v968 c4_i32_585
  let c4_i32_586 : BitVec 32 := 4#32
  let v970 : BitVec 32 := Scalar.remsi v969 c4_i32_586
  let c512_i32_587 : BitVec 32 := 512#32
  let v971 : BitVec 32 := Scalar.muli v970 c512_i32_587
  let v972 : Index := Scalar.indexCast v971
  let c0_589 : Index := 0#32
  ![1, v972.toNat, 0]
def k0_dev9 (d0 : Dev nD) : Nat :=
  let c0_i32_610 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_609 : BitVec 32 := 1#32
  let v990 : BitVec 32 := Scalar.muli v7 c1_i32_609
  let v991 : BitVec 32 := Scalar.addi c0_i32_610 v990
  v991.toNat
def k0_off20 (d0 : Dev nD) (c0_i32_634 : BitVec 32) : Fin 3 → Nat :=
  let c1_638 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_633 : BitVec 32 := 1#32
  let v1014 : BitVec 32 := Scalar.addi v2 c1_i32_633
  let v1015 : BitVec 32 := Scalar.addi v1014 c0_i32_634
  let c4_i32_635 : BitVec 32 := 4#32
  let v1016 : BitVec 32 := Scalar.remsi v1015 c4_i32_635
  let c512_i32_636 : BitVec 32 := 512#32
  let v1017 : BitVec 32 := Scalar.muli v1016 c512_i32_636
  let c256_i32_637 : BitVec 32 := 256#32
  let v1018 : BitVec 32 := Scalar.addi v1017 c256_i32_637
  let v1019 : Index := Scalar.indexCast v1018
  let c0_639 : Index := 0#32
  ![1, v1019.toNat, 0]
def k0_dev10 (d0 : Dev nD) : Nat :=
  let c0_i32_651 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_650 : BitVec 32 := 1#32
  let v1029 : BitVec 32 := Scalar.muli v5 c1_i32_650
  let v1030 : BitVec 32 := Scalar.addi c0_i32_651 v1029
  v1030.toNat
def k0_dev11 (d0 : Dev nD) : Nat :=
  let c0_i32_775 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_774 : BitVec 32 := 1#32
  let v1220 : BitVec 32 := Scalar.muli v7 c1_i32_774
  let v1221 : BitVec 32 := Scalar.addi c0_i32_775 v1220
  v1221.toNat
def k0_dev12 (d0 : Dev nD) : Nat :=
  let c0_i32_817 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_816 : BitVec 32 := 1#32
  let v1259 : BitVec 32 := Scalar.muli v5 c1_i32_816
  let v1260 : BitVec 32 := Scalar.addi c0_i32_817 v1259
  v1260.toNat
def k0_dev13 (d0 : Dev nD) : Nat :=
  let c0_i32_930 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_929 : BitVec 32 := 1#32
  let v1423 : BitVec 32 := Scalar.muli v7 c1_i32_929
  let v1424 : BitVec 32 := Scalar.addi c0_i32_930 v1423
  v1424.toNat
def k0_dev14 (d0 : Dev nD) : Nat :=
  let c0_i32_971 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_970 : BitVec 32 := 1#32
  let v1462 : BitVec 32 := Scalar.muli v5 c1_i32_970
  let v1463 : BitVec 32 := Scalar.addi c0_i32_971 v1462
  v1463.toNat
def k0_off21 (d0 : Dev nD) (c0_i32_1008 : BitVec 32) : Fin 3 → Nat :=
  let c0_i32_1022 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1007 : BitVec 32 := 1#32
  let v1501 : BitVec 32 := Scalar.addi v2 c1_i32_1007
  let v1502 : BitVec 32 := Scalar.subi v1501 c0_i32_1008
  let c4_i32_1009 : BitVec 32 := 4#32
  let v1503 : BitVec 32 := Scalar.addi v1502 c4_i32_1009
  let c4_i32_1010 : BitVec 32 := 4#32
  let v1504 : BitVec 32 := Scalar.remsi v1503 c4_i32_1010
  let c512_i32_1016 : BitVec 32 := 512#32
  let v1510 : BitVec 32 := Scalar.muli v1504 c512_i32_1016
  let c0_i32_1026 : BitVec 32 := 0#32
  ![0, v1510.toNat, 0]
def k0_dev15 (d0 : Dev nD) : Nat :=
  let c0_i32_1025 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1024 : BitVec 32 := 1#32
  let v1515 : BitVec 32 := Scalar.muli v7 c1_i32_1024
  let v1516 : BitVec 32 := Scalar.addi c0_i32_1025 v1515
  v1516.toNat
def k0_off22 (d0 : Dev nD) (c0_i32_1012 : BitVec 32) : Fin 3 → Nat :=
  let c0_i32_1061 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1011 : BitVec 32 := 1#32
  let v1505 : BitVec 32 := Scalar.subi v2 c1_i32_1011
  let v1506 : BitVec 32 := Scalar.addi v1505 c0_i32_1012
  let c4_i32_1013 : BitVec 32 := 4#32
  let v1507 : BitVec 32 := Scalar.addi v1506 c4_i32_1013
  let c4_i32_1014 : BitVec 32 := 4#32
  let v1508 : BitVec 32 := Scalar.remsi v1507 c4_i32_1014
  let c512_i32_1019 : BitVec 32 := 512#32
  let v1513 : BitVec 32 := Scalar.muli v1508 c512_i32_1019
  let c256_i32_1020 : BitVec 32 := 256#32
  let v1514 : BitVec 32 := Scalar.addi v1513 c256_i32_1020
  let c0_i32_1065 : BitVec 32 := 0#32
  ![0, v1514.toNat, 0]
def k0_dev16 (d0 : Dev nD) : Nat :=
  let c0_i32_1064 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_1063 : BitVec 32 := 1#32
  let v1554 : BitVec 32 := Scalar.muli v5 c1_i32_1063
  let v1555 : BitVec 32 := Scalar.addi c0_i32_1064 v1554
  v1555.toNat
def k0_off23 (d0 : Dev nD) (c0_i32_1100 : BitVec 32) : Fin 3 → Nat :=
  let c1_i32_1114 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1099 : BitVec 32 := 1#32
  let v1593 : BitVec 32 := Scalar.addi v2 c1_i32_1099
  let v1594 : BitVec 32 := Scalar.subi v1593 c0_i32_1100
  let c4_i32_1101 : BitVec 32 := 4#32
  let v1595 : BitVec 32 := Scalar.addi v1594 c4_i32_1101
  let c4_i32_1102 : BitVec 32 := 4#32
  let v1596 : BitVec 32 := Scalar.remsi v1595 c4_i32_1102
  let c512_i32_1108 : BitVec 32 := 512#32
  let v1602 : BitVec 32 := Scalar.muli v1596 c512_i32_1108
  let c0_i32_1118 : BitVec 32 := 0#32
  ![1, v1602.toNat, 0]
def k0_dev17 (d0 : Dev nD) : Nat :=
  let c0_i32_1117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1116 : BitVec 32 := 1#32
  let v1607 : BitVec 32 := Scalar.muli v7 c1_i32_1116
  let v1608 : BitVec 32 := Scalar.addi c0_i32_1117 v1607
  v1608.toNat
def k0_off24 (d0 : Dev nD) (c0_i32_1104 : BitVec 32) : Fin 3 → Nat :=
  let c1_i32_1153 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1103 : BitVec 32 := 1#32
  let v1597 : BitVec 32 := Scalar.subi v2 c1_i32_1103
  let v1598 : BitVec 32 := Scalar.addi v1597 c0_i32_1104
  let c4_i32_1105 : BitVec 32 := 4#32
  let v1599 : BitVec 32 := Scalar.addi v1598 c4_i32_1105
  let c4_i32_1106 : BitVec 32 := 4#32
  let v1600 : BitVec 32 := Scalar.remsi v1599 c4_i32_1106
  let c512_i32_1111 : BitVec 32 := 512#32
  let v1605 : BitVec 32 := Scalar.muli v1600 c512_i32_1111
  let c256_i32_1112 : BitVec 32 := 256#32
  let v1606 : BitVec 32 := Scalar.addi v1605 c256_i32_1112
  let c0_i32_1157 : BitVec 32 := 0#32
  ![1, v1606.toNat, 0]
def k0_dev18 (d0 : Dev nD) : Nat :=
  let c0_i32_1156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_1155 : BitVec 32 := 1#32
  let v1646 : BitVec 32 := Scalar.muli v5 c1_i32_1155
  let v1647 : BitVec 32 := Scalar.addi c0_i32_1156 v1646
  v1647.toNat
def k0_off25 (d0 : Dev nD) (c1_i32_5 : BitVec 32) (c0_i32_1160 : BitVec 32) : Fin 3 → Nat :=
  let c0_1161 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c1_i32_5
  let c4_i32_6 : BitVec 32 := 4#32
  let v9 : BitVec 32 := Scalar.remsi v8 c4_i32_6
  let c512_i32_1159 : BitVec 32 := 512#32
  let v1656 : BitVec 32 := Scalar.muli v9 c512_i32_1159
  let v1657 : BitVec 32 := Scalar.addi v1656 c0_i32_1160
  let v1658 : Index := Scalar.indexCast v1657
  let c0_1162 : Index := 0#32
  ![0, v1658.toNat, 0]
def k0_off26 (d0 : Dev nD) (c1_i32_5 : BitVec 32) (c0_i32_1160 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c1_i32_5
  let c4_i32_6 : BitVec 32 := 4#32
  let v9 : BitVec 32 := Scalar.remsi v8 c4_i32_6
  let c512_i32_1159 : BitVec 32 := 512#32
  let v1656 : BitVec 32 := Scalar.muli v9 c512_i32_1159
  let v1657 : BitVec 32 := Scalar.addi v1656 c0_i32_1160
  let v1662 : Index := Scalar.indexCast v1657
  let c0_1163 : Index := 0#32
  ![v1662.toNat, 0]
def k0_off27 (d0 : Dev nD) (c1_i32_5 : BitVec 32) (c0_i32_1165 : BitVec 32) : Fin 3 → Nat :=
  let c1_1166 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c1_i32_5
  let c4_i32_6 : BitVec 32 := 4#32
  let v9 : BitVec 32 := Scalar.remsi v8 c4_i32_6
  let c512_i32_1164 : BitVec 32 := 512#32
  let v1664 : BitVec 32 := Scalar.muli v9 c512_i32_1164
  let v1665 : BitVec 32 := Scalar.addi v1664 c0_i32_1165
  let v1666 : Index := Scalar.indexCast v1665
  let c0_1167 : Index := 0#32
  ![1, v1666.toNat, 0]
def k0_off28 (d0 : Dev nD) (c1_i32_5 : BitVec 32) (c0_i32_1165 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c1_i32_5
  let c4_i32_6 : BitVec 32 := 4#32
  let v9 : BitVec 32 := Scalar.remsi v8 c4_i32_6
  let c512_i32_1164 : BitVec 32 := 512#32
  let v1664 : BitVec 32 := Scalar.muli v9 c512_i32_1164
  let v1665 : BitVec 32 := Scalar.addi v1664 c0_i32_1165
  let v1670 : Index := Scalar.indexCast v1665
  let c512_1168 : Index := 512#32
  ![v1670.toNat, 512]
def k0_off29 (d0 : Dev nD) (c256_i32_1170 : BitVec 32) : Fin 3 → Nat :=
  let c0_1171 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v10 : BitVec 32 := Scalar.subi v2 c1_i32_7
  let c4_i32_8 : BitVec 32 := 4#32
  let v11 : BitVec 32 := Scalar.addi v10 c4_i32_8
  let c4_i32_9 : BitVec 32 := 4#32
  let v12 : BitVec 32 := Scalar.remsi v11 c4_i32_9
  let c512_i32_1169 : BitVec 32 := 512#32
  let v1672 : BitVec 32 := Scalar.muli v12 c512_i32_1169
  let v1673 : BitVec 32 := Scalar.addi v1672 c256_i32_1170
  let v1674 : Index := Scalar.indexCast v1673
  let c0_1172 : Index := 0#32
  ![0, v1674.toNat, 0]
def k0_off30 (d0 : Dev nD) (c256_i32_1170 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v10 : BitVec 32 := Scalar.subi v2 c1_i32_7
  let c4_i32_8 : BitVec 32 := 4#32
  let v11 : BitVec 32 := Scalar.addi v10 c4_i32_8
  let c4_i32_9 : BitVec 32 := 4#32
  let v12 : BitVec 32 := Scalar.remsi v11 c4_i32_9
  let c512_i32_1169 : BitVec 32 := 512#32
  let v1672 : BitVec 32 := Scalar.muli v12 c512_i32_1169
  let v1673 : BitVec 32 := Scalar.addi v1672 c256_i32_1170
  let v1678 : Index := Scalar.indexCast v1673
  let c0_1173 : Index := 0#32
  ![v1678.toNat, 0]
def k0_off31 (d0 : Dev nD) (c256_i32_1175 : BitVec 32) : Fin 3 → Nat :=
  let c1_1176 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v10 : BitVec 32 := Scalar.subi v2 c1_i32_7
  let c4_i32_8 : BitVec 32 := 4#32
  let v11 : BitVec 32 := Scalar.addi v10 c4_i32_8
  let c4_i32_9 : BitVec 32 := 4#32
  let v12 : BitVec 32 := Scalar.remsi v11 c4_i32_9
  let c512_i32_1174 : BitVec 32 := 512#32
  let v1680 : BitVec 32 := Scalar.muli v12 c512_i32_1174
  let v1681 : BitVec 32 := Scalar.addi v1680 c256_i32_1175
  let v1682 : Index := Scalar.indexCast v1681
  let c0_1177 : Index := 0#32
  ![1, v1682.toNat, 0]
def k0_off32 (d0 : Dev nD) (c256_i32_1175 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v10 : BitVec 32 := Scalar.subi v2 c1_i32_7
  let c4_i32_8 : BitVec 32 := 4#32
  let v11 : BitVec 32 := Scalar.addi v10 c4_i32_8
  let c4_i32_9 : BitVec 32 := 4#32
  let v12 : BitVec 32 := Scalar.remsi v11 c4_i32_9
  let c512_i32_1174 : BitVec 32 := 512#32
  let v1680 : BitVec 32 := Scalar.muli v12 c512_i32_1174
  let v1681 : BitVec 32 := Scalar.addi v1680 c256_i32_1175
  let v1686 : Index := Scalar.indexCast v1681
  let c512_1178 : Index := 512#32
  ![v1686.toNat, 512]
def k0_dev19 (d0 : Dev nD) : Nat :=
  let c0_i32_1212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1211 : BitVec 32 := 1#32
  let v1716 : BitVec 32 := Scalar.muli v7 c1_i32_1211
  let v1717 : BitVec 32 := Scalar.addi c0_i32_1212 v1716
  v1717.toNat
def k0_dev20 (d0 : Dev nD) : Nat :=
  let c0_i32_1234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_1233 : BitVec 32 := 1#32
  let v1740 : BitVec 32 := Scalar.muli v5 c1_i32_1233
  let v1741 : BitVec 32 := Scalar.addi c0_i32_1234 v1740
  v1741.toNat
def k0_dev21 (d0 : Dev nD) : Nat :=
  let c0_i32_1270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1269 : BitVec 32 := 1#32
  let v1778 : BitVec 32 := Scalar.muli v7 c1_i32_1269
  let v1779 : BitVec 32 := Scalar.addi c0_i32_1270 v1778
  v1779.toNat
def k0_dev22 (d0 : Dev nD) : Nat :=
  let c0_i32_1292 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_1291 : BitVec 32 := 1#32
  let v1802 : BitVec 32 := Scalar.muli v5 c1_i32_1291
  let v1803 : BitVec 32 := Scalar.addi c0_i32_1292 v1802
  v1803.toNat
def k0_off33 (d0 : Dev nD) (c0_i32_1296 : BitVec 32) : Fin 3 → Nat :=
  let c0_1297 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1295 : BitVec 32 := 512#32
  let v1812 : BitVec 32 := Scalar.muli v2 c512_i32_1295
  let v1813 : BitVec 32 := Scalar.addi v1812 c0_i32_1296
  let v1814 : Index := Scalar.indexCast v1813
  let c0_1298 : Index := 0#32
  ![0, v1814.toNat, 0]
def k0_off34 (d0 : Dev nD) (c0_i32_1296 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1295 : BitVec 32 := 512#32
  let v1812 : BitVec 32 := Scalar.muli v2 c512_i32_1295
  let v1813 : BitVec 32 := Scalar.addi v1812 c0_i32_1296
  let v1818 : Index := Scalar.indexCast v1813
  let c0_1299 : Index := 0#32
  ![v1818.toNat, 0]
def k0_off35 (d0 : Dev nD) (c0_i32_1301 : BitVec 32) : Fin 3 → Nat :=
  let c1_1302 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1300 : BitVec 32 := 512#32
  let v1820 : BitVec 32 := Scalar.muli v2 c512_i32_1300
  let v1821 : BitVec 32 := Scalar.addi v1820 c0_i32_1301
  let v1822 : Index := Scalar.indexCast v1821
  let c0_1303 : Index := 0#32
  ![1, v1822.toNat, 0]
def k0_off36 (d0 : Dev nD) (c0_i32_1301 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1300 : BitVec 32 := 512#32
  let v1820 : BitVec 32 := Scalar.muli v2 c512_i32_1300
  let v1821 : BitVec 32 := Scalar.addi v1820 c0_i32_1301
  let v1826 : Index := Scalar.indexCast v1821
  let c512_1304 : Index := 512#32
  ![v1826.toNat, 512]
def k0_dev23 (d0 : Dev nD) : Nat :=
  let c0_i32_1348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1347 : BitVec 32 := 1#32
  let v1872 : BitVec 32 := Scalar.muli v7 c1_i32_1347
  let v1873 : BitVec 32 := Scalar.addi c0_i32_1348 v1872
  v1873.toNat
def k0_dev24 (d0 : Dev nD) : Nat :=
  let c0_i32_1370 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_1369 : BitVec 32 := 1#32
  let v1896 : BitVec 32 := Scalar.muli v5 c1_i32_1369
  let v1897 : BitVec 32 := Scalar.addi c0_i32_1370 v1896
  v1897.toNat
def k0_dev25 (d0 : Dev nD) : Nat :=
  let c0_i32_1406 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1405 : BitVec 32 := 1#32
  let v1934 : BitVec 32 := Scalar.muli v7 c1_i32_1405
  let v1935 : BitVec 32 := Scalar.addi c0_i32_1406 v1934
  v1935.toNat
def k0_dev26 (d0 : Dev nD) : Nat :=
  let c0_i32_1428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_1427 : BitVec 32 := 1#32
  let v1958 : BitVec 32 := Scalar.muli v5 c1_i32_1427
  let v1959 : BitVec 32 := Scalar.addi c0_i32_1428 v1958
  v1959.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S512x1024 : Shape := ⟨2, ![512, 1024]⟩
abbrev S2048x32 : Shape := ⟨2, ![2048, 32]⟩
abbrev S_ : Shape := ⟨0, ![]⟩
abbrev S2048 : Shape := ⟨1, ![2048]⟩
abbrev S2048x1024 : Shape := ⟨2, ![2048, 1024]⟩
abbrev S2048x1x1 : Shape := ⟨3, ![2048, 1, 1]⟩
abbrev S2048x512x1024 : Shape := ⟨3, ![2048, 512, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x1, .i32⟩
  | .hbm, ⟨3, _⟩ => ⟨S32x512x1024, .f32⟩
  | .hbm, ⟨4, _⟩ => ⟨S512x1024, .f32⟩
  | .hbm, ⟨5, _⟩ => ⟨S2048x32, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x32, .f32⟩
  | .hbm, ⟨10, _⟩ => ⟨S2048x32, .f32⟩
  | .hbm, ⟨11, _⟩ => ⟨S2048x32, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x32, .f32⟩
  | .hbm, ⟨16, _⟩ => ⟨S2048x32, .f32⟩
  | .hbm, ⟨17, _⟩ => ⟨S2048x1024, .f32⟩
  | .hbm, ⟨18, _⟩ => ⟨S_, .i32⟩
  | .hbm, ⟨19, _⟩ => ⟨S2048x1, .i32⟩
  | .hbm, ⟨20, _⟩ => ⟨S2048x1, .i1⟩
  | .hbm, ⟨21, _⟩ => ⟨S_, .i32⟩
  | .hbm, ⟨22, _⟩ => ⟨S2048x1, .i32⟩
  | .hbm, ⟨23, _⟩ => ⟨S2048x1, .i32⟩
  | .hbm, ⟨24, _⟩ => ⟨S2048x1, .i32⟩
  | .hbm, ⟨25, _⟩ => ⟨S2048x1x1, .i32⟩
  | .hbm, ⟨26, _⟩ => ⟨S2048x1, .f32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S2048x1, .i32⟩
  | .hbm, ⟨36, _⟩ => ⟨S2048x512x1024, .f32⟩
  | .hbm, ⟨37, _⟩ => ⟨S2048x1024, .f32⟩
  | .hbm, ⟨38, _⟩ => ⟨S_, .i32⟩
  | .hbm, ⟨39, _⟩ => ⟨S2048x1, .i32⟩
  | .hbm, ⟨40, _⟩ => ⟨S2048x1, .i1⟩
  | .hbm, ⟨41, _⟩ => ⟨S_, .i32⟩
  | .hbm, ⟨42, _⟩ => ⟨S2048x1, .i32⟩
  | .hbm, ⟨43, _⟩ => ⟨S2048x1, .i1⟩
  | .hbm, ⟨44, _⟩ => ⟨S2048x1, .i1⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S_, .f32⟩
  | .hbm, ⟨49, _⟩ => ⟨S2048x1024, .i1⟩
  | .hbm, ⟨50, _⟩ => ⟨S2048x1024, .f32⟩
  | .hbm, ⟨51, _⟩ => ⟨S2048x1024, .f32⟩
  | .hbm, ⟨52, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]
-- ==== Proof.Common.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

/-!
# The four rings of the kernel

The kernel adds four partial products over the four devices with a reduce-scatter and hands the sums round with an
all-gather. Both run on four independent LANES at once: a direction `d` (0 sends to the next device, 1 to the previous
one) and a column half `w`. A lane works on 256-row pieces of the 2-by-2048-by-512 buffer, four of them on every device:
`row d c k` is the piece `k` chunks upstream of device `c`.

This file names the neighbours, the pieces and slots, the semaphores, what every piece holds at every step, and the
schedule of the semaphores: who signals what, and what comes with it. The values a device computes by itself are a
parameter `V` throughout.
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB := URounds (GSem nD τ sig) Bool
abbrev UU := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Neighbours -/

/-- The step of direction `d`: one device forward, or three. -/
abbrev fwd (d : Fin 2) : ℕ := if d = 0 then 1 else 3
abbrev bwd (d : Fin 2) : ℕ := if d = 0 then 3 else 1

set_option backward.proofsInPublic true in
/-- The device that direction `d` sends to. -/
def dn (d : Fin 2) (c : Dev nD) : Dev nD := ⟨(c.val + fwd d) % 4, Nat.mod_lt _ (by decide)⟩
set_option backward.proofsInPublic true in
/-- The device that direction `d` receives from. -/
def up (d : Fin 2) (c : Dev nD) : Dev nD := ⟨(c.val + bwd d) % 4, Nat.mod_lt _ (by decide)⟩

theorem up_dn (d : Fin 2) (c : Dev nD) : up d (dn d c) = c := by revert d c; decide
theorem dn_up (d : Fin 2) (c : Dev nD) : dn d (up d c) = c := by revert d c; decide
theorem up3 (d : Fin 2) (c : Dev nD) : up d (up d (up d c)) = dn d c := by revert d c; decide
theorem dn_one (c : Dev nD) : dn 1 c = up 0 c := rfl
theorem up_one (c : Dev nD) : up 1 c = dn 0 c := rfl

/-- Going round in direction `d` is a permutation of the devices. -/
def ring (d : Fin 2) : Dev nD ≃ Dev nD := ⟨dn d, up d, up_dn d, dn_up d⟩

/-- The chunk `k` steps upstream of `c`, and the piece of it that direction `d` carries. -/
abbrev ch (d : Fin 2) (c : Dev nD) (k : ℕ) : ℕ := (c.val + bwd d * k) % 4
set_option backward.proofsInPublic true in
def row (d : Fin 2) (c : Dev nD) (k : ℕ) : Fin 8 :=
  ⟨2 * ch d c k + d.val, by have := Nat.mod_lt (c.val + bwd d * k) (show 0 < 4 by decide); have := d.isLt; unfold ch; omega⟩

theorem row_dn (d : Fin 2) (c : Dev nD) (k : ℕ) (hk : k < 4) : row d (dn d c) (k + 1) = row d c k := by
  revert d c k; decide
theorem row_dn' (d : Fin 2) (c : Dev nD) (k : ℕ) (hk : k < 6) : row d (dn d c) ((k + 1) % 4) = row d c (k % 4) := by
  revert d c k; decide

/-! ## Pieces and slots -/

abbrev pB : Memref sig .tc .vmem S2x2048x512 .bf16 := Memref.whole cc0_scratch0
/-- The receive buffer of direction `d`. -/
@[reducible] def rB (d : Fin 2) : Memref sig .tc .vmem S3x2x256x512 .bf16 :=
  match d with
  | 0 => Memref.whole cc0_scratch1
  | 1 => Memref.whole cc0_scratch2

theorem p_inb (w : Fin 2) (r : Fin 8) : ∀ a, (![w.val, 256 * r.val, 0] : Fin 3 → ℕ) a + S1x256x512.size a ≤ S2x2048x512.size a := by
  revert w r; decide
theorem s_inb (s : Fin 3) (w : Fin 2) : ∀ a, (![s.val, w.val, 0, 0] : Fin 4 → ℕ) a + S1x1x256x512.size a ≤ S3x2x256x512.size a := by
  revert w s; decide

/-- The rectangle of piece `r` of column half `w`, and of slot `s` of a receive buffer. -/
abbrev pR (w : Fin 2) (r : Fin 8) : Rect S2x2048x512 := Rect.unit (s := S2x2048x512) ![w.val, 256 * r.val, 0] S1x256x512.size (p_inb w r)
abbrev sR (s : Fin 3) (w : Fin 2) : Rect S3x2x256x512 := Rect.unit (s := S3x2x256x512) ![s.val, w.val, 0, 0] S1x1x256x512.size (s_inb s w)

def pM (w : Fin 2) (r : Fin 8) : Memref sig .tc .vmem S256x512 .bf16 :=
  (pB.slice (pR w r) (fun _ => rfl)).squeeze S256x512 squeezes_S1x256x512_S256x512
def sM (d : Fin 2) (s : Fin 3) (w : Fin 2) : Memref sig .tc .vmem S256x512 .bf16 :=
  ((rB d).slice (sR s w) (fun _ => rfl)).squeeze S256x512 squeezes_S1x1x256x512_S256x512

theorem pM_eq {w : Fin 2} {r : Fin 8} {off : Fin 3 → ℕ} (h : off = ![w.val, 256 * r.val, 0])
    (hi : ∀ a, off a + S1x256x512.size a ≤ S2x2048x512.size a) (h1) (h2) :
    ((Memref.whole cc0_scratch0).slice (Rect.unit (s := S2x2048x512) off S1x256x512.size hi) h1).squeeze S256x512 h2 = pM w r := by
  subst h; rfl

/-- The credit of one transferred piece. -/
abbrev N : ℕ := (pM 0 0).view.dmaCredit
theorem N_pos : 0 < N := View.dmaCredit_pos _ (by decide)
theorem pM_credit (w : Fin 2) (r : Fin 8) : (pM w r).view.dmaCredit = N := rfl
theorem sM_credit (d : Fin 2) (s : Fin 3) (w : Fin 2) : (sM d s w).view.dmaCredit = N := by
  revert d; exact Fin.forall_fin_two.2 ⟨rfl, rfl⟩

/-! ## Semaphores and cells -/

abbrev barS : Sem sig := sig.barrier 0 rfl

/-- The number of a lane's step in the two arrays of 24 semaphores, and back. -/
abbrev ix (d w : Fin 2) (t : ℕ) : ℕ := (if t < 3 then (d.val * 2 + w.val) * 3 + t else 12 + (d.val * 2 + w.val) * 3 + (t - 3)) % 24
theorem ix_lt (d w : Fin 2) (t : ℕ) : ix d w t < 24 := Nat.mod_lt _ (by decide)
abbrev ixD (k : ℕ) : Fin 2 := if k % 12 < 6 then 0 else 1
abbrev ixW (k : ℕ) : Fin 2 := if k % 6 < 3 then 0 else 1
abbrev ixT (k : ℕ) : ℕ := if k < 12 then k % 3 else 3 + k % 3

set_option backward.proofsInPublic true in
def sQ (d w : Fin 2) (t : ℕ) : DmaSem sig := ⟨6 + ix d w t, by have := ix_lt d w t; show _ < 54; omega⟩
set_option backward.proofsInPublic true in
def vQ (d w : Fin 2) (t : ℕ) : DmaSem sig := ⟨30 + ix d w t, by have := ix_lt d w t; show _ < 54; omega⟩

abbrev barC (c : Dev nD) : GSem nD τ sig := ((c : Thread nD τ), .reg barS)
abbrev sC (d w : Fin 2) (t : ℕ) (c : Dev nD) : GSem nD τ sig := ((c : Thread nD τ), .dma (sQ d w t))
abbrev vC (d w : Fin 2) (t : ℕ) (c : Dev nD) : GSem nD τ sig := ((c : Thread nD τ), .dma (vQ d w t))

theorem ixD_ix (d w : Fin 2) (t : ℕ) (ht : t < 6) : ixD (ix d w t) = d := by revert d w t; decide
theorem ixW_ix (d w : Fin 2) (t : ℕ) (ht : t < 6) : ixW (ix d w t) = w := by revert d w t; decide
theorem ixT_ix (d w : Fin 2) (t : ℕ) (ht : t < 6) : ixT (ix d w t) = t := by revert d w t; decide

/-! ## Contents -/

abbrev PV (F : FTy → Type) : Type := FVec F S256x512 .bf16
variable (V : Dev nD → Fin 2 → Fin 2 → ℕ → PV F)

/-- What device `c` sends at step `t` of lane `(d, w)`: up to step 3 the running sum, then the finished sums as they
    pass by. -/
def M (d w : Fin 2) (t : ℕ) (c : Dev nD) : PV F :=
  match t with
  | 0 => V c d w 0
  | 1 => addf (V c d w 1) (V (up d c) d w 0)
  | 2 => addf (V c d w 2) (addf (V (up d c) d w 1) (V (up d (up d c)) d w 0))
  | 3 => addf (V c d w 3) (addf (V (up d c) d w 2) (addf (V (up d (up d c)) d w 1) (V (up d (up d (up d c))) d w 0)))
  | t + 4 => M d w (t + 3) (up d c)

theorem M_add (d w : Fin 2) (t : ℕ) (ht : t < 3) (c : Dev nD) : M V d w (t + 1) c = addf (V c d w (t + 1)) (M V d w t (up d c)) := by
  obtain rfl | rfl | rfl : t = 0 ∨ t = 1 ∨ t = 2 := by omega
  all_goals rfl
theorem M_pass (d w : Fin 2) (t : ℕ) (ht : 3 ≤ t) (c : Dev nD) : M V d w (t + 1) c = M V d w t (up d c) := by
  obtain ⟨t, rfl⟩ : ∃ u, t = u + 3 := ⟨t - 3, by omega⟩
  rfl

abbrev pc (c : Dev nD) (w : Fin 2) (r : Fin 8) (q : PosShare TreeShare) (X : PV F) : sProp 𝕄 := owns (c : Thread nD τ) (pM w r) q X
abbrev sl (c : Dev nD) (d : Fin 2) (s : Fin 3) (w : Fin 2) (X : PV F) : sProp 𝕄 := owns (c : Thread nD τ) (sM d s w) fullShare X
/-- A piece, or a slot, with contents that do not matter. -/
def pcE (c : Dev nD) (w : Fin 2) (r : Fin 8) : sProp 𝕄 := iprop(∃ X : PV F, pc c w r fullShare X)
def slE (c : Dev nD) (d : Fin 2) (s : Fin 3) (w : Fin 2) : sProp 𝕄 := iprop(∃ X : PV F, sl c d s w X)
/-- A whole receive buffer, contents not mattering. -/
def rbE (c : Dev nD) (d : Fin 2) : sProp 𝕄 := iprop(∃ f : Buf (Elt F) ((rB d).view.loc (c : Thread nD τ)), (rB d).view.loc (c : Thread nD τ) ↦{fullShare} f)

/-- The other devices' pieces that device `c` holds just before its step `n`: every transfer of the first three steps
    brings the sender's used-up pieces along, and the last three steps write into them. -/
def regs (d w : Fin 2) (n : ℕ) (c : Dev nD) : sProp 𝕄 :=
  match n with
  | 1 => pcE (F := F) (up d c) w (row d (up d c) 0)
  | 2 => iprop(pcE (F := F) (up d c) w (row d (up d c) 1) ∗ pcE (F := F) (up d (up d c)) w (row d (up d (up d c)) 0))
  | 3 => iprop(pcE (F := F) (dn d c) w (row d (dn d c) 0) ∗ pcE (F := F) (up d c) w (row d (up d c) 2) ∗ pcE (F := F) (up d (up d c)) w (row d (up d (up d c)) 1))
  | 4 => iprop(pcE (F := F) (dn d c) w (row d (dn d c) 1) ∗ pcE (F := F) (up d (up d c)) w (row d (up d (up d c)) 2))
  | 5 => pcE (F := F) (dn d c) w (row d (dn d c) 2)
  | _ => iprop(emp)

/-- Where step `t` lands on device `c`: a slot, later the piece itself. -/
def landed (d w : Fin 2) (t : ℕ) (c : Dev nD) (X : PV F) : sProp 𝕄 :=
  if t < 3 then sl c d (Fin.ofNat 3 t) w X else pc c w (row d c ((t + 1) % 4)) fullShare X

/-- What the receiver gets from its receive semaphore, and the sender back from its send semaphore. -/
def rPay (d w : Fin 2) (t : ℕ) (c : Dev nD) : sProp 𝕄 := iprop(landed d w t c (M V d w t (up d c)) ∗ regs d w (t + 1) c)
def sPay (d w : Fin 2) (t : ℕ) (c : Dev nD) : sProp 𝕄 :=
  if t < 3 then iprop(emp) else pc c w (row d c (t % 4)) fullShare.left (M V d w t c)

omit [FloatOps F] in
instance pcE_storable (c : Dev nD) (w r) : BI.Storable (upEmb : UEmb _ 𝕄) (pcE (F := F) c w r) := by unfold pcE; infer_instance
omit [FloatOps F] in
instance slE_storable (c : Dev nD) (d s w) : BI.Storable (upEmb : UEmb _ 𝕄) (slE (F := F) c d s w) := by unfold slE; infer_instance
omit [FloatOps F] in
instance rbE_storable (c : Dev nD) (d) : BI.Storable (upEmb : UEmb _ 𝕄) (rbE (F := F) c d) := by unfold rbE; infer_instance
omit [FloatOps F] in
instance regs_storable (d w n) (c : Dev nD) : BI.Storable (upEmb : UEmb _ 𝕄) (regs (F := F) d w n c) := by unfold regs; split <;> infer_instance
omit [FloatOps F] in
instance landed_storable (d w t) (c : Dev nD) (X) : BI.Storable (upEmb : UEmb _ 𝕄) (landed (F := F) d w t c X) := by unfold landed; split <;> infer_instance
instance rPay_storable (d w t) (c : Dev nD) : BI.Storable (upEmb : UEmb _ 𝕄) (rPay V d w t c) := by unfold rPay; infer_instance
instance sPay_storable (d w t) (c : Dev nD) : BI.Storable (upEmb : UEmb _ 𝕄) (sPay V d w t c) := by unfold sPay; split <;> infer_instance

/-! ## The schedule -/

/-- What comes with the two signals of a barrier: the next device (`true`) hands over the buffer in which it receives
    from here, and so does the previous device (`false`). -/
def barPay (c : Dev nD) (b : Bool) : sProp 𝕄 := if b then rbE (F := F) (dn 0 c) 0 else rbE (F := F) (dn 1 c) 1

def dmaPay (q : ℕ) (c : Dev nD) : sProp 𝕄 :=
  if q < 30 then sPay V (ixD (q - 6)) (ixW (q - 6)) (ixT (q - 6)) c else rPay V (ixD (q - 30)) (ixW (q - 30)) (ixT (q - 30)) c

abbrev IsBar (g : GSem nD τ sig) : Prop := g.1.2 = .tc ∧ g.2 = .reg barS
/-- The 48 DMA semaphores of the two arrays. -/
def own : SemLoc sig → Bool
  | .dma q => decide (6 ≤ q.val)
  | _ => false
abbrev IsXfer (g : GSem nD τ sig) : Prop := g.1.2 = .tc ∧ own g.2 = true

def Rd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ b := match g.2 with
    | .reg _ => barPay g.1.1 b
    | .dma q => dmaPay V q.val g.1.1
  amount_pos g _ _ _ := by
    by_cases h : g.2 = .reg barS
    · rw [if_pos h]; exact Nat.one_pos
    · rw [if_neg h]; exact N_pos

instance Rd_storable (g : GSem nD τ sig) (r : ℕ) (b : Bool) : BI.Storable (upEmb : UEmb _ 𝕄) ((Rd V).payload g r b) := by
  dsimp only [Rd]; split
  · unfold barPay; split <;> infer_instance
  · unfold dmaPay; split <;> infer_instance

omit [FloatOps F] in
theorem own_sQ (d w : Fin 2) (t : ℕ) : own (.dma (sQ d w t)) = true := decide_eq_true (Nat.le_add_right 6 _)
omit [FloatOps F] in
theorem own_vQ (d w : Fin 2) (t : ℕ) : own (.dma (vQ d w t)) = true := decide_eq_true (Nat.le_trans (by decide) (Nat.le_add_right 30 _))

section Tables
variable (c : Dev nD)

theorem duties_bar : (Rd V).duties (barC c) 0 = Finset.univ := by dsimp only [Rd]; exact if_pos ⟨rfl, rfl, rfl⟩
theorem duties_dma {q : DmaSem sig} (hq : own (.dma q) = true) : (Rd V).duties ((c : Thread nD τ), .dma q) 0 = {false} := by
  dsimp only [Rd]; rw [if_neg (fun h => by cases h.2.2)]; exact if_pos ⟨rfl, rfl, hq⟩
theorem duties_later (g : GSem nD τ sig) : ∀ r, 1 ≤ r → (Rd V).duties g r = ∅ :=
  fun r hr => by dsimp only [Rd]; rw [if_neg fun h => by omega, if_neg fun h => by omega]
theorem amount_bar (b : Bool) : (Rd V).amount (barC c) 0 b = 1 := by dsimp only [Rd]; exact if_pos rfl
theorem amount_dma (q : DmaSem sig) (b : Bool) : (Rd V).amount ((c : Thread nD τ), .dma q) 0 b = N := by
  dsimp only [Rd]; exact if_neg (fun h => by cases h)
theorem expect_bar : (Rd V).expect (barC c) 0 = 2 := by
  unfold Schedule.expect Schedule.amountOf
  rw [duties_bar, Finset.sum_congr rfl fun d _ => amount_bar V c d, Finset.sum_const, Finset.card_univ, Fintype.card_bool, smul_eq_mul]
theorem expect_dma {q : DmaSem sig} (hq : own (.dma q) = true) : (Rd V).expect ((c : Thread nD τ), .dma q) 0 = N := by
  unfold Schedule.expect Schedule.amountOf; rw [duties_dma V c hq, Finset.sum_singleton, amount_dma]
theorem payload_s (d w : Fin 2) (t : ℕ) (ht : t < 6) (b : Bool) : (Rd V).payload (sC d w t c) 0 b = sPay V d w t c := by
  have hq : (sQ d w t).val = 6 + ix d w t := rfl
  have hlt := ix_lt d w t
  dsimp only [Rd]; unfold dmaPay
  rw [hq, if_pos (by omega), Nat.add_sub_cancel_left, ixD_ix d w t ht, ixW_ix d w t ht, ixT_ix d w t ht]
theorem payload_v (d w : Fin 2) (t : ℕ) (ht : t < 6) (b : Bool) : (Rd V).payload (vC d w t c) 0 b = rPay V d w t c := by
  have hq : (vQ d w t).val = 30 + ix d w t := rfl
  dsimp only [Rd]; unfold dmaPay
  rw [hq, if_neg (by omega), Nat.add_sub_cancel_left, ixD_ix d w t ht, ixW_ix d w t ht, ixT_ix d w t ht]
theorem rest_bar : bigSep ((Rd V).duties (barC c) 0 \ ∅) (fun b => (Rd V).payload (barC c) 0 b)
    = iprop(rbE (F := F) (dn 1 c) 1 ∗ rbE (F := F) (dn 0 c) 0) := by
  rw [Finset.sdiff_empty, duties_bar, bigSep_univ_eq_bigSepL [false, true] (by decide) (by decide), bigSepL_cons_cons, bigSepL_singleton]
  rfl
theorem rest_dma {q : DmaSem sig} (hq : own (.dma q) = true) :
    bigSep ((Rd V).duties ((c : Thread nD τ), .dma q) 0 \ ∅) (fun b => (Rd V).payload ((c : Thread nD τ), .dma q) 0 b)
      = (Rd V).payload ((c : Thread nD τ), .dma q) 0 false := by
  rw [Finset.sdiff_empty, duties_dma V c hq, bigSep_singleton]

end Tables

/-! ## What each device owes, and the levels -/

/-- The transfers in program order: direction, column half, step. -/
abbrev Xf : Type := Fin 2 × Fin 2 × ℕ
def sends : List Xf :=
  [(0, 0, 0), (1, 0, 0), (0, 1, 0), (1, 1, 0), (0, 0, 1), (1, 0, 1), (0, 1, 1), (1, 1, 1), (0, 0, 2), (1, 0, 2), (0, 1, 2), (1, 1, 2),
    (0, 0, 3), (1, 0, 3), (0, 1, 3), (1, 1, 3), (0, 0, 4), (1, 0, 4), (0, 1, 4), (1, 1, 4), (0, 0, 5), (1, 0, 5), (0, 1, 5), (1, 1, 5)]

/-- The credit that device `c` still owes its neighbours' receive semaphores. -/
def owe (c : Dev nD) : List Xf → CellTallies nD τ sig Unit
  | [] => 0
  | x :: l => owe c l + tallyAt (vC x.1 x.2.1 x.2.2 (dn x.1 c)) () N

def O₁ (c : Dev nD) : CellTallies nD τ sig Unit := owe c sends + tallyAt (barC (dn 0 c)) () 1
def O₀ (c : Dev nD) : CellTallies nD τ sig Unit := O₁ c + tallyAt (barC (dn 1 c)) () 1

def L (g : GSem nD τ sig) : Finset Unit := if g.1.2 = .tc then {()} else ∅
/-- Send semaphores lowest, then the barrier, then the receive semaphores by step. -/
def lv (g : GSem nD τ sig) (_ : Unit) : ℕ := match g.2 with
  | .reg _ => 1
  | .dma q => if q.val < 30 then 0 else 2 + ixT (q.val - 30)

theorem L_of_ne (g : GSem nD τ sig) (h : g.1.2 ≠ .tc) : L g = ∅ := if_neg h
theorem L_tc (c : Dev nD) (sm : SemLoc sig) : L ((c : Thread nD τ), sm) = {()} := if_pos rfl
theorem lv_vC (d w : Fin 2) (t : ℕ) (ht : t < 6) (c : Dev nD) : lv (vC d w t c) () = 2 + t := by
  show (if 30 + ix d w t < 30 then 0 else 2 + ixT (30 + ix d w t - 30)) = 2 + t
  rw [if_neg (by omega), Nat.add_sub_cancel_left, ixT_ix d w t ht]
theorem lv_low (c : Dev nD) (q : DmaSem sig) (hq : q.val < 30) : lv ((c : Thread nD τ), .dma q) () = 0 := if_pos hq

theorem owe_pos {c : Dev nD} {l : List Xf} {g : GSem nD τ sig} {u : Unit} (h : 0 < owe c l g u) :
    ∃ x ∈ l, g = vC x.1 x.2.1 x.2.2 (dn x.1 c) := by
  induction l with
  | nil => exact absurd h (Nat.lt_irrefl 0)
  | cons x l ih =>
    by_cases hx : g = vC x.1 x.2.1 x.2.2 (dn x.1 c)
    · exact ⟨x, List.mem_cons_self, hx⟩
    · unfold owe at h
      rw [Pi.add_apply, Finsupp.add_apply, tallyAt_apply, if_neg (fun h' => hx h'.1), Nat.add_zero] at h
      obtain ⟨y, hy, e⟩ := ih h
      exact ⟨y, List.mem_cons_of_mem _ hy, e⟩

theorem O₀_pos {c : Dev nD} {g : GSem nD τ sig} {u : Unit} (h : 0 < O₀ c g u) :
    (∃ x ∈ sends, g = vC x.1 x.2.1 x.2.2 (dn x.1 c)) ∨ g = barC (dn 0 c) ∨ g = barC (dn 1 c) := by
  by_cases h0 : g = barC (dn 0 c)
  · exact Or.inr (Or.inl h0)
  by_cases h1 : g = barC (dn 1 c)
  · exact Or.inr (Or.inr h1)
  refine Or.inl (owe_pos (c := c) (u := u) ?_)
  unfold O₀ O₁ at h
  rw [Pi.add_apply, Finsupp.add_apply, Pi.add_apply, Finsupp.add_apply, tallyAt_apply, tallyAt_apply, if_neg (fun h' => h0 h'.1), if_neg (fun h' => h1 h'.1)] at h
  exact h

omit [FloatOps F] in
/-- A wait on a semaphore below every transfer still owed. -/
theorem mayWait (c : Dev nD) (sm : SemLoc sig) (l : List Xf) (n : ℕ) (hn : lv ((c : Thread nD τ), sm) () ≤ n)
    (hl : ∀ x ∈ l, x.2.2 < 6 ∧ n < 2 + x.2.2) : (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨x, -, rfl⟩ := owe_pos hg; exact Finset.mem_singleton_self _)
    (fun p hp => by rw [Finset.mem_singleton.mp hp]; exact hn)
    (fun g u hg => by obtain ⟨x, hx, rfl⟩ := owe_pos hg; rw [lv_vC _ _ _ (hl x hx).1]; exact (hl x hx).2)

theorem sends_lt : ∀ x ∈ sends, x.2.2 < 6 ∧ 1 < 2 + x.2.2 := by decide

omit [FloatOps F] in
/-- The staging copies' waits, before and after the body. -/
theorem mayWait_stage (c : Dev nD) (q : DmaSem sig) (hq : q.val < 30) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨x, -, rfl⟩ | rfl | rfl <;> exact Finset.mem_singleton_self _)
      (fun p hp => by rw [Finset.mem_singleton.mp hp]; exact (lv_low c q hq).le)
      (fun g u hg => by
        rcases O₀_pos hg with ⟨x, hx, rfl⟩ | rfl | rfl
        · rw [lv_vC _ _ _ (sends_lt x hx).1]; omega
        · exact Nat.one_pos
        · exact Nat.one_pos)
  · rw [MayWait_zero]; iintro -; iempintro

end Cert.Ring

end

end
-- ==== Proof.Lane.lean ====
module

public import proofs.«01_k».proof.Proof.Common
public import Idealize.ShloMosaic.Lib.MemrefSat

/-!
# One lane of the exchange, step by step

What a device holds of a lane before, during and after each of its six transfers, and the rules that take a transfer, a
wait on its send semaphore, and a wait on its receive semaphore from one of these states to the next.
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Dev nD → Fin 2 → Fin 2 → ℕ → PV F)

/-- The weakest precondition of a piece of device `c`'s program. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The cells' records -/

set_option backward.proofsInPublic true in
/-- The barrier semaphore and the 48 DMA semaphores, numbered. -/
def ksem (i : Fin 49) : SemLoc sig := if i.val = 0 then .reg barS else .dma ⟨5 + i.val, by have := i.isLt; show _ < 54; omega⟩
abbrev kcell (ck : Dev nD × Fin 49) : GSem nD τ sig := ((ck.1 : Thread nD τ), ksem ck.2)

/-- One cell's invariant, and that its first round is open. -/
def inv (g : GSem nD τ sig) : sProp 𝕄 := iprop(∃ κ : ℕ, cellInv ER (Rd V) κ g ∗ reached ER g 0)
instance inv_persistent (g : GSem nD τ sig) : BI.Persistent (inv V g) := by unfold inv; infer_instance
def Ctx : sProp 𝕄 := iprop((∃ κ : Dev nD × Fin 49 → ℕ, bigSep Finset.univ fun ck => iprop(cellInv ER (Rd V) (κ ck) (kcell ck) ∗ reached ER (kcell ck) 0)) ∗ levAts L lv)
instance Ctx_persistent : BI.Persistent (Ctx V) := by unfold Ctx; infer_instance

theorem ctx_inv (ck : Dev nD × Fin 49) : Ctx V ⊢ inv V (kcell ck) := by
  unfold Ctx inv
  iintro ⟨⟨%κ, H⟩, -⟩
  iexists κ ck
  have h : bigSep Finset.univ (fun ck => iprop(cellInv ER (Rd V) (κ ck) (kcell ck) ∗ reached ER (kcell ck) 0))
      ⊢ iprop(cellInv ER (Rd V) (κ ck) (kcell ck) ∗ reached ER (kcell ck) 0) := bigSep_elim (Finset.mem_univ ck)
  iapply h
  iexact H
theorem ctx_lev : Ctx V ⊢ levAts L lv := by unfold Ctx; iintro ⟨-, H⟩; iexact H

theorem ksem_s (d w : Fin 2) (t : ℕ) : ksem ⟨1 + ix d w t, by have := ix_lt d w t; omega⟩ = .dma (sQ d w t) := by
  unfold ksem; rw [if_neg (by simp)]
  exact congrArg SemLoc.dma (Fin.ext (by show 5 + (1 + ix d w t) = 6 + ix d w t; omega))
theorem ksem_v (d w : Fin 2) (t : ℕ) : ksem ⟨25 + ix d w t, by have := ix_lt d w t; omega⟩ = .dma (vQ d w t) := by
  unfold ksem; rw [if_neg (by simp)]
  exact congrArg SemLoc.dma (Fin.ext (by show 5 + (25 + ix d w t) = 30 + ix d w t; omega))
theorem inv_s (d w : Fin 2) (t : ℕ) (c : Dev nD) : Ctx V ⊢ inv V (sC d w t c) := by
  have h := ctx_inv V (c, ⟨1 + ix d w t, by have := ix_lt d w t; omega⟩)
  unfold kcell at h; rw [ksem_s] at h; exact h
theorem inv_v (d w : Fin 2) (t : ℕ) (c : Dev nD) : Ctx V ⊢ inv V (vC d w t c) := by
  have h := ctx_inv V (c, ⟨25 + ix d w t, by have := ix_lt d w t; omega⟩)
  unfold kcell at h; rw [ksem_v] at h; exact h
theorem inv_b (c : Dev nD) : Ctx V ⊢ inv V (barC c) := ctx_inv V (c, 0)

/-! ## The states of a lane -/

/-- A list of resources, one by one. -/
def sepL (P : ℕ → sProp 𝕄) : List ℕ → sProp 𝕄
  | [] => iprop(emp)
  | a :: l => iprop(P a ∗ sepL P l)
abbrev upTo : ℕ → List ℕ
  | 0 => []
  | n + 1 => n :: upTo n

theorem sepL_range (P : ℕ → sProp 𝕄) (n t : ℕ) (h : t < n) :
    sepL P ((List.range n).drop t) = iprop(P t ∗ sepL P ((List.range n).drop (t + 1))) := by
  rw [List.drop_eq_getElem_cons (by rw [List.length_range]; exact h), List.getElem_range]; rfl

section States
variable (d w : Fin 2) (t : ℕ) (c : Dev nD)

/-- The tokens and credits for step `t`: to pay one's own send duty and the neighbour's receive duty, and to wait. -/
def fuel1 : sProp 𝕄 := iprop(dutyTok ER (sC d w t c) 0 false ∗ dutyTok ER (vC d w t (dn d c)) 0 false
  ∗ atPos ER (sC d w t c) 0 ∅ 0 ∗ atPos ER (vC d w t c) 0 ∅ 0 ∗ cred (tallyAt (vC d w t c) () N))
def fuel : sProp 𝕄 := sepL (fun t => fuel1 (F := F) d w t c) ((List.range 6).drop t)
/-- The slots of the neighbour still to be written, own slots already read, finished pieces kept, closed semaphores. -/
def dsts : sProp 𝕄 := sepL (fun s => slE (F := F) (dn d c) d (Fin.ofNat 3 s) w) ((List.range 3).drop t)
def slots : sProp 𝕄 := sepL (fun s => slE (F := F) c d (Fin.ofNat 3 s) w) (upTo (min t 3))
def held : sProp 𝕄 := sepL (fun j => pc c w (row d c ((j + 3) % 4)) fullShare (M V d w (j + 3) c)) (upTo (t - 3))
def zeros : sProp 𝕄 := sepL (fun t => (iprop(semVal (sC d w t c) 0 ∗ semVal (vC d w t c) 0) : sProp 𝕄)) (upTo t)

/-- Before the transfer of step `t`. -/
def Ready : sProp 𝕄 := iprop(pc c w (row d c (t % 4)) fullShare (M V d w t c) ∗ fuel (F := F) d w t c ∗ dsts (F := F) d w t c
  ∗ regs (F := F) d w t c ∗ slots (F := F) d w t c ∗ held V d w t c ∗ zeros (F := F) d w t c)
/-- The half of the source that stays behind in the last three steps. -/
def stay : sProp 𝕄 := if t < 3 then iprop(emp) else pc c w (row d c (t % 4)) fullShare.right (M V d w t c)
/-- After it. -/
def Sent : sProp 𝕄 := iprop(stay V d w t c ∗ cred (tallyAt (sC d w t c) () N) ∗ atPos ER (sC d w t c) 0 ∅ 0
  ∗ atPos ER (vC d w t c) 0 ∅ 0 ∗ cred (tallyAt (vC d w t c) () N) ∗ fuel (F := F) d w (t + 1) c ∗ dsts (F := F) d w (t + 1) c
  ∗ slots (F := F) d w t c ∗ held V d w t c ∗ zeros (F := F) d w t c)
/-- After the wait on the send semaphore. -/
def Half : sProp 𝕄 := iprop(semVal (sC d w t c) 0 ∗ atPos ER (vC d w t c) 0 ∅ 0 ∗ cred (tallyAt (vC d w t c) () N)
  ∗ fuel (F := F) d w (t + 1) c ∗ dsts (F := F) d w (t + 1) c ∗ slots (F := F) d w t c ∗ held V d w (t + 1) c ∗ zeros (F := F) d w t c)
/-- After the wait on the receive semaphore, in the first three steps: the slot is full. -/
def Got : sProp 𝕄 := iprop(sl c d (Fin.ofNat 3 t) w (M V d w t (up d c)) ∗ fuel (F := F) d w (t + 1) c ∗ dsts (F := F) d w (t + 1) c
  ∗ regs (F := F) d w (t + 1) c ∗ slots (F := F) d w t c ∗ held V d w (t + 1) c ∗ zeros (F := F) d w (t + 1) c)

theorem fuel_eq (ht : t < 6) : fuel (F := F) d w t c = iprop(fuel1 (F := F) d w t c ∗ fuel (F := F) d w (t + 1) c) := sepL_range _ 6 t ht
theorem dsts_eq (ht : t < 3) : dsts (F := F) d w t c = iprop(slE (F := F) (dn d c) d (Fin.ofNat 3 t) w ∗ dsts (F := F) d w (t + 1) c) := sepL_range _ 3 t ht
theorem dsts_high (ht : 3 ≤ t) : dsts (F := F) d w (t + 1) c = dsts (F := F) d w t c := by
  unfold dsts; rw [List.drop_eq_nil_of_le (by rw [List.length_range]; omega), List.drop_eq_nil_of_le (by rw [List.length_range]; exact ht)]
theorem slots_low (ht : t < 3) : slots (F := F) d w (t + 1) c = iprop(slE (F := F) c d (Fin.ofNat 3 t) w ∗ slots (F := F) d w t c) := by
  unfold slots; rw [Nat.min_eq_left (show t + 1 ≤ 3 by omega), Nat.min_eq_left (show t ≤ 3 by omega)]; rfl
theorem slots_high (ht : 3 ≤ t) : slots (F := F) d w (t + 1) c = slots (F := F) d w t c := by
  unfold slots; rw [Nat.min_eq_right (show 3 ≤ t + 1 by omega), Nat.min_eq_right ht]
theorem held_low (ht : t < 3) : held V d w (t + 1) c = held V d w t c := by
  unfold held; rw [Nat.sub_eq_zero_of_le (show t + 1 ≤ 3 by omega), Nat.sub_eq_zero_of_le (show t ≤ 3 by omega)]
theorem held_high (ht : 3 ≤ t) : held V d w (t + 1) c = iprop(pc c w (row d c (t % 4)) fullShare (M V d w t c) ∗ held V d w t c) := by
  obtain ⟨u, rfl⟩ : ∃ u, t = u + 3 := ⟨t - 3, by omega⟩
  unfold held; rw [show u + 3 + 1 - 3 = u + 1 by omega, show u + 3 - 3 = u by omega]; rfl
theorem zeros_eq : zeros (F := F) d w (t + 1) c = iprop((semVal (sC d w t c) 0 ∗ semVal (vC d w t c) 0) ∗ zeros (F := F) d w t c) := rfl

theorem dn_dn (d : Fin 2) (c : Dev nD) : dn d (dn d c) = up d (up d c) := by revert d c; decide

theorem regs_1 : regs (F := F) d w 1 c = pcE (up d c) w (row d (up d c) 0) := rfl
theorem regs_2 : regs (F := F) d w 2 c = iprop(pcE (up d c) w (row d (up d c) 1) ∗ pcE (up d (up d c)) w (row d (up d (up d c)) 0)) := rfl
theorem regs_3 : regs (F := F) d w 3 c = iprop(pcE (dn d c) w (row d (dn d c) 0) ∗ pcE (up d c) w (row d (up d c) 2)
    ∗ pcE (up d (up d c)) w (row d (up d (up d c)) 1)) := rfl
theorem regs_4 : regs (F := F) d w 4 c = iprop(pcE (dn d c) w (row d (dn d c) 1) ∗ pcE (up d (up d c)) w (row d (up d (up d c)) 2)) := rfl
theorem regs_5 : regs (F := F) d w 5 c = pcE (dn d c) w (row d (dn d c) 2) := rfl
theorem regs_6 : regs (F := F) d w 6 c = iprop(emp) := rfl

/-- The regions carried along in the first three steps, and the one written in the last three. -/
theorem regs_add (ht : t < 3) : iprop(regs (F := F) d w t c ∗ pcE (F := F) c w (row d c t)) ⊢ regs (F := F) d w (t + 1) (dn d c) := by
  obtain rfl | rfl | rfl : t = 0 ∨ t = 1 ∨ t = 2 := by omega
  · rw [show (0 + 1 : ℕ) = 1 from rfl, regs_1, up_dn]; iintro ⟨-, H⟩; iexact H
  · rw [show (1 + 1 : ℕ) = 2 from rfl, regs_1, regs_2, up_dn]; iintro ⟨H1, H2⟩; isplitl [H2]; · iexact H2
    iexact H1
  · rw [show (2 + 1 : ℕ) = 3 from rfl, regs_2, regs_3, up_dn, dn_dn]; iintro ⟨⟨H1, H3⟩, H2⟩; isplitl [H3]; · iexact H3
    isplitl [H2]; · iexact H2
    iexact H1
theorem regs_take (h3 : 3 ≤ t) (ht : t < 6) :
    regs (F := F) d w t c ⊢ iprop(pcE (F := F) (dn d c) w (row d (dn d c) ((t + 1) % 4)) ∗ regs (F := F) d w (t + 1) (dn d c)) := by
  obtain rfl | rfl | rfl : t = 3 ∨ t = 4 ∨ t = 5 := by omega
  · rw [show ((3 + 1) % 4 : ℕ) = 0 from rfl, show (3 + 1 : ℕ) = 4 from rfl, regs_3, regs_4, up_dn, dn_dn]
    iintro ⟨H0, H1, H2⟩; isplitl [H0]; · iexact H0
    isplitl [H2]; · iexact H2
    iexact H1
  · rw [show ((4 + 1) % 4 : ℕ) = 1 from rfl, show (4 + 1 : ℕ) = 5 from rfl, regs_4, regs_5, dn_dn]
  · rw [show ((5 + 1) % 4 : ℕ) = 2 from rfl, show (5 + 1 : ℕ) = 6 from rfl, regs_5, regs_6]
    iintro H0; isplitl [H0]; · iexact H0
    iempintro

/-- After the addition a lane is ready for its next transfer. -/
theorem got_ready (ht : t < 3) : iprop(Got V d w t c ∗ pc c w (row d c (t + 1)) fullShare (addf (V c d w (t + 1)) (M V d w t (up d c)))) ⊢ Ready V d w (t + 1) c := by
  unfold Got Ready
  rw [slots_low d w t c ht, M_add V d w t ht c, Nat.mod_eq_of_lt (show t + 1 < 4 by omega)]
  iintro ⟨⟨Hs, Hf, Hd, Hr, Hsl, Hh, Hz⟩, Hp⟩
  isplitl [Hp]; · iexact Hp
  isplitl [Hf]; · iexact Hf
  isplitl [Hd]; · iexact Hd
  isplitl [Hr]; · iexact Hr
  isplitl [Hs Hsl]
  · isplitl [Hs]
    · unfold slE; iexists _; iexact Hs
    · iexact Hsl
  isplitl [Hh]; · iexact Hh
  iexact Hz

end States

/-! ## Owing -/

/-- Device `c` owes what its transfers from the `n`-th on will pay. -/
def Ow (n : ℕ) (c : Dev nD) : sProp 𝕄 := iprop(∃ W, owes (c : Thread nD τ) (owe c (sends.drop n)) W)

/-! ## The steps -/

/-- Elements just written are owned at what was written. -/
theorem owns_written (c : Dev nD) (m : Memref sig .tc .vmem S256x512 .bf16) (f : Buf (Elt F) (m.view.loc (c : Thread nD τ))) (X : PV F) :
    (m.view.loc (c : Thread nD τ) ↦[m.view.set]{fullShare} (m.view.write (Elt F) f X Finset.univ)) ⊢ (owns (c : Thread nD τ) m fullShare X : sProp 𝕄) := by
  unfold owns
  iintro H
  iexists m.view.write (Elt F) f X Finset.univ
  isplitr
  · ipureintro; exact View.read_write_univ _ _
  · iexact H

section Steps
variable (d w : Fin 2) (t : ℕ) (c : Dev nD) (n : ℕ)

theorem sQ_dut : false ∈ (Rd V).duties (sC d w t c) 0 := by rw [duties_dma V c (own_sQ d w t)]; exact Finset.mem_singleton_self _
theorem vQ_dut : false ∈ (Rd V).duties (vC d w t c) 0 := by rw [duties_dma V c (own_vQ d w t)]; exact Finset.mem_singleton_self _

/-- A transfer into the next device's slot. -/
theorem send_slot (ht : t < 3) (hl : sends.drop n = (d, w, t) :: sends.drop (n + 1)) (p : Dev nD) (hp : p = dn d c)
    {src dst : Memref sig .tc .vmem S256x512 .bf16} (hs : src = pM w (row d c t)) (hd : dst = sM d (Fin.ofNat 3 t) w)
    {qs qv : DmaSem sig} (hqs : qs = sQ d w t) (hqv : qv = vQ d w t)
    {hsc : dst.view.ref.isScScratch = false} {hsrc : src.view.WordExact} {hdst : dst.view.WordExact}
    {hsem : DmaTarget.Typed .vmem (.dma qv) (.remote (Dev.tc p : Thread nD τ) dst (.dma qs) hsc)}
    {α : Type} {Q : α → sProp 𝕄} {k : PUnit → Prog (TpuEff nD τ sig (Elt F) Λ₀ .tc) α} :
    iprop(Ctx V ∗ Ready V d w t c ∗ Ow n c)
      ⊢ iprop(((Sent V d w t c ∗ Ow (n + 1) c) -∗ WP c (k ⟨⟩) Q)
          -∗ WP c (.op (.enqueueDma src (.remote (Dev.tc p : Thread nD τ) dst (.dma qs) hsc) (.dma qv) hsrc hdst hsem) k) Q) := by
  subst hp hs hd hqs hqv
  unfold Ready Ow
  rw [hl, fuel_eq d w t c (by omega), dsts_eq d w t c ht, Nat.mod_eq_of_lt (show t < 4 by omega)]
  unfold fuel1 slE
  iintro ⟨#HC, ⟨Hp, ⟨⟨Ht1, Ht2, Ha1, Ha2, Hc⟩, Hf⟩, ⟨⟨%X, Hd⟩, Hds⟩, Hr, Hsl, Hh, Hz⟩, ⟨%W, HO⟩⟩ Hk
  ihave Hi1 := (inv_s V d w t c) $$ HC
  ihave Hi2 := (inv_v V d w t (dn d c)) $$ HC
  unfold inv
  icases Hi1 with ⟨%κ₁, #HI1, #HR1⟩
  icases Hi2 with ⟨%κ₂, #HI2, #HR2⟩
  unfold pc sl owns
  icases Hp with ⟨%fs, %hfs, Hp⟩
  icases Hd with ⟨%fd, %hfd, Hd⟩
  iapply (Rounds.wp_send_landing_pointsTo_with 𝒱₀ ER (Rd V) (c : Thread nD τ) none (κ₁ := κ₁) (κ₂ := κ₂) (r₁ := 0) (r₂ := 0) (d₁ := false) (d₂ := false)
      (q := fullShare) (fs := fs) (fd := fd) (F := regs (F := F) d w t c) (sQ_dut V d w t c) (vQ_dut V d w t (dn d c)) () () N (sM_credit d _ w)
      (amount_dma V c _ _) (amount_dma V (dn d c) _ _) (owe c (sends.drop (n + 1))) rfl (W := W)
      (by rw [payload_s V c d w t (by omega)]; unfold sPay; rw [if_pos ht])
      (by
        rw [payload_v V (dn d c) d w t (by omega)]; unfold rPay landed; rw [up_dn, ← hfs, if_pos ht]
        refine BIBase.Entails.trans (Q := iprop(sl (dn d c) d (Fin.ofNat 3 t) w ((pM w (row d c t)).view.read (Elt F) fs) ∗ (regs (F := F) d w t c ∗ pcE (F := F) c w (row d c t)))) ?_ (sep_mono_right (regs_add d w t c ht))
        · iintro ⟨⟨H1, H2⟩, H3⟩
          isplitl [H1]
          · iapply (owns_written (dn d c) (sM d (Fin.ofNat 3 t) w) fd ((pM w (row d c t)).view.read (Elt F) fs)); iexact H1
          isplitl [H2]; · iexact H2
          unfold pcE; iexists _; iapply (owns_intro _ _ _ fs); iexact H3))
    $$ [Hp Hd Hr HO Ht1 Ht2]
  · isplitr; · iexact HI1
    isplitr; · iexact HI2
    isplitl [Hp]; · iexact Hp
    isplitl [Hd Hr]
    · isplitl [Hd]; · iexact Hd
      iexact Hr
    isplitl [HO]; · iexact HO
    isplitl [Ht1]; · iexact Ht1
    isplitr; · iexact HR1
    isplitl [Ht2]; · iexact Ht2
    iexact HR2
  iintro ⟨Hcs, HO⟩
  iapply Hk
  isplitr [HO]
  · unfold Sent stay
    rw [if_pos ht]
    isplitr; · iempintro
    isplitl [Hcs]; · iexact Hcs
    isplitl [Ha1]; · iexact Ha1
    isplitl [Ha2]; · iexact Ha2
    isplitl [Hc]; · iexact Hc
    isplitl [Hf]; · iexact Hf
    isplitl [Hds]; · iexact Hds
    isplitl [Hsl]; · iexact Hsl
    isplitl [Hh]; · iexact Hh
    iexact Hz
  · iexists W; iexact HO

/-- A transfer into the next device's piece. -/
theorem send_piece (h3 : 3 ≤ t) (ht : t < 6) (hl : sends.drop n = (d, w, t) :: sends.drop (n + 1)) (p : Dev nD) (hp : p = dn d c)
    {src dst : Memref sig .tc .vmem S256x512 .bf16} (hs : src = pM w (row d c (t % 4))) (hd : dst = pM w (row d c (t % 4)))
    {qs qv : DmaSem sig} (hqs : qs = sQ d w t) (hqv : qv = vQ d w t)
    {hsc : dst.view.ref.isScScratch = false} {hsrc : src.view.WordExact} {hdst : dst.view.WordExact}
    {hsem : DmaTarget.Typed .vmem (.dma qv) (.remote (Dev.tc p : Thread nD τ) dst (.dma qs) hsc)}
    {α : Type} {Q : α → sProp 𝕄} {k : PUnit → Prog (TpuEff nD τ sig (Elt F) Λ₀ .tc) α} :
    iprop(Ctx V ∗ Ready V d w t c ∗ Ow n c)
      ⊢ iprop(((Sent V d w t c ∗ Ow (n + 1) c) -∗ WP c (k ⟨⟩) Q)
          -∗ WP c (.op (.enqueueDma src (.remote (Dev.tc p : Thread nD τ) dst (.dma qs) hsc) (.dma qv) hsrc hdst hsem) k) Q) := by
  have hrow := (row_dn' d c t ht).symm
  subst hp hs hqs hqv
  rw [hrow] at hd; subst hd
  unfold Ready Ow
  rw [hl, fuel_eq d w t c (by omega)]
  unfold fuel1
  iintro ⟨#HC, ⟨Hp, ⟨⟨Ht1, Ht2, Ha1, Ha2, Hc⟩, Hf⟩, Hds, Hr, Hsl, Hh, Hz⟩, ⟨%W, HO⟩⟩ Hk
  ihave Hi1 := (inv_s V d w t c) $$ HC
  ihave Hi2 := (inv_v V d w t (dn d c)) $$ HC
  unfold inv
  icases Hi1 with ⟨%κ₁, #HI1, #HR1⟩
  icases Hi2 with ⟨%κ₂, #HI2, #HR2⟩
  ihave Hr' := (regs_take d w t c h3 ht) $$ Hr
  unfold pcE
  icases Hr' with ⟨⟨%X, Hd⟩, Hr⟩
  have hh : pc c w (row d c (t % 4)) fullShare (M V d w t c) ⊢ iprop(pc c w (row d c (t % 4)) fullShare.left (M V d w t c) ∗ pc c w (row d c (t % 4)) fullShare.right (M V d w t c)) := by
    iintro H; iapply (owns_halves (c : Thread nD τ) (pM w (row d c (t % 4))) fullShare (M V d w t c)).1; iexact H
  ihave Hp' := hh $$ Hp
  icases Hp' with ⟨Hp, HpR⟩
  unfold pc owns
  icases Hp with ⟨%fs, %hfs, Hp⟩
  icases Hd with ⟨%fd, %hfd, Hd⟩
  iapply (Rounds.wp_send_pointsTo_with 𝒱₀ ER (Rd V) (c : Thread nD τ) none (κ₁ := κ₁) (κ₂ := κ₂) (r₁ := 0) (r₂ := 0) (d₁ := false) (d₂ := false)
      (fs := fs) (fd := fd) (F := regs (F := F) d w (t + 1) (dn d c)) (sQ_dut V d w t c) (vQ_dut V d w t (dn d c)) () () N (pM_credit _ _)
      (amount_dma V c _ _) (amount_dma V (dn d c) _ _) (owe c (sends.drop (n + 1))) rfl (W := W)
      (by
        rw [payload_s V c d w t ht]; unfold sPay; rw [if_neg (by omega), ← hfs]
        exact owns_intro _ _ _ fs)
      (by
        rw [payload_v V (dn d c) d w t ht]; unfold rPay landed; rw [up_dn, ← hfs, if_neg (by omega)]
        iintro ⟨H1, H2⟩
        isplitl [H1]
        · iapply (owns_written (dn d c) (pM w (row d (dn d c) ((t + 1) % 4))) fd ((pM w (row d c (t % 4))).view.read (Elt F) fs)); iexact H1
        iexact H2))
    $$ [Hp Hd Hr HO Ht1 Ht2]
  · isplitr; · iexact HI1
    isplitr; · iexact HI2
    isplitl [Hp]; · iexact Hp
    isplitl [Hd Hr]
    · isplitl [Hd]; · iexact Hd
      iexact Hr
    isplitl [HO]; · iexact HO
    isplitl [Ht1]; · iexact Ht1
    isplitr; · iexact HR1
    isplitl [Ht2]; · iexact Ht2
    iexact HR2
  iintro ⟨Hcs, HO⟩
  iapply Hk
  isplitr [HO]
  · unfold Sent stay
    rw [if_neg (by omega), dsts_high d w t c h3]
    isplitl [HpR]; · unfold pc owns; iexact HpR
    isplitl [Hcs]; · iexact Hcs
    isplitl [Ha1]; · iexact Ha1
    isplitl [Ha2]; · iexact Ha2
    isplitl [Hc]; · iexact Hc
    isplitl [Hf]; · iexact Hf
    isplitl [Hds]; · iexact Hds
    isplitl [Hsl]; · iexact Hsl
    isplitl [Hh]; · iexact Hh
    iexact Hz
  · iexists W; iexact HO

/-- A wait for one transfer's credit: the cell is closed and its payload taken. -/
theorem wait_core (q : DmaSem sig) (hq : own (.dma q) = true) (O : CellTallies nD τ sig Unit) (W : Waits sig Unit) (κ : ℕ)
    {src dst : Memref sig .tc .vmem S256x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(cellInv ER (Rd V) κ ((c : Thread nD τ), .dma q) ∗ cred (tallyAt ((c : Thread nD τ), SemLoc.dma q) () N) ∗ owes (c : Thread nD τ) O W
        ∗ MayWait (c : Thread nD τ) (.dma q) () O ∗ atPos ER ((c : Thread nD τ), .dma q) 0 ∅ 0)
      ⊢ iprop((((∃ W, owes (c : Thread nD τ) O W) ∗ semVal ((c : Thread nD τ), .dma q) 0
            ∗ (Rd V).payload ((c : Thread nD τ), .dma q) 0 false) -∗ WP c (k ⟨⟩) Q)
          -∗ WP c (.op (.waitDma2 q src dst hsrc hdst) k) Q) := by
  iintro ⟨#HI, Hc, HO, HM, Hat⟩ Hk
  iapply (Rounds.wp_wait_rest_token 𝒱₀ ER (Rd V) (c : Thread nD τ) none (κ := κ)
      (wpE_waitDma2_eq 𝒱₀ (c : Thread nD τ) none Set.univ) (Set.mem_univ _) () (O := O) (W := W) (R := 0) (m := 0) (T := ∅)
      (by rw [Nat.zero_add, hN, expect_dma V c hq])) $$ [Hc HO HM Hat]
  · isplitr; · iexact HI
    isplitl [Hc]; · iexact Hc
    isplitl [HO]; · iexact HO
    isplitl [HM]; · iexact HM
    iexact Hat
  iintro ⟨HO, Hat, -, Hpay⟩
  imod (Rounds.cell_close ER (Rd V) (Set.mem_univ κ) (fun h => h) (R := 0 + 1) (duties_later V _)) $$ [Hat] with Hz
  · isplitr; · iexact HI
    iexact Hat
  iapply Hk
  isplitl [HO]; · iexists _; iexact HO
  isplitl [Hz]; · iexact Hz
  iapply (Entails.of_eq (rest_dma V c hq)); iexact Hpay

theorem sQ_low (ht : t < 6) : (sQ d w t).val < 30 := by have := ix_lt d w t; show 6 + ix d w t < 30; omega

/-- With the send semaphore the lent half of the source comes back. -/
theorem held_step : iprop(stay V d w t c ∗ sPay V d w t c ∗ held V d w t c) ⊢ held V d w (t + 1) c := by
  unfold sPay stay
  by_cases h3 : t < 3
  · rw [held_low V d w t c h3, if_pos h3, if_pos h3]; iintro ⟨-, -, H⟩; iexact H
  · rw [held_high V d w t c (by omega), if_neg h3, if_neg h3]
    iintro ⟨H1, H2, H3⟩
    isplitl [H1 H2]
    · iapply (owns_halves (c : Thread nD τ) (pM w (row d c (t % 4))) fullShare (M V d w t c)).2
      isplitl [H2]; · iexact H2
      iexact H1
    · iexact H3

/-- The wait on the send semaphore. -/
theorem wait_send (ht : t < 6) (hl : ∀ x ∈ sends.drop n, x.2.2 < 6 ∧ 1 < 2 + x.2.2) {q : DmaSem sig} (hq : q = sQ d w t)
    {src dst : Memref sig .tc .vmem S256x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(Ctx V ∗ Sent V d w t c ∗ Ow n c)
      ⊢ iprop(((Half V d w t c ∗ Ow n c) -∗ WP c (k ⟨⟩) Q) -∗ WP c (.op (.waitDma2 q src dst hsrc hdst) k) Q) := by
  subst hq
  unfold Sent Ow
  iintro ⟨#HC, ⟨Hst, Hcs, Ha1, Ha2, Hc, Hf, Hds, Hsl, Hh, Hz⟩, ⟨%W, HO⟩⟩ Hk
  ihave Hi1 := (inv_s V d w t c) $$ HC
  ihave Hlev := (ctx_lev V) $$ HC
  unfold inv
  icases Hi1 with ⟨%κ₁, #HI1, -⟩
  iapply (wait_core V c (sQ d w t) (own_sQ d w t) (owe c (sends.drop n)) W κ₁ hN) $$ [Hcs HO Ha1 Hlev]
  · isplitr; · iexact HI1
    isplitl [Hcs]; · iexact Hcs
    isplitl [HO]; · iexact HO
    isplitl [Hlev]
    · iapply (mayWait c _ (sends.drop n) 1 ((lv_low c _ (sQ_low d w t ht)).trans_le (Nat.zero_le 1)) hl); iexact Hlev
    iexact Ha1
  iintro ⟨HO, Hzs, Hpay⟩
  iapply Hk
  isplitr [HO]
  · unfold Half
    isplitl [Hzs]; · iexact Hzs
    isplitl [Ha2]; · iexact Ha2
    isplitl [Hc]; · iexact Hc
    isplitl [Hf]; · iexact Hf
    isplitl [Hds]; · iexact Hds
    isplitl [Hsl]; · iexact Hsl
    isplitr [Hz]
    · iapply (held_step V d w t c)
      isplitl [Hst]; · iexact Hst
      isplitl [Hpay]; · iapply (Entails.of_eq (payload_s V c d w t ht false)); iexact Hpay
      iexact Hh
    · iexact Hz
  · iexact HO

/-- The wait on the receive semaphore: of a slot, -/
theorem wait_slot (ht : t < 3) (hl : ∀ x ∈ sends.drop n, x.2.2 < 6 ∧ 2 + t < 2 + x.2.2) {q : DmaSem sig} (hq : q = vQ d w t)
    {src dst : Memref sig .tc .vmem S256x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(Ctx V ∗ Half V d w t c ∗ Ow n c)
      ⊢ iprop(((Got V d w t c ∗ Ow n c) -∗ WP c (k ⟨⟩) Q) -∗ WP c (.op (.waitDma2 q src dst hsrc hdst) k) Q) := by
  subst hq
  unfold Half Ow
  iintro ⟨#HC, ⟨Hzs, Ha2, Hc, Hf, Hds, Hsl, Hh, Hz⟩, ⟨%W, HO⟩⟩ Hk
  ihave Hi1 := (inv_v V d w t c) $$ HC
  ihave Hlev := (ctx_lev V) $$ HC
  unfold inv
  icases Hi1 with ⟨%κ₁, #HI1, -⟩
  iapply (wait_core V c (vQ d w t) (own_vQ d w t) (owe c (sends.drop n)) W κ₁ hN) $$ [Hc HO Ha2 Hlev]
  · isplitr; · iexact HI1
    isplitl [Hc]; · iexact Hc
    isplitl [HO]; · iexact HO
    isplitl [Hlev]
    · iapply (mayWait c _ (sends.drop n) (2 + t) (lv_vC d w t (by omega) c).le hl); iexact Hlev
    iexact Ha2
  iintro ⟨HO, Hzv, Hpay⟩
  iapply Hk
  isplitr [HO]
  · ihave Hpay := (Entails.of_eq (payload_v V c d w t (by omega) false)) $$ Hpay
    unfold Got rPay landed
    icases Hpay with ⟨Hpay, Hr⟩
    isplitl [Hpay]
    · iapply (Entails.of_eq (if_pos ht)); iexact Hpay
    isplitl [Hf]; · iexact Hf
    isplitl [Hds]; · iexact Hds
    isplitl [Hr]; · iexact Hr
    isplitl [Hsl]; · iexact Hsl
    isplitl [Hh]; · iexact Hh
    rw [zeros_eq]
    isplitl [Hzs Hzv]
    · isplitl [Hzs]; · iexact Hzs
      iexact Hzv
    iexact Hz
  · iexact HO

/-- and of a piece. -/
theorem wait_piece (h3 : 3 ≤ t) (ht : t < 6) (hl : ∀ x ∈ sends.drop n, x.2.2 < 6 ∧ 2 + t < 2 + x.2.2) {q : DmaSem sig} (hq : q = vQ d w t)
    {src dst : Memref sig .tc .vmem S256x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(Ctx V ∗ Half V d w t c ∗ Ow n c)
      ⊢ iprop(((Ready V d w (t + 1) c ∗ Ow n c) -∗ WP c (k ⟨⟩) Q) -∗ WP c (.op (.waitDma2 q src dst hsrc hdst) k) Q) := by
  subst hq
  unfold Half Ow
  iintro ⟨#HC, ⟨Hzs, Ha2, Hc, Hf, Hds, Hsl, Hh, Hz⟩, ⟨%W, HO⟩⟩ Hk
  ihave Hi1 := (inv_v V d w t c) $$ HC
  ihave Hlev := (ctx_lev V) $$ HC
  unfold inv
  icases Hi1 with ⟨%κ₁, #HI1, -⟩
  iapply (wait_core V c (vQ d w t) (own_vQ d w t) (owe c (sends.drop n)) W κ₁ hN) $$ [Hc HO Ha2 Hlev]
  · isplitr; · iexact HI1
    isplitl [Hc]; · iexact Hc
    isplitl [HO]; · iexact HO
    isplitl [Hlev]
    · iapply (mayWait c _ (sends.drop n) (2 + t) (lv_vC d w t ht c).le hl); iexact Hlev
    iexact Ha2
  iintro ⟨HO, Hzv, Hpay⟩
  iapply Hk
  isplitr [HO]
  · ihave Hpay := (Entails.of_eq (payload_v V c d w t ht false)) $$ Hpay
    unfold Ready rPay landed
    icases Hpay with ⟨Hpay, Hr⟩
    isplitl [Hpay]
    · rw [M_pass V d w t h3 c]
      iapply (Entails.of_eq (if_neg (Nat.not_lt.2 h3))); iexact Hpay
    isplitl [Hf]; · iexact Hf
    isplitl [Hds]; · iexact Hds
    isplitl [Hr]; · iexact Hr
    isplitl [Hsl]; · rw [slots_high d w t c h3]; iexact Hsl
    isplitl [Hh]; · iexact Hh
    rw [zeros_eq]
    isplitl [Hzs Hzv]
    · isplitl [Hzs]; · iexact Hzs
      iexact Hzv
    iexact Hz
  · iexact HO

end Steps

end Cert.Ring

end

end
-- ==== Proof.Mem.lean ====
module

public import proofs.«01_k».proof.Proof.Lane

/-!
# Loads and stores

What a load or a store of the program does to the parts of the buffers a device holds: the pieces of the sum buffer,
the slots of the receive buffers, the inputs, and the result.
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Dev nD → Fin 2 → Fin 2 → ℕ → PV F)

/-! ## Loads and stores of one piece or one slot -/

section Sub
variable {s : Shape} (m : Memref sig .tc .vmem s .bf16) (R : Rect s) (hr : ∀ a, R.stride a = 1) {s' : Shape} (hq : Shape.Squeezes ⟨s.rank, R.size⟩ s')

theorem cast_back {s s' : Shape} {α : Type} (X : s'.Idx → α) (h : s'.ShapeCasts s) (h' : s.ShapeCasts s') : shapeCast s' (shapeCast s X h) h' = X := by
  funext j
  show X (Shape.reshapeEquiv _ (Shape.reshapeEquiv _ j)) = X j
  rw [Shape.reshapeEquiv_reshapeEquiv, Shape.reshapeEquiv_self]

theorem ld_sub (c : Dev nD) (q : PosShare TreeShare) (X : s'.Idx → Elt F .bf16) (hc : s'.ShapeCasts R.shape)
    {hl : m.view.LoadsAt R.toLoadRect} {α : Type} {Q : α → sProp 𝕄} {k : (R.shape.Idx → Elt F .bf16) → Prog (TpuEff nD τ sig (Elt F) Λ₀ .tc) α} :
    (owns (c : Thread nD τ) ((m.slice R hr).squeeze s' hq) q X : sProp 𝕄)
      ⊢ iprop((owns (c : Thread nD τ) ((m.slice R hr).squeeze s' hq) q X -∗ WP c (k (shapeCast R.shape X hc)) Q) -∗ WP c (.op (.load m R.toLoadRect hl) k) Q) := by
  unfold owns
  iintro ⟨%f, %hf, H⟩ Hk
  have hset : ((m.slice R hr).squeeze s' hq).view.set = (m.access R).set := by apply View.set_reshape
  have hrd : shapeCast R.shape X hc = (m.access R).read (Elt F) f := by
    subst hf; funext j
    show (m.access R).read (Elt F) f (Shape.reshapeEquiv _ (Shape.reshapeEquiv _ j)) = _
    rw [Shape.reshapeEquiv_reshapeEquiv, Shape.reshapeEquiv_self]
  have h := wp_load_rect (defs := defs₀ (F := F)) 𝒱₀ (c : Thread nD τ) none (Γ := .empty) Set.univ (m := m) (r := R) (hl := hl) (k := k) (q := q) (f := f)
    (S := ((m.slice R hr).squeeze s' hq).view.set) (Q := Q) (fun x hx => hset.symm ▸ hx)
  rw [← hrd] at h
  iapply h $$ H
  iintro H
  iapply Hk
  iexists f
  isplitr; · ipureintro; exact hf
  iexact H

theorem st_sub (c : Dev nD) (X Y : s'.Idx → Elt F .bf16) (W : R.shape.Idx → Elt F .bf16) (hc : s'.ShapeCasts R.shape) (hW : W = shapeCast R.shape Y hc)
    {hx : (m.access R).Stores Finset.univ} {hm : Finset.univ = Finset.univ ∨ ∀ a, R.stride a = 1} {α : Type} {Q : α → sProp 𝕄}
    {k : PUnit → Prog (TpuEff nD τ sig (Elt F) Λ₀ .tc) α} :
    (owns (c : Thread nD τ) ((m.slice R hr).squeeze s' hq) fullShare X : sProp 𝕄)
      ⊢ iprop((owns (c : Thread nD τ) ((m.slice R hr).squeeze s' hq) fullShare Y -∗ WP c (k ⟨⟩) Q) -∗ WP c (.op (.store m R W Finset.univ hx hm) k) Q) := by
  unfold owns
  iintro ⟨%f, %hf, H⟩ Hk
  have hset : ((m.slice R hr).squeeze s' hq).view.set = (m.access R).set := by apply View.set_reshape
  have h := wp_store (defs := defs₀ (F := F)) 𝒱₀ (c : Thread nD τ) none (Γ := .empty) Set.univ (m := m) (r := R) (hx := hx) (hm := hm) (k := k) (f := f) (w := W)
    (S := ((m.slice R hr).squeeze s' hq).view.set) (Q := Q) (fun x hx => hset.symm ▸ hx)
  iapply h $$ H
  iintro H
  iapply Hk
  iexists _
  isplitr
  rotate_left
  · iexact H
  · ipureintro
    funext j
    show (m.access R).read (Elt F) ((m.access R).write (Elt F) f W Finset.univ) (Shape.reshapeEquiv _ j) = _
    rw [View.read_write_univ, hW]
    exact congrFun (cast_back Y hc hq.numel_eq) j
end Sub

/-- A piece as the program's vector of one row block, a slot as its vector of one slot. -/
abbrev sq (X : PV F) : FVec F S1x256x512 .bf16 := shapeCast S1x256x512 X shapeCasts_S256x512_S1x256x512
abbrev sq4 (X : PV F) : FVec F S1x1x256x512 .bf16 := shapeCast S1x1x256x512 X (by decide)

section Piece
variable (c : Dev nD) {w : Fin 2} {r : Fin 8} {q : PosShare TreeShare} {X : PV F} {off : Fin 3 → ℕ} {α : Type}

theorem ld_piece {Q : α → sProp 𝕄} (hoff : off = ![w.val, 256 * r.val, 0]) {hi : ∀ a, off a + S1x256x512.size a ≤ S2x2048x512.size a}
    {hl : pB.view.LoadsAt (Rect.unit (s := S2x2048x512) off S1x256x512.size hi).toLoadRect} {k : Vec F S1x256x512 .bf16 → Prog (TpuEff nD τ sig (Elt F) Λ₀ .tc) α} :
    pc c w r q X ⊢ iprop((pc c w r q X -∗ WP c (k (sq X)) Q) -∗ WP c (.op (.load pB (Rect.unit (s := S2x2048x512) off S1x256x512.size hi).toLoadRect hl) k) Q) := by
  subst hoff
  exact ld_sub pB (pR w r) (fun _ => rfl) squeezes_S1x256x512_S256x512 c q X shapeCasts_S256x512_S1x256x512

theorem st_piece {Q : α → sProp 𝕄} (hoff : off = ![w.val, 256 * r.val, 0]) {hi : ∀ a, off a + S1x256x512.size a ≤ S2x2048x512.size a} {W : FVec F S1x256x512 .bf16} (Y : PV F) (hW : W = sq Y)
    {hx : (pB.access (Rect.unit (s := S2x2048x512) off S1x256x512.size hi)).Stores Finset.univ}
    {hm : Finset.univ = Finset.univ ∨ ∀ a, (Rect.unit (s := S2x2048x512) off S1x256x512.size hi).stride a = 1}
    {k : PUnit → Prog (TpuEff nD τ sig (Elt F) Λ₀ .tc) α} :
    pc c w r fullShare X ⊢ iprop((pc c w r fullShare Y -∗ WP c (k ⟨⟩) Q) -∗ WP c (.op (.store pB (Rect.unit (s := S2x2048x512) off S1x256x512.size hi) W Finset.univ hx hm) k) Q) := by
  subst hoff
  exact st_sub pB (pR w r) (fun _ => rfl) squeezes_S1x256x512_S256x512 c X Y W shapeCasts_S256x512_S1x256x512 hW

theorem ld_slot {Q : α → sProp 𝕄} {d : Fin 2} {s : Fin 3} {off : Fin 4 → ℕ} (hoff : off = ![s.val, w.val, 0, 0]) {hi : ∀ a, off a + S1x1x256x512.size a ≤ S3x2x256x512.size a}
    {hl : (rB d).view.LoadsAt (Rect.unit (s := S3x2x256x512) off S1x1x256x512.size hi).toLoadRect} {k : Vec F S1x1x256x512 .bf16 → Prog (TpuEff nD τ sig (Elt F) Λ₀ .tc) α} :
    sl c d s w X ⊢ iprop((sl c d s w X -∗ WP c (k (sq4 X)) Q) -∗ WP c (.op (.load (rB d) (Rect.unit (s := S3x2x256x512) off S1x1x256x512.size hi).toLoadRect hl) k) Q) := by
  subst hoff
  exact ld_sub (rB d) (sR s w) (fun _ => rfl) squeezes_S1x1x256x512_S256x512 c fullShare X (show S256x512.ShapeCasts S1x1x256x512 by decide)
end Piece

/-! ## The part of a state a load needs -/

theorem sent_stay (d w : Fin 2) (t : ℕ) (c : Dev nD) (h3 : 3 ≤ t) :
    Sent V d w t c ⊢ iprop(pc c w (row d c (t % 4)) fullShare.right (M V d w t c) ∗ (pc c w (row d c (t % 4)) fullShare.right (M V d w t c) -∗ Sent V d w t c)) := by
  unfold Sent stay
  rw [if_neg (by omega)]
  iintro ⟨H1, H2⟩
  isplitl [H1]; · iexact H1
  iintro H1
  isplitl [H1]; · iexact H1
  iexact H2

theorem ready_piece (d w : Fin 2) (t : ℕ) (c : Dev nD) :
    Ready V d w t c ⊢ iprop(pc c w (row d c (t % 4)) fullShare (M V d w t c) ∗ (pc c w (row d c (t % 4)) fullShare (M V d w t c) -∗ Ready V d w t c)) := by
  unfold Ready
  iintro ⟨H1, H2⟩
  isplitl [H1]; · iexact H1
  iintro H1
  isplitl [H1]; · iexact H1
  iexact H2
/-! ## Chunks: what the program stores is two pieces at once -/

theorem q_inb (w : Fin 2) (q : Fin 4) : ∀ a, (![w.val, 512 * q.val, 0] : Fin 3 → ℕ) a + S1x512x512.size a ≤ S2x2048x512.size a := by
  revert w q; decide
abbrev qR (w : Fin 2) (q : Fin 4) : Rect S2x2048x512 := Rect.unit (s := S2x2048x512) ![w.val, 512 * q.val, 0] S1x512x512.size (q_inb w q)
set_option backward.proofsInPublic true in
/-- The chunk `j` steps after device `c`'s own. -/
def cj (c : Dev nD) (j : ℕ) : Fin 4 := ⟨(c.val + j) % 4, Nat.mod_lt _ (by decide)⟩
/-- A chunk of column half `w` before it is stored. -/
def raw (c : Dev nD) (w : Fin 2) (j : ℕ) : sProp 𝕄 := iprop(∃ X, owns (c : Thread nD τ) (pB.slice (qR w (cj c j)) (fun _ => rfl)) fullShare X)

theorem half_lt (d : Fin 2) (j : S256x512.Idx) : ∀ a, (![0, 256 * d.val + (j 0).val, (j 1).val] : Fin 3 → ℕ) a < S1x512x512.size a := by
  have h0 : (j 0).val < 256 := (j 0).isLt
  have h1 : (j 1).val < 512 := (j 1).isLt
  have hd := d.isLt
  intro a
  match a with
  | 0 => show 0 < 1; omega
  | 1 => show 256 * d.val + (j 0).val < 512; omega
  | 2 => show (j 1).val < 512; omega
/-- The upper and the lower half of a stored chunk. -/
def half (d : Fin 2) (W : FVec F S1x512x512 .bf16) : PV F := fun j => W fun a => ⟨_, half_lt d j a⟩

section Chunk
variable (c : Dev nD) {w : Fin 2} {j : ℕ} {off : Fin 3 → ℕ} {α : Type}

theorem ld_raw {Q : α → sProp 𝕄} (hoff : off = ![w.val, 512 * (cj c j).val, 0]) {hi : ∀ a, off a + S1x512x512.size a ≤ S2x2048x512.size a}
    {hl : pB.view.LoadsAt (Rect.unit (s := S2x2048x512) off S1x512x512.size hi).toLoadRect} {k : Prog (TpuEff nD τ sig (Elt F) Λ₀ .tc) α} :
    (raw c w j : sProp 𝕄) ⊢ iprop((raw c w j -∗ WP c k Q) -∗ WP c (.op (.load pB (Rect.unit (s := S2x2048x512) off S1x512x512.size hi).toLoadRect hl) fun _ => k) Q) := by
  subst hoff
  unfold raw owns
  iintro ⟨%X, %f, %hf, H⟩ Hk
  have h := wp_load_rect (defs := defs₀ (F := F)) 𝒱₀ (c : Thread nD τ) none (Γ := .empty) Set.univ (m := pB) (r := qR w (cj c j)) (hl := hl) (k := fun _ => k)
    (q := fullShare) (f := f) (S := (pB.slice (qR w (cj c j)) (fun _ => rfl)).view.set) (Q := Q) (fun x hx => hx)
  iapply h $$ H
  iintro H
  iapply Hk
  iexists X, f
  isplitr; · ipureintro; exact hf
  iexact H

theorem qR_set (w : Fin 2) (q : Fin 4) (r0 r1 : Fin 8) (h0 : r0.val = 2 * q.val) (h1 : r1.val = 2 * q.val + 1) :
    (pB.access (qR w q)).set = (pM w r0).view.set ∪ (pM w r1).view.set ∧ Disjoint (pM w r0).view.set (pM w r1).view.set := by
  have e0 : (pM w r0).view.set = (pR w r0).set := (View.set_reshape _ _).trans (View.set_slice_whole _ _)
  have e1 : (pM w r1).view.set = (pR w r1).set := (View.set_reshape _ _).trans (View.set_slice_whole _ _)
  have e : (pB.access (qR w q)).set = (qR w q).set := View.set_slice_whole _ _
  have key : (qR w q).set = (pR w r0).set ∪ (pR w r1).set ∧ Disjoint (pR w r0).set (pR w r1).set := by
    constructor
    · ext i
      rw [Finset.mem_union, Rect.mem_set_unit, Rect.mem_set_unit, Rect.mem_set_unit]
      have i0 : (i 0).val < 2 := (i 0).isLt
      constructor
      · intro hi
        have b0 : w.val ≤ (i 0).val ∧ (i 0).val < w.val + 1 := hi 0
        have b1 : 512 * q.val ≤ (i 1).val ∧ (i 1).val < 512 * q.val + 512 := hi 1
        by_cases hlt : (i 1).val < 256 * r1.val
        · left; intro a
          match a with
          | 0 => exact hi 0
          | 1 => show 256 * r0.val ≤ (i 1).val ∧ (i 1).val < 256 * r0.val + 256; omega
          | 2 => exact hi 2
        · right; intro a
          match a with
          | 0 => exact hi 0
          | 1 => show 256 * r1.val ≤ (i 1).val ∧ (i 1).val < 256 * r1.val + 256; omega
          | 2 => exact hi 2
      · rintro (hi | hi) a
        · have b1 : 256 * r0.val ≤ (i 1).val ∧ (i 1).val < 256 * r0.val + 256 := hi 1
          match a with
          | 0 => exact hi 0
          | 1 => show 512 * q.val ≤ (i 1).val ∧ (i 1).val < 512 * q.val + 512; omega
          | 2 => exact hi 2
        · have b1 : 256 * r1.val ≤ (i 1).val ∧ (i 1).val < 256 * r1.val + 256 := hi 1
          match a with
          | 0 => exact hi 0
          | 1 => show 512 * q.val ≤ (i 1).val ∧ (i 1).val < 512 * q.val + 512; omega
          | 2 => exact hi 2
    · rw [Finset.disjoint_left]
      intro i
      rw [Rect.mem_set_unit, Rect.mem_set_unit]
      intro hi hi'
      have b1 : 256 * r0.val ≤ (i 1).val ∧ (i 1).val < 256 * r0.val + 256 := hi 1
      have b2 : 256 * r1.val ≤ (i 1).val ∧ (i 1).val < 256 * r1.val + 256 := hi' 1
      omega
  exact ⟨(e.trans key.1).trans (congrArg₂ (fun (a b : Finset S2x2048x512.Idx) => a ∪ b) e0.symm e1.symm),
    (congrArg₂ (fun (a b : Finset S2x2048x512.Idx) => Disjoint a b) e0 e1).mpr key.2⟩

theorem half_read (w : Fin 2) (q : Fin 4) (d : Fin 2) (r : Fin 8) (h : r.val = 2 * q.val + d.val) (f : Buf (Elt F) ((pB.access (qR w q)).loc (c : Thread nD τ)))
    (W : FVec F S1x512x512 .bf16) : (pM w r).view.read (Elt F) ((pB.access (qR w q)).write (Elt F) f W Finset.univ) = half d W := by
  funext i
  have hx : (pM w r).view.emb i = (pB.access (qR w q)).emb (fun a => ⟨_, half_lt d i a⟩) := by
    have e := Shape.reshapeEquiv_cons_one (n := 2) (d := S256x512.size) (squeezes_S1x256x512_S256x512.numel_eq) i
    funext a
    apply Fin.ext
    show ((pR w r).emb (Shape.reshapeEquiv (squeezes_S1x256x512_S256x512.numel_eq) i) a).val = ((qR w q).emb (fun a => ⟨_, half_lt d i a⟩) a).val
    rw [e]
    refine (Rect.emb_apply _ _ _).trans (Eq.trans ?_ (Rect.emb_apply _ _ _).symm)
    revert a
    show ∀ a : Fin 3, _
    intro a
    match a with
    | 0 => rfl
    | 1 =>
      show 256 * r.val + 1 * (i 0).val = 512 * q.val + 1 * (256 * d.val + (i 0).val)
      omega
    | 2 => rfl
  show _root_.cast _ ((pB.access (qR w q)).write (Elt F) f W Finset.univ ((pM w r).view.emb i)) = _
  rw [hx]
  exact congrArg (_root_.cast _) (View.write_emb_of_mem (v := pB.access (qR w q)) f W (Finset.mem_univ _))

theorem st_raw {Q : α → sProp 𝕄} (hoff : off = ![w.val, 512 * (cj c j).val, 0]) {hi : ∀ a, off a + S1x512x512.size a ≤ S2x2048x512.size a} {W : FVec F S1x512x512 .bf16} (W' : FVec F S1x512x512 .bf16) (hW : W = W')
    (k0 k1 : ℕ) (h0 : row 0 c k0 = ⟨2 * (cj c j).val, by have := (cj c j).isLt; omega⟩) (h1 : row 1 c k1 = ⟨2 * (cj c j).val + 1, by have := (cj c j).isLt; omega⟩)
    {hx : (pB.access (Rect.unit (s := S2x2048x512) off S1x512x512.size hi)).Stores Finset.univ}
    {hm : Finset.univ = Finset.univ ∨ ∀ a, (Rect.unit (s := S2x2048x512) off S1x512x512.size hi).stride a = 1}
    {k : PUnit → Prog (TpuEff nD τ sig (Elt F) Λ₀ .tc) α} :
    (raw c w j : sProp 𝕄) ⊢ iprop((pc c w (row 0 c k0) fullShare (half 0 W') ∗ pc c w (row 1 c k1) fullShare (half 1 W') -∗ WP c (k ⟨⟩) Q)
      -∗ WP c (.op (.store pB (Rect.unit (s := S2x2048x512) off S1x512x512.size hi) W Finset.univ hx hm) k) Q) := by
  subst hoff hW
  unfold raw pc owns
  iintro ⟨%X, %f, %hf, H⟩ Hk
  have h := wp_store (defs := defs₀ (F := F)) 𝒱₀ (c : Thread nD τ) none (Γ := .empty) Set.univ (m := pB) (r := qR w (cj c j)) (hx := hx) (hm := hm) (k := k) (f := f) (w := W)
    (S := (pB.access (qR w (cj c j))).set) (Q := Q) (fun x hx => hx)
  iapply h $$ H
  iintro H
  iapply Hk
  have hs := qR_set w (cj c j) (row 0 c k0) (row 1 c k1) (by rw [h0]) (by rw [h1])
  have hsplit : ((pB.access (qR w (cj c j))).loc (c : Thread nD τ) ↦[(pB.access (qR w (cj c j))).set]{fullShare} (pB.access (qR w (cj c j))).write (Elt F) f W Finset.univ : sProp 𝕄)
      ⊢ iprop(((pB.access (qR w (cj c j))).loc (c : Thread nD τ) ↦[(pM w (row 0 c k0)).view.set]{fullShare} (pB.access (qR w (cj c j))).write (Elt F) f W Finset.univ)
        ∗ ((pB.access (qR w (cj c j))).loc (c : Thread nD τ) ↦[(pM w (row 1 c k1)).view.set]{fullShare} (pB.access (qR w (cj c j))).write (Elt F) f W Finset.univ)) := by
    rw [hs.1]; exact (pointsTo_union hs.2).1
  ihave H := hsplit $$ H
  icases H with ⟨H0, H1⟩
  have r0 := half_read c w (cj c j) 0 (row 0 c k0) (by rw [h0]; rfl) f W
  have r1 := half_read c w (cj c j) 1 (row 1 c k1) (by rw [h1]; rfl) f W
  isplitl [H0]
  · iexists _
    isplitr
    rotate_left
    · iexact H0
    · ipureintro; exact r0
  · iexists _
    isplitr
    rotate_left
    · iexact H1
    · ipureintro; exact r1
end Chunk

/-! ## The inputs and the result -/

/-- The five inputs as the kernel sees them on one device. -/
structure In (F : FTy → Type) where
  x : (cc0_stg0_0 : Ref sig .tc).ty.Contents (Elt F)
  rw : (cc0_stg1_0 : Ref sig .tc).ty.Contents (Elt F)
  ix : (cc0_stg2_0 : Ref sig .tc).ty.Contents (Elt F)
  ew : (cc0_stg3_0 : Ref sig .tc).ty.Contents (Elt F)
  sw : (cc0_stg4_0 : Ref sig .tc).ty.Contents (Elt F)

section Inputs
variable (I : Dev nD → In F) (c : Dev nD)
abbrev whole (b : Ref sig .tc) (X : Buf (Elt F) ((c : Thread nD τ).loc b)) : sProp 𝕄 := iprop(((c : Thread nD τ).loc b) ↦{fullShare} X)
/-- The five input buffers, whole. -/
def ins : sProp 𝕄 := iprop(whole c cc0_stg0_0 (I c).x ∗ whole c cc0_stg1_0 (I c).rw ∗ whole c cc0_stg2_0 (I c).ix ∗ whole c cc0_stg3_0 (I c).ew ∗ whole c cc0_stg4_0 (I c).sw)

theorem ld_x {r : LoadRect S2048x512} {hl : (Memref.whole cc0_stg0_0 : Memref sig .tc .vmem S2048x512 .f32).view.LoadsAt r} {k : (r.shape.Idx → Elt F .f32) → Prog (TpuEff nD τ sig (Elt F) Λ₀ .tc) α} :
    ins I c ⊢ iprop((ins I c -∗ WP c (k ((Memref.whole cc0_stg0_0 : Memref sig .tc .vmem S2048x512 .f32).view.readAt (Elt F) r (I c).x)) Q) -∗ WP c (.op (.load (Memref.whole cc0_stg0_0 : Memref sig .tc .vmem S2048x512 .f32) r hl) k) Q) := by
  unfold ins
  iintro ⟨H0, H1, H2, H3, H4⟩ Hk
  have h := wp_load (defs := defs₀ (F := F)) 𝒱₀ (c : Thread nD τ) none (Γ := .empty) Set.univ (m := (Memref.whole cc0_stg0_0 : Memref sig .tc .vmem S2048x512 .f32)) (r := r) (hl := hl) (k := k)
    (q := fullShare) (f := (I c).x) (S := Finset.univ) (Q := Q) (Finset.subset_univ _)
  iapply h $$ H0
  iintro H0
  iapply Hk
  isplitl [H0]; · iexact H0
  isplitl [H1]; · iexact H1
  isplitl [H2]; · iexact H2
  isplitl [H3]; · iexact H3
  iexact H4

theorem ld_rw {r : LoadRect S512x32} {hl : (Memref.whole cc0_stg1_0 : Memref sig .tc .vmem S512x32 .f32).view.LoadsAt r} {k : (r.shape.Idx → Elt F .f32) → Prog (TpuEff nD τ sig (Elt F) Λ₀ .tc) α} :
    ins I c ⊢ iprop((ins I c -∗ WP c (k ((Memref.whole cc0_stg1_0 : Memref sig .tc .vmem S512x32 .f32).view.readAt (Elt F) r (I c).rw)) Q) -∗ WP c (.op (.load (Memref.whole cc0_stg1_0 : Memref sig .tc .vmem S512x32 .f32) r hl) k) Q) := by
  unfold ins
  iintro ⟨H0, H1, H2, H3, H4⟩ Hk
  have h := wp_load (defs := defs₀ (F := F)) 𝒱₀ (c : Thread nD τ) none (Γ := .empty) Set.univ (m := (Memref.whole cc0_stg1_0 : Memref sig .tc .vmem S512x32 .f32)) (r := r) (hl := hl) (k := k)
    (q := fullShare) (f := (I c).rw) (S := Finset.univ) (Q := Q) (Finset.subset_univ _)
  iapply h $$ H1
  iintro H1
  iapply Hk
  isplitl [H0]; · iexact H0
  isplitl [H1]; · iexact H1
  isplitl [H2]; · iexact H2
  isplitl [H3]; · iexact H3
  iexact H4

theorem ld_ix {r : LoadRect S2048x1} {hl : (Memref.whole cc0_stg2_0 : Memref sig .tc .vmem S2048x1 .i32).view.LoadsAt r} {k : (r.shape.Idx → Elt F .i32) → Prog (TpuEff nD τ sig (Elt F) Λ₀ .tc) α} :
    ins I c ⊢ iprop((ins I c -∗ WP c (k ((Memref.whole cc0_stg2_0 : Memref sig .tc .vmem S2048x1 .i32).view.readAt (Elt F) r (I c).ix)) Q) -∗ WP c (.op (.load (Memref.whole cc0_stg2_0 : Memref sig .tc .vmem S2048x1 .i32) r hl) k) Q) := by
  unfold ins
  iintro ⟨H0, H1, H2, H3, H4⟩ Hk
  have h := wp_load (defs := defs₀ (F := F)) 𝒱₀ (c : Thread nD τ) none (Γ := .empty) Set.univ (m := (Memref.whole cc0_stg2_0 : Memref sig .tc .vmem S2048x1 .i32)) (r := r) (hl := hl) (k := k)
    (q := fullShare) (f := (I c).ix) (S := Finset.univ) (Q := Q) (Finset.subset_univ _)
  iapply h $$ H2
  iintro H2
  iapply Hk
  isplitl [H0]; · iexact H0
  isplitl [H1]; · iexact H1
  isplitl [H2]; · iexact H2
  isplitl [H3]; · iexact H3
  iexact H4

theorem ld_ew {r : LoadRect S8x512x1024} {hl : (Memref.whole cc0_stg3_0 : Memref sig .tc .vmem S8x512x1024 .f32).view.LoadsAt r} {k : (r.shape.Idx → Elt F .f32) → Prog (TpuEff nD τ sig (Elt F) Λ₀ .tc) α} :
    ins I c ⊢ iprop((ins I c -∗ WP c (k ((Memref.whole cc0_stg3_0 : Memref sig .tc .vmem S8x512x1024 .f32).view.readAt (Elt F) r (I c).ew)) Q) -∗ WP c (.op (.load (Memref.whole cc0_stg3_0 : Memref sig .tc .vmem S8x512x1024 .f32) r hl) k) Q) := by
  unfold ins
  iintro ⟨H0, H1, H2, H3, H4⟩ Hk
  have h := wp_load (defs := defs₀ (F := F)) 𝒱₀ (c : Thread nD τ) none (Γ := .empty) Set.univ (m := (Memref.whole cc0_stg3_0 : Memref sig .tc .vmem S8x512x1024 .f32)) (r := r) (hl := hl) (k := k)
    (q := fullShare) (f := (I c).ew) (S := Finset.univ) (Q := Q) (Finset.subset_univ _)
  iapply h $$ H3
  iintro H3
  iapply Hk
  isplitl [H0]; · iexact H0
  isplitl [H1]; · iexact H1
  isplitl [H2]; · iexact H2
  isplitl [H3]; · iexact H3
  iexact H4

theorem ld_sw {r : LoadRect S512x1024} {hl : (Memref.whole cc0_stg4_0 : Memref sig .tc .vmem S512x1024 .f32).view.LoadsAt r} {k : (r.shape.Idx → Elt F .f32) → Prog (TpuEff nD τ sig (Elt F) Λ₀ .tc) α} :
    ins I c ⊢ iprop((ins I c -∗ WP c (k ((Memref.whole cc0_stg4_0 : Memref sig .tc .vmem S512x1024 .f32).view.readAt (Elt F) r (I c).sw)) Q) -∗ WP c (.op (.load (Memref.whole cc0_stg4_0 : Memref sig .tc .vmem S512x1024 .f32) r hl) k) Q) := by
  unfold ins
  iintro ⟨H0, H1, H2, H3, H4⟩ Hk
  have h := wp_load (defs := defs₀ (F := F)) 𝒱₀ (c : Thread nD τ) none (Γ := .empty) Set.univ (m := (Memref.whole cc0_stg4_0 : Memref sig .tc .vmem S512x1024 .f32)) (r := r) (hl := hl) (k := k)
    (q := fullShare) (f := (I c).sw) (S := Finset.univ) (Q := Q) (Finset.subset_univ _)
  iapply h $$ H4
  iintro H4
  iapply Hk
  isplitl [H0]; · iexact H0
  isplitl [H1]; · iexact H1
  isplitl [H2]; · iexact H2
  isplitl [H3]; · iexact H3
  iexact H4

end Inputs

section Result
/-- The device whose addition finished piece `r`'s sum. -/
def fdev (r : Fin 8) : Dev nD := if r.val % 2 = 0 then ⟨(r.val / 2 + 3) % 4, Nat.mod_lt _ (by decide)⟩ else ⟨(r.val / 2 + 1) % 4, Nat.mod_lt _ (by decide)⟩
/-- The finished sum of piece `r`. -/
def fin (w : Fin 2) (r : Fin 8) : PV F := M V ⟨r.val % 2, Nat.mod_lt _ (by decide)⟩ w 3 (fdev r)
/-- A finished piece, as stored into the result. -/
abbrev ext (X : PV F) : FVec F S256x512 .f32 := extf .f32 X bitsLt_bf16_f32

theorem o_inb (w : Fin 2) (r : Fin 8) : ∀ a, (![256 * r.val, 512 * w.val] : Fin 2 → ℕ) a + S256x512.size a ≤ S2048x1024.size a := by
  revert w r; decide
abbrev oR (w : Fin 2) (r : Fin 8) : Rect S2048x1024 := Rect.unit (s := S2048x1024) ![256 * r.val, 512 * w.val] S256x512.size (o_inb w r)
abbrev oB : Memref sig .tc .vmem S2048x1024 .f32 := Memref.whole cc0_stg5_0

/-- The result, given piece by piece. -/
def outF : FVec F S2048x1024 .f32 := fun i =>
  ext (fin V ⟨(i 1).val / 512, by have := (i 1).isLt; change _ < 1024 at this; omega⟩ ⟨(i 0).val / 256, by have := (i 0).isLt; change _ < 2048 at this; omega⟩)
    fun a => match a with
      | 0 => ⟨(i 0).val % 256, Nat.mod_lt _ (by decide)⟩
      | 1 => ⟨(i 1).val % 512, Nat.mod_lt _ (by decide)⟩

theorem outF_emb (w : Fin 2) (r : Fin 8) (j : S256x512.Idx) : outF V ((oR w r).emb j) = ext (fin V w r) j := by
  have h0 : (j 0).val < 256 := (j 0).isLt
  have h1 : (j 1).val < 512 := (j 1).isLt
  have e0 : ((oR w r).emb j 0).val = 256 * r.val + (j 0).val := by rw [Rect.emb_apply]; show 256 * r.val + 1 * _ = _; omega
  have e1 : ((oR w r).emb j 1).val = 512 * w.val + (j 1).val := by rw [Rect.emb_apply]; show 512 * w.val + 1 * _ = _; omega
  have q0 : (⟨((oR w r).emb j 0).val / 256, by have := ((oR w r).emb j 0).isLt; change _ < 2048 at this; omega⟩ : Fin 8) = r := Fin.ext (by show _ / 256 = _; omega)
  have q1 : (⟨((oR w r).emb j 1).val / 512, by have := ((oR w r).emb j 1).isLt; change _ < 1024 at this; omega⟩ : Fin 2) = w := Fin.ext (by show _ / 512 = _; omega)
  unfold outF
  rw [q0, q1]
  congr 1
  funext a
  match a with
  | 0 => exact Fin.ext (by show _ % 256 = _; omega)
  | 1 => exact Fin.ext (by show _ % 512 = _; omega)

/-- The pieces' order of emission, the last first. -/
def emits : List (Fin 2 × Fin 2 × ℕ) :=
  [(1, 1, 6), (1, 0, 6), (0, 1, 6), (0, 0, 6), (1, 1, 5), (1, 0, 5), (0, 1, 5), (0, 0, 5), (1, 1, 4), (1, 0, 4), (0, 1, 4), (0, 0, 4), (1, 1, 3), (1, 0, 3), (0, 1, 3), (0, 0, 3)]

/-- The result buffer with `n` pieces still to come. -/
def Out (n : ℕ) (c : Dev nD) : sProp 𝕄 := iprop(∃ f : Buf (Elt F) ((c : Thread nD τ).loc cc0_stg5_0),
  ⌜∀ p ∈ emits.drop n, ∀ i ∈ (oR p.2.1 (row p.1 c (p.2.2 % 4))).set, f i = outF V i⌝ ∗ whole c cc0_stg5_0 f)

theorem ld_out (n : ℕ) (c : Dev nD) {α : Type} {Q : α → sProp 𝕄} {r : LoadRect S2048x1024} {hl : oB.view.LoadsAt r} {k : Prog (TpuEff nD τ sig (Elt F) Λ₀ .tc) α} :
    Out V n c ⊢ iprop((Out V n c -∗ WP c k Q) -∗ WP c (.op (.load oB r hl) fun _ => k) Q) := by
  unfold Out
  iintro ⟨%f, %hf, H⟩ Hk
  have h := wp_load (defs := defs₀ (F := F)) 𝒱₀ (c : Thread nD τ) none (Γ := .empty) Set.univ (m := oB) (r := r) (hl := hl) (k := fun _ => k)
    (q := fullShare) (f := f) (S := Finset.univ) (Q := Q) (Finset.subset_univ _)
  iapply h $$ H
  iintro H
  iapply Hk
  iexists f
  isplitr; · ipureintro; exact hf
  iexact H

theorem M_fin (d w : Fin 2) (t : ℕ) (ht : 3 ≤ t) (ht' : t < 7) (c : Dev nD) : M V d w t c = fin V w (row d c (t % 4)) := by
  have key : ∀ (d : Fin 2) (c : Dev nD), (⟨(row d c 3).val % 2, Nat.mod_lt _ (by decide)⟩ : Fin 2) = d ∧ fdev (row d c 3) = c := by decide
  have base (c : Dev nD) : M V d w 3 c = fin V w (row d c 3) := by
    unfold fin; rw [(key d c).1, (key d c).2]
  have step (t : ℕ) (h3 : 3 ≤ t) (ht : t < 6) (h : ∀ c, M V d w t c = fin V w (row d c (t % 4))) (c : Dev nD) : M V d w (t + 1) c = fin V w (row d c ((t + 1) % 4)) := by
    rw [M_pass V d w t h3 c, h (up d c)]
    have := row_dn' d (up d c) t ht
    rw [dn_up] at this
    rw [this]
  have s4 := step 3 (by omega) (by omega) base
  have s5 := step 4 (by omega) (by omega) s4
  have s6 := step 5 (by omega) (by omega) s5
  obtain rfl | rfl | rfl | rfl : t = 3 ∨ t = 4 ∨ t = 5 ∨ t = 6 := by omega
  · exact base c
  · exact s4 c
  · exact s5 c
  · exact s6 c

theorem st_out_ok (w : Fin 2) (r : Fin 8) (Y : PV F) (hY : Y = fin V w r) (f : (oB.access (oR w r)).ty.Contents (Elt F)) (i : (oB.access (oR w r)).ty.Idx)
    (h : i ∈ (oB.access (oR w r)).set ∨ f i = outF V i) : (oB.access (oR w r)).write (Elt F) f (ext Y) Finset.univ i = outF V i := by
  rcases Classical.em (i ∈ (oB.access (oR w r)).set) with hin | hin
  · rw [View.set, Finset.mem_map] at hin
    obtain ⟨j, -, rfl⟩ := hin
    refine (View.write_emb_of_mem (v := oB.access (oR w r)) f (ext Y) (Finset.mem_univ j)).trans ?_
    rw [hY]
    exact (outF_emb V w r j).symm
  · exact (View.write_of_not_mem (v := oB.access (oR w r)) f (ext Y) Finset.univ hin).trans (h.resolve_left hin)

theorem oR_set (w : Fin 2) (r : Fin 8) : (oB.access (oR w r)).set = (oR w r).set := View.set_slice_whole _ _

theorem st_out (n : ℕ) (c : Dev nD) (d w : Fin 2) (t : ℕ) (hn : emits.drop n = (d, w, t) :: emits.drop (n + 1)) (ht : 3 ≤ t) (ht' : t < 7) {off : Fin 2 → ℕ}
    (hoff : off = ![256 * (row d c (t % 4)).val, 512 * w.val]) {hi : ∀ a, off a + S256x512.size a ≤ S2048x1024.size a} {W : FVec F S256x512 .f32} (hW : W = ext (M V d w t c))
    {hx : (oB.access (Rect.unit (s := S2048x1024) off S256x512.size hi)).Stores Finset.univ}
    {hm : Finset.univ = Finset.univ ∨ ∀ a, (Rect.unit (s := S2048x1024) off S256x512.size hi).stride a = 1}
    {α : Type} {Q : α → sProp 𝕄} {k : PUnit → Prog (TpuEff nD τ sig (Elt F) Λ₀ .tc) α} :
    Out V (n + 1) c ⊢ iprop((Out V n c -∗ WP c (k ⟨⟩) Q) -∗ WP c (.op (.store oB (Rect.unit (s := S2048x1024) off S256x512.size hi) W Finset.univ hx hm) k) Q) := by
  subst hoff hW
  unfold Out
  iintro ⟨%f, %hf, H⟩ Hk
  have h := wp_store (defs := defs₀ (F := F)) 𝒱₀ (c : Thread nD τ) none (Γ := .empty) Set.univ (m := oB) (r := oR w (row d c (t % 4))) (hx := hx) (hm := hm) (k := k) (f := f) (w := ext (M V d w t c))
    (S := Finset.univ) (Q := Q) (Finset.subset_univ _)
  iapply h $$ H
  iintro H
  iapply Hk
  iexists _
  isplitr
  rotate_left
  · iexact H
  · ipureintro
    intro p hp i hiR
    refine st_out_ok V w (row d c (t % 4)) (M V d w t c) (M_fin V d w t ht ht' c) f i ?_
    rw [hn] at hp
    rcases List.mem_cons.1 hp with h | h
    · left
      have e : (oR p.2.1 (row p.1 c (p.2.2 % 4))).set = (oB.access (oR w (row d c (t % 4)))).set := by
        rw [h]; exact (oR_set w (row d c (t % 4))).symm
      exact e ▸ hiR
    · exact Or.inr (hf p h i hiR)

theorem emits_all (c : Dev nD) (w : Fin 2) (r : Fin 8) : ∃ p ∈ emits.drop 0, p.2.1 = w ∧ row p.1 c (p.2.2 % 4) = r := by
  have key : ∀ (c : Dev nD) (w : Fin 2) (r : Fin 8), (emits.any fun p => decide (p.2.1 = w ∧ row p.1 c (p.2.2 % 4) = r)) = true := by decide
  obtain ⟨p, hp, h⟩ := List.any_eq_true.1 (key c w r)
  exact ⟨p, hp, of_decide_eq_true h⟩

theorem out_done (c : Dev nD) : Out V 0 c ⊢ (whole c cc0_stg5_0 (outF V) : sProp 𝕄) := by
  unfold Out
  iintro ⟨%f, %hf, H⟩
  have e : f = outF V := by
    funext i
    have h0 : (i 0).val < 2048 := (i 0).isLt
    have h1 : (i 1).val < 1024 := (i 1).isLt
    obtain ⟨p, hp, hw, hr⟩ := emits_all c ⟨(i 1).val / 512, by omega⟩ ⟨(i 0).val / 256, by omega⟩
    refine hf p hp i ?_
    rw [hw, hr, Rect.mem_set_unit]
    intro a
    match a with
    | 0 => show 256 * ((i 0).val / 256) ≤ (i 0).val ∧ (i 0).val < 256 * ((i 0).val / 256) + 256; omega
    | 1 => show 512 * ((i 1).val / 512) ≤ (i 1).val ∧ (i 1).val < 512 * ((i 1).val / 512) + 512; omega
  rw [e]
  iexact H

theorem out_start (c : Dev nD) (f : Buf (Elt F) ((c : Thread nD τ).loc cc0_stg5_0)) : (whole c cc0_stg5_0 f : sProp 𝕄) ⊢ Out V 16 c := by
  unfold Out
  iintro H
  iexists f
  isplitr
  · ipureintro; intro p hp; exact absurd hp (by decide +revert)
  · iexact H
end Result

end Cert.Ring

end

end
-- ==== Proof.Bar.lean ====
module

public import proofs.«01_k».proof.Proof.Mem

/-!
# The barrier, and whole buffers as their parts
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Dev nD → Fin 2 → Fin 2 → ℕ → PV F)

/-! ## The handshake at the barrier -/

/-- What a device brings to the barrier, beside what it owes. -/
def BarPre (c : Dev nD) : sProp 𝕄 := iprop(rbE (F := F) c 0 ∗ rbE (F := F) c 1 ∗ dutyTok ER (barC (dn 1 c)) 0 true ∗ dutyTok ER (barC (dn 0 c)) 0 false
  ∗ cred (tallyAt (barC c) () 2) ∗ atPos ER (barC c) 0 ∅ 0)
def OwB (c : Dev nD) : sProp 𝕄 := iprop(∃ W, owes (c : Thread nD τ) (O₀ c) W)

theorem bar_step (c : Dev nD) {p1 p2 : Dev nD} (h1 : p1 = dn 1 c) (h2 : p2 = dn 0 c) {α : Type} {Q : α → sProp 𝕄} {k : PUnit → Prog (TpuEff nD τ sig (Elt F) Λ₀ .tc) α} :
    iprop(Ctx V ∗ BarPre (F := F) c ∗ OwB (F := F) c)
      ⊢ iprop(((semVal (barC c) 0 ∗ rbE (F := F) (dn 1 c) 1 ∗ rbE (F := F) (dn 0 c) 0 ∗ Ow (F := F) 0 c) -∗ WP c (k ⟨⟩) Q)
        -∗ WP c (.op (.semSignal (p1, .tc) barS (1#32).toInt) fun _ => .op (.semSignal (p2, .tc) barS (1#32).toInt) fun _ => .op (.semWait barS (2#32).toInt) k) Q) := by
  subst h1 h2
  unfold BarPre OwB Ow
  iintro ⟨#HC, ⟨Hr0, Hr1, Ht1, Ht0, Hc, Ha⟩, ⟨%W, HO⟩⟩ Hk
  ihave Hi1 := (inv_b V (dn 1 c)) $$ HC
  ihave Hi0 := (inv_b V (dn 0 c)) $$ HC
  ihave Hi := (inv_b V c) $$ HC
  ihave Hlev := (ctx_lev V) $$ HC
  unfold inv
  icases Hi1 with ⟨%κ₁, #HI1, #HR1⟩
  icases Hi0 with ⟨%κ₀, #HI0, #HR0⟩
  icases Hi with ⟨%κ, #HI, -⟩
  iapply (Rounds.wp_signal 𝒱₀ ER (Rd V) (c : Thread nD τ) none (dst := (dn 1 c : Thread nD τ)) (κ := κ₁)
      (d := true) (by rw [duties_bar]; exact Finset.mem_univ _) ((amount_bar V (dn 1 c) true).trans (by decide)) () (O₁ c) rfl)
    $$ [HO Ht1 Hr0]
  · isplitr; · iexact HI1
    isplitl [HO]; · iexact HO
    isplitl [Ht1]; · iexact Ht1
    isplitl [Hr0]
    · have h : rbE (F := F) c 0 ⊢ (Rd V).payload (barC (dn 1 c)) 0 true := by
        show _ ⊢ rbE (F := F) (dn 0 (dn 1 c)) 0
        rw [show dn 0 (dn 1 c) = c from dn_up 0 c]
      iapply h; iexact Hr0
    · iexact HR1
  iintro HO
  iapply (Rounds.wp_signal 𝒱₀ ER (Rd V) (c : Thread nD τ) none (dst := (dn 0 c : Thread nD τ)) (κ := κ₀)
      (d := false) (by rw [duties_bar]; exact Finset.mem_univ _) ((amount_bar V (dn 0 c) false).trans (by decide)) () (owe c sends) rfl)
    $$ [HO Ht0 Hr1]
  · isplitr; · iexact HI0
    isplitl [HO]; · iexact HO
    isplitl [Ht0]; · iexact Ht0
    isplitl [Hr1]
    · have h : rbE (F := F) c 1 ⊢ (Rd V).payload (barC (dn 0 c)) 0 false := by
        show _ ⊢ rbE (F := F) (dn 1 (dn 0 c)) 1
        rw [show dn 1 (dn 0 c) = c from up_dn 0 c]
      iapply h; iexact Hr1
    · iexact HR0
  iintro HO
  iapply (Rounds.wp_wait_rest_token 𝒱₀ ER (Rd V) (c : Thread nD τ) none (κ := κ)
      (wpE_semWait_eq 𝒱₀ (c : Thread nD τ) none Set.univ) (Set.mem_univ _) () (O := owe c sends) (W := W) (R := 0) (m := 0) (T := ∅)
      (by rw [expect_bar]; decide)) $$ [Hc HO Ha]
  · isplitr; · iexact HI
    isplitl [Hc]; · iexact Hc
    isplitl [HO]; · iexact HO
    isplitr; · iapply (mayWait c (.reg barS) sends 1 (le_refl 1) sends_lt); iexact Hlev
    iexact Ha
  iintro ⟨HO, Ha, -, Hpay⟩
  ihave Hp2 := (Entails.of_eq (rest_bar V c)) $$ Hpay
  icases Hp2 with ⟨Hq1, Hq0⟩
  ihave Hz := (Rounds.cell_close ER (Rd V) (Set.mem_univ κ) (fun h => h) (R := 0 + 1) (duties_later V (barC c))) $$ [Ha]
  · isplitr; · iexact HI
    iexact Ha
  imod Hz
  iapply Hk
  isplitl [Hz]; · iexact Hz
  isplitl [Hq1]; · iexact Hq1
  isplitl [Hq0]; · iexact Hq0
  iexists _
  iexact HO

/-! ## Whole buffers and their parts -/

theorem cov_of {T : Type} [Fintype T] [DecidableEq T] {s : Shape} {r : T → Rect s} (h : ∀ i : s.Idx, ∃ t, i ∈ (r t).set) : (Finset.univ.biUnion fun t => (r t).set) = Finset.univ := by
  ext i
  obtain ⟨t, ht⟩ := h i
  exact ⟨fun _ => Finset.mem_univ i, fun _ => Finset.mem_biUnion.2 ⟨t, Finset.mem_univ t, ht⟩⟩

theorem rb_off (s s' : Fin 3) (w w' : Fin 2) (h : (s, w) ≠ (s', w')) : Disjoint (sR s w).set (sR s' w').set := by
  rw [Finset.disjoint_left]
  intro i
  rw [Rect.mem_set_unit, Rect.mem_set_unit]
  intro hi hi'
  apply h
  have a0 : s.val ≤ (i 0).val ∧ (i 0).val < s.val + 1 := hi 0
  have a1 : w.val ≤ (i 1).val ∧ (i 1).val < w.val + 1 := hi 1
  have b0 : s'.val ≤ (i 0).val ∧ (i 0).val < s'.val + 1 := hi' 0
  have b1 : w'.val ≤ (i 1).val ∧ (i 1).val < w'.val + 1 := hi' 1
  rw [show s = s' from Fin.ext (by omega), show w = w' from Fin.ext (by omega)]

theorem rb_cov (i : S3x2x256x512.Idx) : ∃ t : Fin 3 × Fin 2, i ∈ (sR t.1 t.2).set := by
  refine ⟨(⟨(i 0).val, (i 0).isLt⟩, ⟨(i 1).val, (i 1).isLt⟩), ?_⟩
  rw [Rect.mem_set_unit]
  have h2 : (i 2).val < 256 := (i 2).isLt
  have h3 : (i 3).val < 512 := (i 3).isLt
  intro a
  match a with
  | 0 => show (i 0).val ≤ (i 0).val ∧ (i 0).val < (i 0).val + 1; omega
  | 1 => show (i 1).val ≤ (i 1).val ∧ (i 1).val < (i 1).val + 1; omega
  | 2 => show 0 ≤ (i 2).val ∧ (i 2).val < 0 + 256; omega
  | 3 => show 0 ≤ (i 3).val ∧ (i 3).val < 0 + 512; omega

theorem p_off (c : Dev nD) (t t' : Fin 2 × Fin 2 × Fin 4) (h : t ≠ t') : Disjoint (pR t.2.1 (row t.1 c t.2.2.val)).set (pR t'.2.1 (row t'.1 c t'.2.2.val)).set := by
  have key : ∀ (c : Dev nD) (d d' : Fin 2) (k k' : Fin 4), row d c k.val = row d' c k'.val → d = d' ∧ k = k' := by decide
  rw [Finset.disjoint_left]
  intro i
  rw [Rect.mem_set_unit, Rect.mem_set_unit]
  intro hi hi'
  apply h
  have a0 : t.2.1.val ≤ (i 0).val ∧ (i 0).val < t.2.1.val + 1 := hi 0
  have a1 : 256 * (row t.1 c t.2.2.val).val ≤ (i 1).val ∧ (i 1).val < 256 * (row t.1 c t.2.2.val).val + 256 := hi 1
  have b0 : t'.2.1.val ≤ (i 0).val ∧ (i 0).val < t'.2.1.val + 1 := hi' 0
  have b1 : 256 * (row t'.1 c t'.2.2.val).val ≤ (i 1).val ∧ (i 1).val < 256 * (row t'.1 c t'.2.2.val).val + 256 := hi' 1
  obtain ⟨hd, hk⟩ := key c t.1 t'.1 t.2.2 t'.2.2 (Fin.ext (by omega))
  exact Prod.ext hd (Prod.ext (Fin.ext (by omega)) hk)

theorem p_cov (c : Dev nD) (i : S2x2048x512.Idx) : ∃ t : Fin 2 × Fin 2 × Fin 4, i ∈ (pR t.2.1 (row t.1 c t.2.2.val)).set := by
  have key : ∀ (c : Dev nD) (r : Fin 8), ∃ (d : Fin 2) (k : Fin 4), row d c k.val = r := by decide
  have h0 : (i 0).val < 2 := (i 0).isLt
  have h1 : (i 1).val < 2048 := (i 1).isLt
  have h2 : (i 2).val < 512 := (i 2).isLt
  obtain ⟨d, k, hr⟩ := key c ⟨(i 1).val / 256, by omega⟩
  refine ⟨(d, ⟨(i 0).val, h0⟩, k), ?_⟩
  rw [Rect.mem_set_unit, hr]
  intro a
  match a with
  | 0 => show (i 0).val ≤ (i 0).val ∧ (i 0).val < (i 0).val + 1; omega
  | 1 => show 256 * ((i 1).val / 256) ≤ (i 1).val ∧ (i 1).val < 256 * ((i 1).val / 256) + 256; omega
  | 2 => show 0 ≤ (i 2).val ∧ (i 2).val < 0 + 512; omega

theorem q_off (c : Dev nD) (t t' : Fin 2 × Fin 4) (h : t ≠ t') : Disjoint (qR t.1 (cj c t.2.val)).set (qR t'.1 (cj c t'.2.val)).set := by
  have key : ∀ (c : Dev nD) (j j' : Fin 4), cj c j.val = cj c j'.val → j = j' := by decide
  rw [Finset.disjoint_left]
  intro i
  rw [Rect.mem_set_unit, Rect.mem_set_unit]
  intro hi hi'
  apply h
  have a0 : t.1.val ≤ (i 0).val ∧ (i 0).val < t.1.val + 1 := hi 0
  have a1 : 512 * (cj c t.2.val).val ≤ (i 1).val ∧ (i 1).val < 512 * (cj c t.2.val).val + 512 := hi 1
  have b0 : t'.1.val ≤ (i 0).val ∧ (i 0).val < t'.1.val + 1 := hi' 0
  have b1 : 512 * (cj c t'.2.val).val ≤ (i 1).val ∧ (i 1).val < 512 * (cj c t'.2.val).val + 512 := hi' 1
  exact Prod.ext (Fin.ext (by omega)) (key c t.2 t'.2 (Fin.ext (by omega)))

theorem q_cov (c : Dev nD) (i : S2x2048x512.Idx) : ∃ t : Fin 2 × Fin 4, i ∈ (qR t.1 (cj c t.2.val)).set := by
  have key : ∀ (c : Dev nD) (r : Fin 4), ∃ j : Fin 4, cj c j.val = r := by decide
  have h0 : (i 0).val < 2 := (i 0).isLt
  have h1 : (i 1).val < 2048 := (i 1).isLt
  have h2 : (i 2).val < 512 := (i 2).isLt
  obtain ⟨j, hj⟩ := key c ⟨(i 1).val / 512, by omega⟩
  refine ⟨(⟨(i 0).val, h0⟩, j), ?_⟩
  rw [Rect.mem_set_unit, hj]
  intro a
  match a with
  | 0 => show (i 0).val ≤ (i 0).val ∧ (i 0).val < (i 0).val + 1; omega
  | 1 => show 512 * ((i 1).val / 512) ≤ (i 1).val ∧ (i 1).val < 512 * ((i 1).val / 512) + 512; omega
  | 2 => show 0 ≤ (i 2).val ∧ (i 2).val < 0 + 512; omega

theorem rB_set (d : Fin 2) : (rB d).view.set = Finset.univ := by
  revert d; exact Fin.forall_fin_two.2 ⟨View.set_whole _, View.set_whole _⟩

theorem slE_intro (c : Dev nD) (d : Fin 2) (s : Fin 3) (w : Fin 2) (X : _) :
    (owns (c : Thread nD τ) ((rB d).slice (sR s w) fun a => rfl) fullShare X : sProp 𝕄) ⊢ slE (F := F) c d s w := by
  unfold slE sl owns
  iintro ⟨%f, -, H⟩
  iexists _, f
  isplitr
  · ipureintro; rfl
  · have e : (sM d s w).view.set = ((rB d).slice (sR s w) (fun a => rfl)).view.set := by unfold sM; apply View.set_reshape
    have h' : (((rB d).slice (sR s w) (fun a => rfl)).view.loc (c : Thread nD τ) ↦[((rB d).slice (sR s w) (fun a => rfl)).view.set]{fullShare} f : sProp 𝕄)
      ⊢ ((sM d s w).view.loc (c : Thread nD τ) ↦[(sM d s w).view.set]{fullShare} f) := by rw [e]; exact Entails.refl _
    iapply h'; iexact H

/-- A receive buffer is its six slots. -/
theorem rb_split (c : Dev nD) (d : Fin 2) : (rbE c d : sProp 𝕄) ⊢ bigSep Finset.univ fun t : Fin 3 × Fin 2 => slE (F := F) c d t.1 t.2 := by
  have h (g : Buf (Elt F) ((rB d).view.loc (c : Thread nD τ))) : ((rB d).view.loc (c : Thread nD τ) ↦[(rB d).view.set]{fullShare} g : sProp 𝕄)
      ⊢ bigSep Finset.univ fun t : Fin 3 × Fin 2 => slE (F := F) c d t.1 t.2 := by
    rw [pointsTo_rects (c : Thread nD τ) (rB d) fullShare (fun t : Fin 3 × Fin 2 => sR t.1 t.2) (fun t a => rfl) (fun t t' h => rb_off _ _ _ _ h) (cov_of rb_cov) g]
    refine bigSep_mono fun t _ => ?_
    exact slE_intro c d t.1 t.2 _
  unfold rbE
  iintro ⟨%g, H⟩
  have hset := rB_set d
  iapply (h g)
  rw [hset]
  iexact H

/-- A squeezed part of a buffer is that part. -/
theorem owns_unsq {s : Shape} (m : Memref sig .tc .vmem s .bf16) (R : Rect s) (hr : ∀ a, R.stride a = 1) {s' : Shape} (hq : Shape.Squeezes ⟨s.rank, R.size⟩ s')
    (c : Dev nD) (q : PosShare TreeShare) (X : s'.Idx → Elt F .bf16) :
    (owns (c : Thread nD τ) ((m.slice R hr).squeeze s' hq) q X : sProp 𝕄) ⊢ ownsSat (c : Thread nD τ) (m.slice R hr) q fun _ => True := by
  unfold owns
  iintro ⟨%f, -, H⟩
  have e : ((m.slice R hr).squeeze s' hq).view.set = (m.slice R hr).view.set := by apply View.set_reshape
  have h' : (((m.slice R hr).squeeze s' hq).view.loc (c : Thread nD τ) ↦[((m.slice R hr).squeeze s' hq).view.set]{q} f : sProp 𝕄)
      ⊢ ((m.slice R hr).view.loc (c : Thread nD τ) ↦[(m.slice R hr).view.set]{q} f) := by rw [e]
  iapply (ownsSat_intro (c : Thread nD τ) (m.slice R hr) q (X := (m.slice R hr).view.read (Elt F) f) trivial)
  iapply (owns_intro (c : Thread nD τ) (m.slice R hr) q f)
  iapply h'; iexact H

theorem slE_sat (c : Dev nD) (d : Fin 2) (s : Fin 3) (w : Fin 2) :
    (slE (F := F) c d s w : sProp 𝕄) ⊢ ownsSat (c : Thread nD τ) ((rB d).slice (sR s w) fun a => rfl) fullShare fun _ => True := by
  unfold slE sl sM
  iintro ⟨%X, H⟩
  iapply (owns_unsq (rB d) (sR s w) (fun a => rfl) squeezes_S1x1x256x512_S256x512 c fullShare X)
  iexact H

theorem pcE_sat (c : Dev nD) (w : Fin 2) (r : Fin 8) :
    (pcE (F := F) c w r : sProp 𝕄) ⊢ ownsSat (c : Thread nD τ) (pB.slice (pR w r) fun a => rfl) fullShare fun _ => True := by
  unfold pcE pc pM
  iintro ⟨%X, H⟩
  iapply (owns_unsq pB (pR w r) (fun a => rfl) squeezes_S1x256x512_S256x512 c fullShare X)
  iexact H

theorem rb_join (c : Dev nD) (d : Fin 2) : (bigSep Finset.univ fun t : Fin 3 × Fin 2 => slE (F := F) c d t.1 t.2) ⊢ (rbE c d : sProp 𝕄) := by
  have h1 : (bigSep Finset.univ fun t : Fin 3 × Fin 2 => slE (F := F) c d t.1 t.2)
      ⊢ (bigSep Finset.univ fun t : Fin 3 × Fin 2 => ownsSat (c : Thread nD τ) ((rB d).slice (sR t.1 t.2) fun a => rfl) fullShare fun _ => True : sProp 𝕄) := by
    refine bigSep_mono fun t _ => ?_
    exact slE_sat c d t.1 t.2
  have h2 := ownsSat_of_rects (c : Thread nD τ) (rB d) fullShare (fun t : Fin 3 × Fin 2 => sR t.1 t.2) (fun t a => rfl)
    (fun t t' h => rb_off _ _ _ _ h) (cov_of rb_cov) (fun _ _ => True) (Val := Elt F) (Ix := Unit) (Name := ℕ) (U := UU) (Lvl := ℕ)
  refine (h1.trans h2).trans ?_
  unfold ownsSat rbE
  iintro ⟨%f, -, H⟩
  iexists f
  have e : ((rB d).view.loc (c : Thread nD τ) ↦[(rB d).view.set]{fullShare} f : sProp 𝕄) ⊢ ((rB d).view.loc (c : Thread nD τ) ↦{fullShare} f) := by rw [rB_set d]
  iapply e; iexact H

theorem p_join (c : Dev nD) : (bigSep Finset.univ fun t : Fin 2 × Fin 2 × Fin 4 => pcE (F := F) c t.2.1 (row t.1 c t.2.2.val))
    ⊢ (iprop(∃ f, whole c cc0_scratch0 f) : sProp 𝕄) := by
  have h1 : (bigSep Finset.univ fun t : Fin 2 × Fin 2 × Fin 4 => pcE (F := F) c t.2.1 (row t.1 c t.2.2.val))
      ⊢ (bigSep Finset.univ fun t : Fin 2 × Fin 2 × Fin 4 => ownsSat (c : Thread nD τ) (pB.slice (pR t.2.1 (row t.1 c t.2.2.val)) fun a => rfl) fullShare fun _ => True : sProp 𝕄) := by
    refine bigSep_mono fun t _ => ?_
    exact pcE_sat c t.2.1 (row t.1 c t.2.2.val)
  have h2 := ownsSat_of_rects (c : Thread nD τ) pB fullShare (fun t : Fin 2 × Fin 2 × Fin 4 => pR t.2.1 (row t.1 c t.2.2.val)) (fun t a => rfl)
    (fun t t' h => p_off c t t' h) (cov_of (p_cov c)) (fun _ _ => True) (Val := Elt F) (Ix := Unit) (Name := ℕ) (U := UU) (Lvl := ℕ)
  refine (h1.trans h2).trans ?_
  unfold ownsSat
  iintro ⟨%f, -, H⟩
  iexists f
  have e : (pB.view.loc (c : Thread nD τ) ↦[pB.view.set]{fullShare} f : sProp 𝕄) ⊢ whole c cc0_scratch0 f := by rw [View.set_whole]
  iapply e; iexact H

theorem raw_intro (c : Dev nD) (w : Fin 2) (j : ℕ) (X : _) :
    (owns (c : Thread nD τ) (pB.slice (qR w (cj c j)) fun a => rfl) fullShare X : sProp 𝕄) ⊢ raw (F := F) c w j := by
  unfold raw
  iintro H
  iexists X
  iexact H

theorem p_split (c : Dev nD) (f : Buf (Elt F) ((c : Thread nD τ).loc cc0_scratch0)) :
    (whole c cc0_scratch0 f : sProp 𝕄) ⊢ bigSep Finset.univ fun t : Fin 2 × Fin 4 => raw (F := F) c t.1 t.2.val := by
  have h : (pB.view.loc (c : Thread nD τ) ↦[pB.view.set]{fullShare} f : sProp 𝕄) ⊢ bigSep Finset.univ fun t : Fin 2 × Fin 4 => raw (F := F) c t.1 t.2.val := by
    rw [pointsTo_rects (c : Thread nD τ) pB fullShare (fun t : Fin 2 × Fin 4 => qR t.1 (cj c t.2.val)) (fun t a => rfl) (fun t t' h => q_off c t t' h) (cov_of (q_cov c)) f]
    refine bigSep_mono fun t _ => ?_
    exact raw_intro c t.1 t.2.val _
  rw [View.set_whole] at h
  exact h

/-! ## The same, lane by lane -/

theorem dsts_all (c : Dev nD) (d : Fin 2) : (rbE (dn d c) d : sProp 𝕄) ⊢ iprop(dsts (F := F) d 0 0 c ∗ dsts (F := F) d 1 0 c) := by
  refine (rb_split (dn d c) d).trans ?_
  rw [bigSep_univ_eq_bigSepL [(0, 0), (1, 0), (2, 0), (0, 1), (1, 1), (2, 1)] (by decide) (by decide)]
  simp only [bigSepL_cons_cons, bigSepL_singleton]
  show iprop(slE (F := F) (dn d c) d 0 0 ∗ slE (F := F) (dn d c) d 1 0 ∗ slE (F := F) (dn d c) d 2 0 ∗ slE (F := F) (dn d c) d 0 1 ∗ slE (F := F) (dn d c) d 1 1 ∗ slE (F := F) (dn d c) d 2 1) ⊢ iprop((slE (F := F) (dn d c) d 0 0 ∗ slE (F := F) (dn d c) d 1 0 ∗ slE (F := F) (dn d c) d 2 0 ∗ emp) ∗ (slE (F := F) (dn d c) d 0 1 ∗ slE (F := F) (dn d c) d 1 1 ∗ slE (F := F) (dn d c) d 2 1 ∗ emp))
  iintro ⟨H0, H1, H2, H3, H4, H5⟩
  isplitl [H0 H1 H2]
  · isplitl [H0]; · iexact H0
    isplitl [H1]; · iexact H1
    isplitl [H2]; · iexact H2
    iempintro
  · isplitl [H3]; · iexact H3
    isplitl [H4]; · iexact H4
    isplitl [H5]; · iexact H5
    iempintro

theorem raws_all (c : Dev nD) (f : Buf (Elt F) ((c : Thread nD τ).loc cc0_scratch0)) : (whole c cc0_scratch0 f : sProp 𝕄)
    ⊢ iprop(raw (F := F) c 0 0 ∗ raw (F := F) c 0 1 ∗ raw (F := F) c 0 2 ∗ raw (F := F) c 0 3 ∗ raw (F := F) c 1 0 ∗ raw (F := F) c 1 1 ∗ raw (F := F) c 1 2 ∗ raw (F := F) c 1 3) := by
  refine (p_split c f).trans ?_
  rw [bigSep_univ_eq_bigSepL [(0, 0), (0, 1), (0, 2), (0, 3), (1, 0), (1, 1), (1, 2), (1, 3)] (by decide) (by decide)]
  simp only [bigSepL_cons_cons, bigSepL_singleton]
  exact Entails.refl _

/-- The pieces of the sum buffer and of the receive buffer that a lane ends with. -/
def ends (d w : Fin 2) (c : Dev nD) : sProp 𝕄 := iprop((pcE (F := F) c w (row d c 0) ∗ pcE (F := F) c w (row d c 1) ∗ pcE (F := F) c w (row d c 2) ∗ pcE (F := F) c w (row d c 3))
  ∗ (slE (F := F) c d 0 w ∗ slE (F := F) c d 1 w ∗ slE (F := F) c d 2 w))

theorem ready_ends (d w : Fin 2) (c : Dev nD) : Ready V d w 6 c ⊢ iprop(ends (F := F) d w c ∗ zeros (F := F) d w 6 c) := by
  unfold Ready held slots ends
  show iprop(pc c w (row d c 2) fullShare (M V d w 6 c) ∗ fuel d w 6 c ∗ dsts d w 6 c ∗ regs d w 6 c
    ∗ (slE (F := F) c d 2 w ∗ slE (F := F) c d 1 w ∗ slE (F := F) c d 0 w ∗ emp)
    ∗ (pc c w (row d c 1) fullShare (M V d w 5 c) ∗ pc c w (row d c 0) fullShare (M V d w 4 c) ∗ pc c w (row d c 3) fullShare (M V d w 3 c) ∗ emp) ∗ zeros d w 6 c) ⊢ _
  iintro ⟨H2, -, -, -, ⟨S2, S1, S0, -⟩, ⟨H1, H0, H3, -⟩, Hz⟩
  isplitr [Hz]
  rotate_left
  · iexact Hz
  unfold pcE
  isplitl [H0 H1 H2 H3]
  · isplitl [H0]; · iexists _; iexact H0
    isplitl [H1]; · iexists _; iexact H1
    isplitl [H2]; · iexists _; iexact H2
    iexists _; iexact H3
  · isplitl [S0]; · iexact S0
    isplitl [S1]; · iexact S1
    iexact S2

theorem ends_all (c : Dev nD) : iprop(ends (F := F) 0 0 c ∗ ends (F := F) 0 1 c ∗ ends (F := F) 1 0 c ∗ ends (F := F) 1 1 c)
    ⊢ iprop((∃ f, whole c cc0_scratch0 f) ∗ rbE (F := F) c 0 ∗ rbE (F := F) c 1) := by
  have hp : iprop(pcE (F := F) c 0 (row 0 c 0) ∗ pcE (F := F) c 0 (row 0 c 1) ∗ pcE (F := F) c 0 (row 0 c 2) ∗ pcE (F := F) c 0 (row 0 c 3) ∗ pcE (F := F) c 1 (row 0 c 0) ∗ pcE (F := F) c 1 (row 0 c 1) ∗ pcE (F := F) c 1 (row 0 c 2) ∗ pcE (F := F) c 1 (row 0 c 3) ∗ pcE (F := F) c 0 (row 1 c 0) ∗ pcE (F := F) c 0 (row 1 c 1) ∗ pcE (F := F) c 0 (row 1 c 2) ∗ pcE (F := F) c 0 (row 1 c 3) ∗ pcE (F := F) c 1 (row 1 c 0) ∗ pcE (F := F) c 1 (row 1 c 1) ∗ pcE (F := F) c 1 (row 1 c 2) ∗ pcE (F := F) c 1 (row 1 c 3)) ⊢ (iprop(∃ f, whole c cc0_scratch0 f) : sProp 𝕄) := by
    have h := p_join (F := F) c
    rw [bigSep_univ_eq_bigSepL [(0, 0, 0), (0, 0, 1), (0, 0, 2), (0, 0, 3), (0, 1, 0), (0, 1, 1), (0, 1, 2), (0, 1, 3),
    (1, 0, 0), (1, 0, 1), (1, 0, 2), (1, 0, 3), (1, 1, 0), (1, 1, 1), (1, 1, 2), (1, 1, 3)] (by decide) (by decide)] at h
    simp only [bigSepL_cons_cons, bigSepL_singleton] at h
    exact h
  have h0 : iprop(slE (F := F) c 0 0 0 ∗ slE (F := F) c 0 1 0 ∗ slE (F := F) c 0 2 0 ∗ slE (F := F) c 0 0 1 ∗ slE (F := F) c 0 1 1 ∗ slE (F := F) c 0 2 1) ⊢ rbE (F := F) c 0 := by
    have h := rb_join (F := F) c 0
    rw [bigSep_univ_eq_bigSepL [(0, 0), (1, 0), (2, 0), (0, 1), (1, 1), (2, 1)] (by decide) (by decide)] at h
    simp only [bigSepL_cons_cons, bigSepL_singleton] at h
    exact h
  have h1 : iprop(slE (F := F) c 1 0 0 ∗ slE (F := F) c 1 1 0 ∗ slE (F := F) c 1 2 0 ∗ slE (F := F) c 1 0 1 ∗ slE (F := F) c 1 1 1 ∗ slE (F := F) c 1 2 1) ⊢ rbE (F := F) c 1 := by
    have h := rb_join (F := F) c 1
    rw [bigSep_univ_eq_bigSepL [(0, 0), (1, 0), (2, 0), (0, 1), (1, 1), (2, 1)] (by decide) (by decide)] at h
    simp only [bigSepL_cons_cons, bigSepL_singleton] at h
    exact h
  unfold ends
  iintro ⟨⟨⟨A0, A1, A2, A3⟩, S00, S01, S02⟩, ⟨⟨A4, A5, A6, A7⟩, S03, S04, S05⟩, ⟨⟨A8, A9, A10, A11⟩, S10, S11, S12⟩, ⟨⟨A12, A13, A14, A15⟩, S13, S14, S15⟩⟩
  isplitl [A0 A1 A2 A3 A4 A5 A6 A7 A8 A9 A10 A11 A12 A13 A14 A15]
  · iapply hp
    iframe A0 A1 A2 A3 A4 A5 A6 A7 A8 A9 A10 A11 A12 A13 A14 A15
  isplitl [S00 S01 S02 S03 S04 S05]
  · iapply h0
    iframe S00 S01 S02 S03 S04 S05
  · iapply h1
    iframe S10 S11 S12 S13 S14 S15

end Cert.Ring

end

end
-- ==== Proof.Steps.lean ====
module

public import proofs.«01_k».proof.Proof.Bar

/-!
# Reading and adding pieces, at the level of a lane
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Dev nD → Fin 2 → Fin 2 → ℕ → PV F)

section Lanes
variable (d w : Fin 2) (t : ℕ) (c : Dev nD) {α : Type}

/-- The state of a lane before its first transfer. -/
theorem lane_start : iprop(pc c w (row d c 0) fullShare (V c d w 0) ∗ fuel (F := F) d w 0 c ∗ dsts (F := F) d w 0 c) ⊢ Ready V d w 0 c := by
  unfold Ready
  show _ ⊢ iprop(pc c w (row d c 0) fullShare (V c d w 0) ∗ fuel d w 0 c ∗ dsts d w 0 c ∗ emp ∗ emp ∗ emp ∗ emp)
  iintro ⟨H1, H2, H3⟩
  isplitl [H1]; · iexact H1
  isplitl [H2]; · iexact H2
  isplitl [H3]; · iexact H3
  isplitl []; · iempintro
  isplitl []; · iempintro
  isplitl []; · iempintro
  iempintro

theorem got_slot : Got V d w t c ⊢ iprop(sl c d (Fin.ofNat 3 t) w (M V d w t (up d c)) ∗ (sl c d (Fin.ofNat 3 t) w (M V d w t (up d c)) -∗ Got V d w t c)) := by
  unfold Got
  iintro ⟨H1, H2⟩
  isplitl [H1]; · iexact H1
  iintro H1
  isplitl [H1]; · iexact H1
  iexact H2

/-- Reading the slot that has just been filled. -/
theorem ld_got {Q : α → sProp 𝕄} {off : Fin 4 → ℕ} (hoff : off = ![(Fin.ofNat 3 t).val, w.val, 0, 0]) {hi : ∀ a, off a + S1x1x256x512.size a ≤ S3x2x256x512.size a}
    {hl : (rB d).view.LoadsAt (Rect.unit (s := S3x2x256x512) off S1x1x256x512.size hi).toLoadRect} {k : Vec F S1x1x256x512 .bf16 → Prog (TpuEff nD τ sig (Elt F) Λ₀ .tc) α} :
    Got V d w t c ⊢ iprop((Got V d w t c -∗ WP c (k (sq4 (M V d w t (up d c)))) Q) -∗ WP c (.op (.load (rB d) (Rect.unit (s := S3x2x256x512) off S1x1x256x512.size hi).toLoadRect hl) k) Q) := by
  iintro H Hk
  ihave H := (got_slot V d w t c) $$ H
  icases H with ⟨H1, H2⟩
  iapply (ld_slot c hoff) $$ H1
  iintro H1
  iapply Hk
  iapply H2
  iexact H1

/-- Adding the arrived sum into the lane's next piece. -/
theorem add_piece (ht : t < 3) {Q : α → sProp 𝕄} {off : Fin 3 → ℕ} (hoff : off = ![w.val, 256 * (row d c (t + 1)).val, 0])
    {hi : ∀ a, off a + S1x256x512.size a ≤ S2x2048x512.size a} {W : FVec F S1x256x512 .bf16} (hW : W = sq (addf (V c d w (t + 1)) (M V d w t (up d c))))
    {hx : (pB.access (Rect.unit (s := S2x2048x512) off S1x256x512.size hi)).Stores Finset.univ}
    {hm : Finset.univ = Finset.univ ∨ ∀ a, (Rect.unit (s := S2x2048x512) off S1x256x512.size hi).stride a = 1}
    {k : PUnit → Prog (TpuEff nD τ sig (Elt F) Λ₀ .tc) α} :
    iprop(Got V d w t c ∗ pc c w (row d c (t + 1)) fullShare (V c d w (t + 1)))
      ⊢ iprop((Ready V d w (t + 1) c -∗ WP c (k ⟨⟩) Q) -∗ WP c (.op (.store pB (Rect.unit (s := S2x2048x512) off S1x256x512.size hi) W Finset.univ hx hm) k) Q) := by
  iintro ⟨HG, HP⟩ Hk
  iapply (st_piece c hoff _ hW) $$ HP
  iintro HP
  iapply Hk
  iapply (got_ready V d w t c ht)
  isplitl [HG]; · iexact HG
  iexact HP

/-- Reading the half of a finished piece that stays behind while the other half is sent. -/
theorem ld_sent (h3 : 3 ≤ t) {Q : α → sProp 𝕄} {off : Fin 3 → ℕ} (hoff : off = ![w.val, 256 * (row d c (t % 4)).val, 0]) {hi : ∀ a, off a + S1x256x512.size a ≤ S2x2048x512.size a}
    {hl : pB.view.LoadsAt (Rect.unit (s := S2x2048x512) off S1x256x512.size hi).toLoadRect} {k : Vec F S1x256x512 .bf16 → Prog (TpuEff nD τ sig (Elt F) Λ₀ .tc) α} :
    Sent V d w t c ⊢ iprop((Sent V d w t c -∗ WP c (k (sq (M V d w t c))) Q) -∗ WP c (.op (.load pB (Rect.unit (s := S2x2048x512) off S1x256x512.size hi).toLoadRect hl) k) Q) := by
  iintro H Hk
  ihave H := (sent_stay V d w t c h3) $$ H
  icases H with ⟨H1, H2⟩
  iapply (ld_piece c hoff) $$ H1
  iintro H1
  iapply Hk
  iapply H2
  iexact H1

theorem ld_ready {Q : α → sProp 𝕄} {off : Fin 3 → ℕ} (hoff : off = ![w.val, 256 * (row d c (t % 4)).val, 0]) {hi : ∀ a, off a + S1x256x512.size a ≤ S2x2048x512.size a}
    {hl : pB.view.LoadsAt (Rect.unit (s := S2x2048x512) off S1x256x512.size hi).toLoadRect} {k : Vec F S1x256x512 .bf16 → Prog (TpuEff nD τ sig (Elt F) Λ₀ .tc) α} :
    Ready V d w t c ⊢ iprop((Ready V d w t c -∗ WP c (k (sq (M V d w t c))) Q) -∗ WP c (.op (.load pB (Rect.unit (s := S2x2048x512) off S1x256x512.size hi).toLoadRect hl) k) Q) := by
  iintro H Hk
  ihave H := (ready_piece V d w t c) $$ H
  icases H with ⟨H1, H2⟩
  iapply (ld_piece c hoff) $$ H1
  iintro H1
  iapply Hk
  iapply H2
  iexact H1

/-- The barrier, with the neighbours' receive buffers lane by lane. -/
theorem bar_lanes {p1 p2 : Dev nD} (h1 : p1 = dn 1 c) (h2 : p2 = dn 0 c) {Q : α → sProp 𝕄} {k : PUnit → Prog (TpuEff nD τ sig (Elt F) Λ₀ .tc) α} :
    iprop(Ctx V ∗ BarPre (F := F) c ∗ OwB (F := F) c)
      ⊢ iprop(((semVal (barC c) 0 ∗ dsts (F := F) 0 0 0 c ∗ dsts (F := F) 0 1 0 c ∗ dsts (F := F) 1 0 0 c ∗ dsts (F := F) 1 1 0 c ∗ Ow (F := F) 0 c) -∗ WP c (k ⟨⟩) Q)
        -∗ WP c (.op (.semSignal (p1, .tc) barS (1#32).toInt) fun _ => .op (.semSignal (p2, .tc) barS (1#32).toInt) fun _ => .op (.semWait barS (2#32).toInt) k) Q) := by
  iintro H Hk
  iapply (bar_step V c h1 h2) $$ H
  iintro ⟨Hs, Hb1, Hb0, Ho⟩
  ihave H1 := (dsts_all c 1) $$ Hb1
  ihave H0 := (dsts_all c 0) $$ Hb0
  icases H1 with ⟨H10, H11⟩
  icases H0 with ⟨H00, H01⟩
  iapply Hk
  isplitl [Hs]; · iexact Hs
  isplitl [H00]; · iexact H00
  isplitl [H01]; · iexact H01
  isplitl [H10]; · iexact H10
  isplitl [H11]; · iexact H11
  iexact Ho
end Lanes

end Cert.Ring

end

end
-- ==== Proof.Facts.lean ====
module

public import proofs.«01_k».proof.Proof.Steps

/-!
# Where each access of the program lies, and what it stores
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Dev nD → Fin 2 → Fin 2 → ℕ → PV F)

/-! ## Where the accesses lie -/

theorem oc3_ (c : Dev nD) : k0_off3 c = ![(0 : Fin 2).val, 512 * (cj c 0).val, 0] := by revert c; decide +kernel
theorem oc6_ (c : Dev nD) : k0_off6 c = ![(1 : Fin 2).val, 512 * (cj c 0).val, 0] := by revert c; decide +kernel
theorem oc13_1 (c : Dev nD) : k0_off13 c 1#32 = ![(0 : Fin 2).val, 512 * (cj c 1).val, 0] := by revert c; decide +kernel
theorem oc13_2 (c : Dev nD) : k0_off13 c 2#32 = ![(0 : Fin 2).val, 512 * (cj c 2).val, 0] := by revert c; decide +kernel
theorem oc14_ (c : Dev nD) : k0_off14 c = ![(0 : Fin 2).val, 512 * (cj c 3).val, 0] := by revert c; decide +kernel
theorem oc17_1 (c : Dev nD) : k0_off17 c 1#32 = ![(1 : Fin 2).val, 512 * (cj c 1).val, 0] := by revert c; decide +kernel
theorem oc17_2 (c : Dev nD) : k0_off17 c 2#32 = ![(1 : Fin 2).val, 512 * (cj c 2).val, 0] := by revert c; decide +kernel
theorem oc18_ (c : Dev nD) : k0_off18 c = ![(1 : Fin 2).val, 512 * (cj c 3).val, 0] := by revert c; decide +kernel
theorem oo26_1_0 (c : Dev nD) : k0_off26 c 1#32 0#32 = ![256 * (row 0 c 3).val, 512 * (0 : Fin 2).val] := by revert c; decide +kernel
theorem oo26_1_256 (c : Dev nD) : k0_off26 c 1#32 256#32 = ![256 * (row 1 c 1).val, 512 * (0 : Fin 2).val] := by revert c; decide +kernel
theorem oo26_2_0 (c : Dev nD) : k0_off26 c 2#32 0#32 = ![256 * (row 0 c 2).val, 512 * (0 : Fin 2).val] := by revert c; decide +kernel
theorem oo26_2_256 (c : Dev nD) : k0_off26 c 2#32 256#32 = ![256 * (row 1 c 2).val, 512 * (0 : Fin 2).val] := by revert c; decide +kernel
theorem oo28_1_0 (c : Dev nD) : k0_off28 c 1#32 0#32 = ![256 * (row 0 c 3).val, 512 * (1 : Fin 2).val] := by revert c; decide +kernel
theorem oo28_1_256 (c : Dev nD) : k0_off28 c 1#32 256#32 = ![256 * (row 1 c 1).val, 512 * (1 : Fin 2).val] := by revert c; decide +kernel
theorem oo28_2_0 (c : Dev nD) : k0_off28 c 2#32 0#32 = ![256 * (row 0 c 2).val, 512 * (1 : Fin 2).val] := by revert c; decide +kernel
theorem oo28_2_256 (c : Dev nD) : k0_off28 c 2#32 256#32 = ![256 * (row 1 c 2).val, 512 * (1 : Fin 2).val] := by revert c; decide +kernel
theorem oo30_0 (c : Dev nD) : k0_off30 c 0#32 = ![256 * (row 0 c 1).val, 512 * (0 : Fin 2).val] := by revert c; decide +kernel
theorem oo30_256 (c : Dev nD) : k0_off30 c 256#32 = ![256 * (row 1 c 3).val, 512 * (0 : Fin 2).val] := by revert c; decide +kernel
theorem oo32_0 (c : Dev nD) : k0_off32 c 0#32 = ![256 * (row 0 c 1).val, 512 * (1 : Fin 2).val] := by revert c; decide +kernel
theorem oo32_256 (c : Dev nD) : k0_off32 c 256#32 = ![256 * (row 1 c 3).val, 512 * (1 : Fin 2).val] := by revert c; decide +kernel
theorem oo34_0 (c : Dev nD) : k0_off34 c 0#32 = ![256 * (row 0 c 0).val, 512 * (0 : Fin 2).val] := by revert c; decide +kernel
theorem oo34_256 (c : Dev nD) : k0_off34 c 256#32 = ![256 * (row 1 c 0).val, 512 * (0 : Fin 2).val] := by revert c; decide +kernel
theorem oo36_0 (c : Dev nD) : k0_off36 c 0#32 = ![256 * (row 0 c 0).val, 512 * (1 : Fin 2).val] := by revert c; decide +kernel
theorem oo36_256 (c : Dev nD) : k0_off36 c 256#32 = ![256 * (row 1 c 0).val, 512 * (1 : Fin 2).val] := by revert c; decide +kernel
theorem op4_0 (c : Dev nD) : k0_off4 c 0#32 = ![(0 : Fin 2).val, 256 * (row 0 c 0).val, 0] := by revert c; decide +kernel
theorem op4_1 (c : Dev nD) : k0_off4 c 1#32 = ![(0 : Fin 2).val, 256 * (row 0 c 1).val, 0] := by revert c; decide +kernel
theorem op4_2 (c : Dev nD) : k0_off4 c 2#32 = ![(0 : Fin 2).val, 256 * (row 0 c 2).val, 0] := by revert c; decide +kernel
theorem op5_0 (c : Dev nD) : k0_off5 c 0#32 = ![(0 : Fin 2).val, 256 * (row 1 c 0).val, 0] := by revert c; decide +kernel
theorem op5_1 (c : Dev nD) : k0_off5 c 1#32 = ![(0 : Fin 2).val, 256 * (row 1 c 1).val, 0] := by revert c; decide +kernel
theorem op5_2 (c : Dev nD) : k0_off5 c 2#32 = ![(0 : Fin 2).val, 256 * (row 1 c 2).val, 0] := by revert c; decide +kernel
theorem op7_0 (c : Dev nD) : k0_off7 c 0#32 = ![(1 : Fin 2).val, 256 * (row 0 c 0).val, 0] := by revert c; decide +kernel
theorem op7_1 (c : Dev nD) : k0_off7 c 1#32 = ![(1 : Fin 2).val, 256 * (row 0 c 1).val, 0] := by revert c; decide +kernel
theorem op7_2 (c : Dev nD) : k0_off7 c 2#32 = ![(1 : Fin 2).val, 256 * (row 0 c 2).val, 0] := by revert c; decide +kernel
theorem op8_0 (c : Dev nD) : k0_off8 c 0#32 = ![(1 : Fin 2).val, 256 * (row 1 c 0).val, 0] := by revert c; decide +kernel
theorem op8_1 (c : Dev nD) : k0_off8 c 1#32 = ![(1 : Fin 2).val, 256 * (row 1 c 1).val, 0] := by revert c; decide +kernel
theorem op8_2 (c : Dev nD) : k0_off8 c 2#32 = ![(1 : Fin 2).val, 256 * (row 1 c 2).val, 0] := by revert c; decide +kernel
theorem op15_0 (c : Dev nD) : k0_off15 c 0#32 = ![(0 : Fin 2).val, 256 * (row 0 c 1).val, 0] := by revert c; decide +kernel
theorem op15_1 (c : Dev nD) : k0_off15 c 1#32 = ![(0 : Fin 2).val, 256 * (row 0 c 2).val, 0] := by revert c; decide +kernel
theorem op15_2 (c : Dev nD) : k0_off15 c 2#32 = ![(0 : Fin 2).val, 256 * (row 0 c 3).val, 0] := by revert c; decide +kernel
theorem op16_0 (c : Dev nD) : k0_off16 c 0#32 = ![(0 : Fin 2).val, 256 * (row 1 c 1).val, 0] := by revert c; decide +kernel
theorem op16_1 (c : Dev nD) : k0_off16 c 1#32 = ![(0 : Fin 2).val, 256 * (row 1 c 2).val, 0] := by revert c; decide +kernel
theorem op16_2 (c : Dev nD) : k0_off16 c 2#32 = ![(0 : Fin 2).val, 256 * (row 1 c 3).val, 0] := by revert c; decide +kernel
theorem op19_0 (c : Dev nD) : k0_off19 c 0#32 = ![(1 : Fin 2).val, 256 * (row 0 c 1).val, 0] := by revert c; decide +kernel
theorem op19_1 (c : Dev nD) : k0_off19 c 1#32 = ![(1 : Fin 2).val, 256 * (row 0 c 2).val, 0] := by revert c; decide +kernel
theorem op19_2 (c : Dev nD) : k0_off19 c 2#32 = ![(1 : Fin 2).val, 256 * (row 0 c 3).val, 0] := by revert c; decide +kernel
theorem op20_0 (c : Dev nD) : k0_off20 c 0#32 = ![(1 : Fin 2).val, 256 * (row 1 c 1).val, 0] := by revert c; decide +kernel
theorem op20_1 (c : Dev nD) : k0_off20 c 1#32 = ![(1 : Fin 2).val, 256 * (row 1 c 2).val, 0] := by revert c; decide +kernel
theorem op20_2 (c : Dev nD) : k0_off20 c 2#32 = ![(1 : Fin 2).val, 256 * (row 1 c 3).val, 0] := by revert c; decide +kernel
theorem op21_0 (c : Dev nD) : k0_off21 c 0#32 = ![(0 : Fin 2).val, 256 * (row 0 c 3).val, 0] := by revert c; decide +kernel
theorem op21_1 (c : Dev nD) : k0_off21 c 1#32 = ![(0 : Fin 2).val, 256 * (row 0 c 0).val, 0] := by revert c; decide +kernel
theorem op21_2 (c : Dev nD) : k0_off21 c 2#32 = ![(0 : Fin 2).val, 256 * (row 0 c 1).val, 0] := by revert c; decide +kernel
theorem op22_0 (c : Dev nD) : k0_off22 c 0#32 = ![(0 : Fin 2).val, 256 * (row 1 c 3).val, 0] := by revert c; decide +kernel
theorem op22_1 (c : Dev nD) : k0_off22 c 1#32 = ![(0 : Fin 2).val, 256 * (row 1 c 0).val, 0] := by revert c; decide +kernel
theorem op22_2 (c : Dev nD) : k0_off22 c 2#32 = ![(0 : Fin 2).val, 256 * (row 1 c 1).val, 0] := by revert c; decide +kernel
theorem op23_0 (c : Dev nD) : k0_off23 c 0#32 = ![(1 : Fin 2).val, 256 * (row 0 c 3).val, 0] := by revert c; decide +kernel
theorem op23_1 (c : Dev nD) : k0_off23 c 1#32 = ![(1 : Fin 2).val, 256 * (row 0 c 0).val, 0] := by revert c; decide +kernel
theorem op23_2 (c : Dev nD) : k0_off23 c 2#32 = ![(1 : Fin 2).val, 256 * (row 0 c 1).val, 0] := by revert c; decide +kernel
theorem op24_0 (c : Dev nD) : k0_off24 c 0#32 = ![(1 : Fin 2).val, 256 * (row 1 c 3).val, 0] := by revert c; decide +kernel
theorem op24_1 (c : Dev nD) : k0_off24 c 1#32 = ![(1 : Fin 2).val, 256 * (row 1 c 0).val, 0] := by revert c; decide +kernel
theorem op24_2 (c : Dev nD) : k0_off24 c 2#32 = ![(1 : Fin 2).val, 256 * (row 1 c 1).val, 0] := by revert c; decide +kernel
theorem op25_1_0 (c : Dev nD) : k0_off25 c 1#32 0#32 = ![(0 : Fin 2).val, 256 * (row 0 c 3).val, 0] := by revert c; decide +kernel
theorem op25_1_256 (c : Dev nD) : k0_off25 c 1#32 256#32 = ![(0 : Fin 2).val, 256 * (row 1 c 1).val, 0] := by revert c; decide +kernel
theorem op25_2_0 (c : Dev nD) : k0_off25 c 2#32 0#32 = ![(0 : Fin 2).val, 256 * (row 0 c 2).val, 0] := by revert c; decide +kernel
theorem op25_2_256 (c : Dev nD) : k0_off25 c 2#32 256#32 = ![(0 : Fin 2).val, 256 * (row 1 c 2).val, 0] := by revert c; decide +kernel
theorem op27_1_0 (c : Dev nD) : k0_off27 c 1#32 0#32 = ![(1 : Fin 2).val, 256 * (row 0 c 3).val, 0] := by revert c; decide +kernel
theorem op27_1_256 (c : Dev nD) : k0_off27 c 1#32 256#32 = ![(1 : Fin 2).val, 256 * (row 1 c 1).val, 0] := by revert c; decide +kernel
theorem op27_2_0 (c : Dev nD) : k0_off27 c 2#32 0#32 = ![(1 : Fin 2).val, 256 * (row 0 c 2).val, 0] := by revert c; decide +kernel
theorem op27_2_256 (c : Dev nD) : k0_off27 c 2#32 256#32 = ![(1 : Fin 2).val, 256 * (row 1 c 2).val, 0] := by revert c; decide +kernel
theorem op29_0 (c : Dev nD) : k0_off29 c 0#32 = ![(0 : Fin 2).val, 256 * (row 0 c 1).val, 0] := by revert c; decide +kernel
theorem op29_256 (c : Dev nD) : k0_off29 c 256#32 = ![(0 : Fin 2).val, 256 * (row 1 c 3).val, 0] := by revert c; decide +kernel
theorem op31_0 (c : Dev nD) : k0_off31 c 0#32 = ![(1 : Fin 2).val, 256 * (row 0 c 1).val, 0] := by revert c; decide +kernel
theorem op31_256 (c : Dev nD) : k0_off31 c 256#32 = ![(1 : Fin 2).val, 256 * (row 1 c 3).val, 0] := by revert c; decide +kernel
theorem op33_0 (c : Dev nD) : k0_off33 c 0#32 = ![(0 : Fin 2).val, 256 * (row 0 c 0).val, 0] := by revert c; decide +kernel
theorem op33_256 (c : Dev nD) : k0_off33 c 256#32 = ![(0 : Fin 2).val, 256 * (row 1 c 0).val, 0] := by revert c; decide +kernel
theorem op35_0 (c : Dev nD) : k0_off35 c 0#32 = ![(1 : Fin 2).val, 256 * (row 0 c 0).val, 0] := by revert c; decide +kernel
theorem op35_256 (c : Dev nD) : k0_off35 c 256#32 = ![(1 : Fin 2).val, 256 * (row 1 c 0).val, 0] := by revert c; decide +kernel

theorem dv1 (c : Dev nD) (h : k0_dev1 c < nD) : (⟨k0_dev1 c, h⟩ : Dev nD) = dn 1 c := Fin.ext (k0_dev1_eq c)
theorem dv2 (c : Dev nD) (h : k0_dev2 c < nD) : (⟨k0_dev2 c, h⟩ : Dev nD) = dn 0 c := Fin.ext (k0_dev2_eq c)
theorem dv3 (c : Dev nD) (h : k0_dev3 c < nD) : (⟨k0_dev3 c, h⟩ : Dev nD) = dn 0 c := Fin.ext (k0_dev3_eq c)
theorem dv4 (c : Dev nD) (h : k0_dev4 c < nD) : (⟨k0_dev4 c, h⟩ : Dev nD) = dn 1 c := Fin.ext (k0_dev4_eq c)
theorem dv5 (c : Dev nD) (h : k0_dev5 c < nD) : (⟨k0_dev5 c, h⟩ : Dev nD) = dn 0 c := Fin.ext (k0_dev5_eq c)
theorem dv6 (c : Dev nD) (h : k0_dev6 c < nD) : (⟨k0_dev6 c, h⟩ : Dev nD) = dn 1 c := Fin.ext (k0_dev6_eq c)
theorem dv7 (c : Dev nD) (h : k0_dev7 c < nD) : (⟨k0_dev7 c, h⟩ : Dev nD) = dn 0 c := Fin.ext (k0_dev7_eq c)
theorem dv8 (c : Dev nD) (h : k0_dev8 c < nD) : (⟨k0_dev8 c, h⟩ : Dev nD) = dn 1 c := Fin.ext (k0_dev8_eq c)
theorem dv9 (c : Dev nD) (h : k0_dev9 c < nD) : (⟨k0_dev9 c, h⟩ : Dev nD) = dn 0 c := Fin.ext (k0_dev9_eq c)
theorem dv10 (c : Dev nD) (h : k0_dev10 c < nD) : (⟨k0_dev10 c, h⟩ : Dev nD) = dn 1 c := Fin.ext (k0_dev10_eq c)
theorem dv11 (c : Dev nD) (h : k0_dev11 c < nD) : (⟨k0_dev11 c, h⟩ : Dev nD) = dn 0 c := Fin.ext (k0_dev11_eq c)
theorem dv12 (c : Dev nD) (h : k0_dev12 c < nD) : (⟨k0_dev12 c, h⟩ : Dev nD) = dn 1 c := Fin.ext (k0_dev12_eq c)
theorem dv13 (c : Dev nD) (h : k0_dev13 c < nD) : (⟨k0_dev13 c, h⟩ : Dev nD) = dn 0 c := Fin.ext (k0_dev13_eq c)
theorem dv14 (c : Dev nD) (h : k0_dev14 c < nD) : (⟨k0_dev14 c, h⟩ : Dev nD) = dn 1 c := Fin.ext (k0_dev14_eq c)
theorem dv15 (c : Dev nD) (h : k0_dev15 c < nD) : (⟨k0_dev15 c, h⟩ : Dev nD) = dn 0 c := Fin.ext (k0_dev15_eq c)
theorem dv16 (c : Dev nD) (h : k0_dev16 c < nD) : (⟨k0_dev16 c, h⟩ : Dev nD) = dn 1 c := Fin.ext (k0_dev16_eq c)
theorem dv17 (c : Dev nD) (h : k0_dev17 c < nD) : (⟨k0_dev17 c, h⟩ : Dev nD) = dn 0 c := Fin.ext (k0_dev17_eq c)
theorem dv18 (c : Dev nD) (h : k0_dev18 c < nD) : (⟨k0_dev18 c, h⟩ : Dev nD) = dn 1 c := Fin.ext (k0_dev18_eq c)
theorem dv19 (c : Dev nD) (h : k0_dev19 c < nD) : (⟨k0_dev19 c, h⟩ : Dev nD) = dn 0 c := Fin.ext (k0_dev19_eq c)
theorem dv20 (c : Dev nD) (h : k0_dev20 c < nD) : (⟨k0_dev20 c, h⟩ : Dev nD) = dn 1 c := Fin.ext (k0_dev20_eq c)
theorem dv21 (c : Dev nD) (h : k0_dev21 c < nD) : (⟨k0_dev21 c, h⟩ : Dev nD) = dn 0 c := Fin.ext (k0_dev21_eq c)
theorem dv22 (c : Dev nD) (h : k0_dev22 c < nD) : (⟨k0_dev22 c, h⟩ : Dev nD) = dn 1 c := Fin.ext (k0_dev22_eq c)
theorem dv23 (c : Dev nD) (h : k0_dev23 c < nD) : (⟨k0_dev23 c, h⟩ : Dev nD) = dn 0 c := Fin.ext (k0_dev23_eq c)
theorem dv24 (c : Dev nD) (h : k0_dev24 c < nD) : (⟨k0_dev24 c, h⟩ : Dev nD) = dn 1 c := Fin.ext (k0_dev24_eq c)
theorem dv25 (c : Dev nD) (h : k0_dev25 c < nD) : (⟨k0_dev25 c, h⟩ : Dev nD) = dn 0 c := Fin.ext (k0_dev25_eq c)
theorem dv26 (c : Dev nD) (h : k0_dev26 c < nD) : (⟨k0_dev26 c, h⟩ : Dev nD) = dn 1 c := Fin.ext (k0_dev26_eq c)

/-! ## The two pieces of a chunk -/

theorem ck0_0 (c : Dev nD) : row 0 c 0 = ⟨2 * (cj c 0).val, by have := (cj c 0).isLt; omega⟩ := by revert c; decide
theorem ck1_0 (c : Dev nD) : row 1 c 0 = ⟨2 * (cj c 0).val + 1, by have := (cj c 0).isLt; omega⟩ := by revert c; decide
theorem ck0_1 (c : Dev nD) : row 0 c 3 = ⟨2 * (cj c 1).val, by have := (cj c 1).isLt; omega⟩ := by revert c; decide
theorem ck1_1 (c : Dev nD) : row 1 c 1 = ⟨2 * (cj c 1).val + 1, by have := (cj c 1).isLt; omega⟩ := by revert c; decide
theorem ck0_2 (c : Dev nD) : row 0 c 2 = ⟨2 * (cj c 2).val, by have := (cj c 2).isLt; omega⟩ := by revert c; decide
theorem ck1_2 (c : Dev nD) : row 1 c 2 = ⟨2 * (cj c 2).val + 1, by have := (cj c 2).isLt; omega⟩ := by revert c; decide
theorem ck0_3 (c : Dev nD) : row 0 c 1 = ⟨2 * (cj c 3).val, by have := (cj c 3).isLt; omega⟩ := by revert c; decide
theorem ck1_3 (c : Dev nD) : row 1 c 3 = ⟨2 * (cj c 3).val + 1, by have := (cj c 3).isLt; omega⟩ := by revert c; decide

theorem st_chunk (c : Dev nD) {w : Fin 2} {j : ℕ} {off : Fin 3 → ℕ} {α : Type} {Q : α → sProp 𝕄} (hoff : off = ![w.val, 512 * (cj c j).val, 0])
    {hi : ∀ a, off a + S1x512x512.size a ≤ S2x2048x512.size a} {W : FVec F S1x512x512 .bf16}
    (k0 k1 : ℕ) (h0 : row 0 c k0 = ⟨2 * (cj c j).val, by have := (cj c j).isLt; omega⟩) (h1 : row 1 c k1 = ⟨2 * (cj c j).val + 1, by have := (cj c j).isLt; omega⟩)
    (hv0 : V c 0 w k0 = half 0 W) (hv1 : V c 1 w k1 = half 1 W)
    {hx : (pB.access (Rect.unit (s := S2x2048x512) off S1x512x512.size hi)).Stores Finset.univ}
    {hm : Finset.univ = Finset.univ ∨ ∀ a, (Rect.unit (s := S2x2048x512) off S1x512x512.size hi).stride a = 1}
    {k : PUnit → Prog (TpuEff nD τ sig (Elt F) Λ₀ .tc) α} :
    (raw c w j : sProp 𝕄) ⊢ iprop((pc c w (row 0 c k0) fullShare (V c 0 w k0) ∗ pc c w (row 1 c k1) fullShare (V c 1 w k1) -∗ WP c (k ⟨⟩) Q)
      -∗ WP c (.op (.store pB (Rect.unit (s := S2x2048x512) off S1x512x512.size hi) W Finset.univ hx hm) k) Q) := by
  rw [hv0, hv1]
  exact st_raw c hoff W rfl k0 k1 h0 h1

theorem bar_sem : (SemArray.scalar (sig.barrier 0 rfl) : Sems sig S_).sem = barS := rfl

/-! ## Sums and results, as stored -/

theorem add_sq (v r : PV F) (h : S1x256x512.ShapeCasts S256x512) (h' : S1x1x256x512.ShapeCasts S256x512) :
    sq (addf (shapeCast S256x512 (sq v) h) (shapeCast S256x512 (sq4 r) h')) = sq (addf v r) := by
  rw [cast_back, cast_back]
theorem ext_sq (v : PV F) (h : S1x256x512.ShapeCasts S256x512) : ext (shapeCast S256x512 (sq v) h) = ext v := by rw [cast_back]

theorem k0_pay45_add (v r : PV F) : k0_pay45 (sq v) (sq4 r) = sq (addf v r) := add_sq v r _ _
theorem k0_pay46_add (v r : PV F) : k0_pay46 (sq v) (sq4 r) = sq (addf v r) := add_sq v r _ _
theorem k0_pay65_add (v r : PV F) : k0_pay65 (k0_pay64 (sq v) (sq4 r)) = sq (addf v r) := add_sq v r _ _
theorem k0_pay66_add (v r : PV F) : k0_pay66 (sq v) (sq4 r) = sq (addf v r) := add_sq v r _ _
theorem k0_pay73_add (v r : PV F) : k0_pay73 (sq v) (sq4 r) = sq (addf v r) := add_sq v r _ _
theorem k0_pay74_add (v r : PV F) : k0_pay74 (sq v) (sq4 r) = sq (addf v r) := add_sq v r _ _
theorem k0_pay84_add (v r : PV F) : k0_pay84 (sq v) (sq4 r) = sq (addf v r) := add_sq v r _ _
theorem k0_pay85_add (v r : PV F) : k0_pay85 (sq v) (sq4 r) = sq (addf v r) := add_sq v r _ _
theorem k0_pay87_add (v r : PV F) : k0_pay87 (k0_pay86 (sq v) (sq4 r)) = sq (addf v r) := add_sq v r _ _
theorem k0_pay88_add (v r : PV F) : k0_pay88 (sq v) (sq4 r) = sq (addf v r) := add_sq v r _ _
theorem k0_pay89_add (v r : PV F) : k0_pay89 (sq v) (sq4 r) = sq (addf v r) := add_sq v r _ _
theorem k0_pay91_add (v r : PV F) : k0_pay91 (k0_pay90 (sq v)) (sq4 r) = sq (addf v r) := add_sq v r _ _
theorem k0_pay1_emit (v : PV F) : k0_pay1 (sq v) = ext v := ext_sq v _
theorem k0_pay2_emit (v : PV F) : k0_pay2 (sq v) = ext v := ext_sq v _
theorem k0_pay3_emit (v : PV F) : k0_pay3 (sq v) = ext v := ext_sq v _
theorem k0_pay4_emit (v : PV F) : k0_pay4 (sq v) = ext v := ext_sq v _
theorem k0_pay92_emit (v : PV F) : k0_pay92 (sq v) = ext v := ext_sq v _
theorem k0_pay93_emit (v : PV F) : k0_pay93 (sq v) = ext v := ext_sq v _
theorem k0_pay94_emit (v : PV F) : k0_pay94 (sq v) = ext v := ext_sq v _
theorem k0_pay95_emit (v : PV F) : k0_pay95 (sq v) = ext v := ext_sq v _
theorem k0_pay96_emit (v : PV F) : k0_pay96 (sq v) = ext v := ext_sq v _
theorem k0_pay97_emit (v : PV F) : k0_pay97 (sq v) = ext v := ext_sq v _
theorem k0_pay98_emit (v : PV F) : k0_pay98 (sq v) = ext v := ext_sq v _
theorem k0_pay99_emit (v : PV F) : k0_pay99 (sq v) = ext v := ext_sq v _
theorem k0_pay100_emit (v : PV F) : k0_pay100 (sq v) = ext v := ext_sq v _
theorem k0_pay101_emit (v : PV F) : k0_pay101 (sq v) = ext v := ext_sq v _
theorem k0_pay102_emit (v : PV F) : k0_pay102 (sq v) = ext v := ext_sq v _
theorem k0_pay103_emit (v : PV F) : k0_pay103 (sq v) = ext v := ext_sq v _

end Cert.Ring

end

end
-- ==== Proof.Vals.lean ====
module

public import proofs.«01_k».proof.Proof.Facts

/-!
# The values the program computes
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What is read from the inputs and what is computed from it -/

def l17 (I : Dev nD → In F) (c : Dev nD) : Vec F S512x512 .f32 := (Memref.whole cc0_stg0_0 : Memref sig .tc .vmem S2048x512 .f32).view.readAt (Elt F) (Rect.unit (s := S2048x512) (k0_off1 c) S512x512.size (k0_off1_inb c)).toLoadRect (I c).x
def l21 (I : Dev nD → In F) (c : Dev nD) : Vec F S512x1 .i32 := (Memref.whole cc0_stg2_0 : Memref sig .tc .vmem S2048x1 .i32).view.readAt (Elt F) (Rect.unit (s := S2048x1) (k0_off2 c) S512x1.size (k0_off2_inb c)).toLoadRect (I c).ix
def l23 (I : Dev nD → In F) (c : Dev nD) : Vec F S512x32 .f32 := (Memref.whole cc0_stg1_0 : Memref sig .tc .vmem S512x32 .f32).view.readAt (Elt F) (Rect.unit (s := S512x32) ![0, 0] S512x32.size inb_S512x32_S512x32_0_0).toLoadRect (I c).rw
def x2 (I : Dev nD → In F) (c : Dev nD) : BitVec 32 := (Scalar.remsi (Scalar.divsi (Dev.word c) 1#32) 4#32)
def x5 (I : Dev nD → In F) (c : Dev nD) : BitVec 32 := (Scalar.remsi (Scalar.addi (Scalar.subi (Scalar.remsi (Scalar.divsi (Dev.word c) 1#32) 4#32) 1#32) 4#32) 4#32)
def x7 (I : Dev nD → In F) (c : Dev nD) : BitVec 32 := (Scalar.remsi (Scalar.addi (Scalar.remsi (Scalar.divsi (Dev.word c) 1#32) 4#32) 1#32) 4#32)
def x9 (I : Dev nD → In F) (c : Dev nD) : BitVec 32 := (Scalar.remsi (Scalar.addi (Scalar.remsi (Scalar.divsi (Dev.word c) 1#32) 4#32) 1#32) 4#32)
def x12 (I : Dev nD → In F) (c : Dev nD) : BitVec 32 := (Scalar.remsi (Scalar.addi (Scalar.subi (Scalar.remsi (Scalar.divsi (Dev.word c) 1#32) 4#32) 1#32) 4#32) 4#32)
def x14 (I : Dev nD → In F) (c : Dev nD) : BitVec 32 := (Scalar.remsi (Scalar.addi (Scalar.remsi (Scalar.divsi (Dev.word c) 1#32) 4#32) 2#32) 4#32)
def x22 (I : Dev nD → In F) (c : Dev nD) : IVec S512x1 32 := k0_pay5 (l21 I c)
def x34 (I : Dev nD → In F) (c : Dev nD) : FVec F S512x32 .f32 := k0_pay6 (l17 I c) (l23 I c)
def x35 (I : Dev nD → In F) (c : Dev nD) : IVec S512x32 32 := (iota .tc S512x32 32 [1] iota_S512x32_d1_w32)
def l44 (I : Dev nD → In F) (c : Dev nD) : Vec F S512x512 .f32 := (Memref.whole cc0_stg0_0 : Memref sig .tc .vmem S2048x512 .f32).view.readAt (Elt F) (Rect.unit (s := S2048x512) (k0_off1 c) S512x512.size (k0_off1_inb c)).toLoadRect (I c).x
def l48 (I : Dev nD → In F) (c : Dev nD) : Vec F S512x1 .i32 := (Memref.whole cc0_stg2_0 : Memref sig .tc .vmem S2048x1 .i32).view.readAt (Elt F) (Rect.unit (s := S2048x1) (k0_off2 c) S512x1.size (k0_off2_inb c)).toLoadRect (I c).ix
def l58 (I : Dev nD → In F) (c : Dev nD) : Vec F S1x512x1024 .f32 := (Memref.whole cc0_stg3_0 : Memref sig .tc .vmem S8x512x1024 .f32).view.readAt (Elt F) (Rect.unit (s := S8x512x1024) ![0, 0, 0] S1x512x1024.size inb_S8x512x1024_S1x512x1024_0_0_0).toLoadRect (I c).ew
def l70 (I : Dev nD → In F) (c : Dev nD) : Vec F S1x512x1024 .f32 := (Memref.whole cc0_stg3_0 : Memref sig .tc .vmem S8x512x1024 .f32).view.readAt (Elt F) (Rect.unit (s := S8x512x1024) ![1, 0, 0] S1x512x1024.size inb_S8x512x1024_S1x512x1024_1_0_0).toLoadRect (I c).ew
def x41 (I : Dev nD → In F) (c : Dev nD) : FVec F S512x1 .f32 := k0_pay7 (x22 I c) (x34 I c) (x35 I c)
def x45 (I : Dev nD → In F) (c : Dev nD) : FVec F S512x512 .f32 := k0_pay8 (l44 I c)
def x49 (I : Dev nD → In F) (c : Dev nD) : IVec S512x1 32 := k0_pay9 (l48 I c)
def x74 (I : Dev nD → In F) (c : Dev nD) : FVec F S512x512 .f32 := k0_pay10 (x2 I c) (x22 I c) (x34 I c) (x35 I c) (l44 I c) (l48 I c) (l58 I c) (l70 I c)
def x_c8_i32_34 (I : Dev nD → In F) (c : Dev nD) : BitVec 32 := 8#32
def l83 (I : Dev nD → In F) (c : Dev nD) : Vec F S1x512x1024 .f32 := (Memref.whole cc0_stg3_0 : Memref sig .tc .vmem S8x512x1024 .f32).view.readAt (Elt F) (Rect.unit (s := S8x512x1024) ![2, 0, 0] S1x512x1024.size inb_S8x512x1024_S1x512x1024_2_0_0).toLoadRect (I c).ew
def l96 (I : Dev nD → In F) (c : Dev nD) : Vec F S1x512x1024 .f32 := (Memref.whole cc0_stg3_0 : Memref sig .tc .vmem S8x512x1024 .f32).view.readAt (Elt F) (Rect.unit (s := S8x512x1024) ![3, 0, 0] S1x512x1024.size inb_S8x512x1024_S1x512x1024_3_0_0).toLoadRect (I c).ew
def l109 (I : Dev nD → In F) (c : Dev nD) : Vec F S1x512x1024 .f32 := (Memref.whole cc0_stg3_0 : Memref sig .tc .vmem S8x512x1024 .f32).view.readAt (Elt F) (Rect.unit (s := S8x512x1024) ![4, 0, 0] S1x512x1024.size inb_S8x512x1024_S1x512x1024_4_0_0).toLoadRect (I c).ew
def x113 (I : Dev nD → In F) (c : Dev nD) : FVec F S512x512 .f32 := k0_pay11 (x2 I c) (x41 I c) (x45 I c) (x49 I c) (x74 I c) (x_c8_i32_34 I c) (l83 I c) (l96 I c) (l109 I c)
def x_c8_i32_51 (I : Dev nD → In F) (c : Dev nD) : BitVec 32 := 8#32
def l122 (I : Dev nD → In F) (c : Dev nD) : Vec F S1x512x1024 .f32 := (Memref.whole cc0_stg3_0 : Memref sig .tc .vmem S8x512x1024 .f32).view.readAt (Elt F) (Rect.unit (s := S8x512x1024) ![5, 0, 0] S1x512x1024.size inb_S8x512x1024_S1x512x1024_5_0_0).toLoadRect (I c).ew
def l135 (I : Dev nD → In F) (c : Dev nD) : Vec F S1x512x1024 .f32 := (Memref.whole cc0_stg3_0 : Memref sig .tc .vmem S8x512x1024 .f32).view.readAt (Elt F) (Rect.unit (s := S8x512x1024) ![6, 0, 0] S1x512x1024.size inb_S8x512x1024_S1x512x1024_6_0_0).toLoadRect (I c).ew
def l148 (I : Dev nD → In F) (c : Dev nD) : Vec F S1x512x1024 .f32 := (Memref.whole cc0_stg3_0 : Memref sig .tc .vmem S8x512x1024 .f32).view.readAt (Elt F) (Rect.unit (s := S8x512x1024) ![7, 0, 0] S1x512x1024.size inb_S8x512x1024_S1x512x1024_7_0_0).toLoadRect (I c).ew
def x152 (I : Dev nD → In F) (c : Dev nD) : FVec F S512x512 .f32 := (k0_pay12 (x2 I c) (x41 I c) (x45 I c) (x49 I c) (x113 I c) (x_c8_i32_51 I c) (l122 I c) (l135 I c) (l148 I c))
def l153 (I : Dev nD → In F) (c : Dev nD) : Vec F S512x512 .f32 := (Memref.whole cc0_stg4_0 : Memref sig .tc .vmem S512x1024 .f32).view.readAt (Elt F) (Rect.unit (s := S512x1024) ![0, 0] S512x512.size inb_S512x1024_S512x512_0_0).toLoadRect (I c).sw
def l198 (I : Dev nD → In F) (c : Dev nD) : Vec F S512x512 .f32 := (Memref.whole cc0_stg0_0 : Memref sig .tc .vmem S2048x512 .f32).view.readAt (Elt F) (Rect.unit (s := S2048x512) (k0_off1 c) S512x512.size (k0_off1_inb c)).toLoadRect (I c).x
def l202 (I : Dev nD → In F) (c : Dev nD) : Vec F S512x1 .i32 := (Memref.whole cc0_stg2_0 : Memref sig .tc .vmem S2048x1 .i32).view.readAt (Elt F) (Rect.unit (s := S2048x1) (k0_off2 c) S512x1.size (k0_off2_inb c)).toLoadRect (I c).ix
def l212 (I : Dev nD → In F) (c : Dev nD) : Vec F S1x512x1024 .f32 := (Memref.whole cc0_stg3_0 : Memref sig .tc .vmem S8x512x1024 .f32).view.readAt (Elt F) (Rect.unit (s := S8x512x1024) ![0, 0, 0] S1x512x1024.size inb_S8x512x1024_S1x512x1024_0_0_0).toLoadRect (I c).ew
def x199 (I : Dev nD → In F) (c : Dev nD) : FVec F S512x512 .f32 := k0_pay14 (l198 I c)
def x203 (I : Dev nD → In F) (c : Dev nD) : IVec S512x1 32 := k0_pay15 (l202 I c)
def x211 (I : Dev nD → In F) (c : Dev nD) : FVec F S512x512 .f32 := k0_pay16 (x2 I c) (x41 I c) (l198 I c) (l202 I c)
def x214 (I : Dev nD → In F) (c : Dev nD) : FVec F S512x512 .f32 := k0_pay17 (l212 I c)
def x_cst_116 (I : Dev nD → In F) (c : Dev nD) : FVec F S512x512 .f32 := (constant S512x512 .f32 0x00000000#32)
def l224 (I : Dev nD → In F) (c : Dev nD) : Vec F S1x512x1024 .f32 := (Memref.whole cc0_stg3_0 : Memref sig .tc .vmem S8x512x1024 .f32).view.readAt (Elt F) (Rect.unit (s := S8x512x1024) ![1, 0, 0] S1x512x1024.size inb_S8x512x1024_S1x512x1024_1_0_0).toLoadRect (I c).ew
def l237 (I : Dev nD → In F) (c : Dev nD) : Vec F S1x512x1024 .f32 := (Memref.whole cc0_stg3_0 : Memref sig .tc .vmem S8x512x1024 .f32).view.readAt (Elt F) (Rect.unit (s := S8x512x1024) ![2, 0, 0] S1x512x1024.size inb_S8x512x1024_S1x512x1024_2_0_0).toLoadRect (I c).ew
def l250 (I : Dev nD → In F) (c : Dev nD) : Vec F S1x512x1024 .f32 := (Memref.whole cc0_stg3_0 : Memref sig .tc .vmem S8x512x1024 .f32).view.readAt (Elt F) (Rect.unit (s := S8x512x1024) ![3, 0, 0] S1x512x1024.size inb_S8x512x1024_S1x512x1024_3_0_0).toLoadRect (I c).ew
def x241 (I : Dev nD → In F) (c : Dev nD) : FVec F S512x512 .f32 := k0_pay18 (x2 I c) (x41 I c) (x199 I c) (x203 I c) (x211 I c) (x214 I c) (x_cst_116 I c) (l224 I c) (l237 I c)
def x253 (I : Dev nD → In F) (c : Dev nD) : FVec F S512x512 .f32 := k0_pay19 (x2 I c) (x41 I c) (x199 I c) (x203 I c) (l250 I c)
def l263 (I : Dev nD → In F) (c : Dev nD) : Vec F S1x512x1024 .f32 := (Memref.whole cc0_stg3_0 : Memref sig .tc .vmem S8x512x1024 .f32).view.readAt (Elt F) (Rect.unit (s := S8x512x1024) ![4, 0, 0] S1x512x1024.size inb_S8x512x1024_S1x512x1024_4_0_0).toLoadRect (I c).ew
def l276 (I : Dev nD → In F) (c : Dev nD) : Vec F S1x512x1024 .f32 := (Memref.whole cc0_stg3_0 : Memref sig .tc .vmem S8x512x1024 .f32).view.readAt (Elt F) (Rect.unit (s := S8x512x1024) ![5, 0, 0] S1x512x1024.size inb_S8x512x1024_S1x512x1024_5_0_0).toLoadRect (I c).ew
def l289 (I : Dev nD → In F) (c : Dev nD) : Vec F S1x512x1024 .f32 := (Memref.whole cc0_stg3_0 : Memref sig .tc .vmem S8x512x1024 .f32).view.readAt (Elt F) (Rect.unit (s := S8x512x1024) ![6, 0, 0] S1x512x1024.size inb_S8x512x1024_S1x512x1024_6_0_0).toLoadRect (I c).ew
def x280 (I : Dev nD → In F) (c : Dev nD) : FVec F S512x512 .f32 := k0_pay20 (x2 I c) (x41 I c) (x199 I c) (x203 I c) (x241 I c) (x253 I c) (l263 I c) (l276 I c)
def x292 (I : Dev nD → In F) (c : Dev nD) : FVec F S512x512 .f32 := k0_pay21 (x2 I c) (x41 I c) (x199 I c) (x203 I c) (l289 I c)
def l302 (I : Dev nD → In F) (c : Dev nD) : Vec F S1x512x1024 .f32 := (Memref.whole cc0_stg3_0 : Memref sig .tc .vmem S8x512x1024 .f32).view.readAt (Elt F) (Rect.unit (s := S8x512x1024) ![7, 0, 0] S1x512x1024.size inb_S8x512x1024_S1x512x1024_7_0_0).toLoadRect (I c).ew
def l307 (I : Dev nD → In F) (c : Dev nD) : Vec F S512x512 .f32 := (Memref.whole cc0_stg4_0 : Memref sig .tc .vmem S512x1024 .f32).view.readAt (Elt F) (Rect.unit (s := S512x1024) ![0, 512] S512x512.size inb_S512x1024_S512x512_0_512).toLoadRect (I c).sw
def x_c1_i32_184 (I : Dev nD → In F) (c : Dev nD) : BitVec 32 := 1#32
def l347 (I : Dev nD → In F) (c : Dev nD) : Vec F S512x512 .f32 := (Memref.whole cc0_stg0_0 : Memref sig .tc .vmem S2048x512 .f32).view.readAt (Elt F) (Rect.unit (s := S2048x512) (k0_off9 c 1#32) S512x512.size (k0_off9_inb c 0)).toLoadRect (I c).x
def l351 (I : Dev nD → In F) (c : Dev nD) : Vec F S512x1 .i32 := (Memref.whole cc0_stg2_0 : Memref sig .tc .vmem S2048x1 .i32).view.readAt (Elt F) (Rect.unit (s := S2048x1) (k0_off10 c 1#32) S512x1.size (k0_off10_inb c 0)).toLoadRect (I c).ix
def l353 (I : Dev nD → In F) (c : Dev nD) : Vec F S512x32 .f32 := (Memref.whole cc0_stg1_0 : Memref sig .tc .vmem S512x32 .f32).view.readAt (Elt F) (Rect.unit (s := S512x32) ![0, 0] S512x32.size inb_S512x32_S512x32_0_0).toLoadRect (I c).rw
def x352 (I : Dev nD → In F) (c : Dev nD) : IVec S512x1 32 := k0_pay23 (l351 I c)
def x360 (I : Dev nD → In F) (c : Dev nD) : FVec F S512x32 .f32 := k0_pay24 (l347 I c) (l353 I c)
def l374 (I : Dev nD → In F) (c : Dev nD) : Vec F S512x512 .f32 := (Memref.whole cc0_stg0_0 : Memref sig .tc .vmem S2048x512 .f32).view.readAt (Elt F) (Rect.unit (s := S2048x512) (k0_off11 c) S512x512.size (k0_off11_inb c)).toLoadRect (I c).x
def l378 (I : Dev nD → In F) (c : Dev nD) : Vec F S512x1 .i32 := (Memref.whole cc0_stg2_0 : Memref sig .tc .vmem S2048x1 .i32).view.readAt (Elt F) (Rect.unit (s := S2048x1) (k0_off12 c) S512x1.size (k0_off12_inb c)).toLoadRect (I c).ix
def l380 (I : Dev nD → In F) (c : Dev nD) : Vec F S512x32 .f32 := (Memref.whole cc0_stg1_0 : Memref sig .tc .vmem S512x32 .f32).view.readAt (Elt F) (Rect.unit (s := S512x32) ![0, 0] S512x32.size inb_S512x32_S512x32_0_0).toLoadRect (I c).rw
def l401 (I : Dev nD → In F) (c : Dev nD) : Vec F S512x512 .f32 := (Memref.whole cc0_stg0_0 : Memref sig .tc .vmem S2048x512 .f32).view.readAt (Elt F) (Rect.unit (s := S2048x512) (k0_off9 c 1#32) S512x512.size (k0_off9_inb c 0)).toLoadRect (I c).x
def x371 (I : Dev nD → In F) (c : Dev nD) : FVec F S512x1 .f32 := k0_pay25 (x352 I c) (x360 I c)
def x398 (I : Dev nD → In F) (c : Dev nD) : FVec F S512x1 .f32 := k0_pay26 (l374 I c) (l378 I c) (l380 I c)
def x402 (I : Dev nD → In F) (c : Dev nD) : FVec F S512x512 .f32 := k0_pay27 (l401 I c)
def x403 (I : Dev nD → In F) (c : Dev nD) : BitVec 32 := (Scalar.muli (x9 I c) 512#32)
def l405 (I : Dev nD → In F) (c : Dev nD) : Vec F S512x1 .i32 := (Memref.whole cc0_stg2_0 : Memref sig .tc .vmem S2048x1 .i32).view.readAt (Elt F) (Rect.unit (s := S2048x1) (k0_off10 c 1#32) S512x1.size (k0_off10_inb c 0)).toLoadRect (I c).ix
def l415 (I : Dev nD → In F) (c : Dev nD) : Vec F S1x512x1024 .f32 := (Memref.whole cc0_stg3_0 : Memref sig .tc .vmem S8x512x1024 .f32).view.readAt (Elt F) (Rect.unit (s := S8x512x1024) ![0, 0, 0] S1x512x1024.size inb_S8x512x1024_S1x512x1024_0_0_0).toLoadRect (I c).ew
def l427 (I : Dev nD → In F) (c : Dev nD) : Vec F S1x512x1024 .f32 := (Memref.whole cc0_stg3_0 : Memref sig .tc .vmem S8x512x1024 .f32).view.readAt (Elt F) (Rect.unit (s := S8x512x1024) ![1, 0, 0] S1x512x1024.size inb_S8x512x1024_S1x512x1024_1_0_0).toLoadRect (I c).ew
def l440 (I : Dev nD → In F) (c : Dev nD) : Vec F S1x512x1024 .f32 := (Memref.whole cc0_stg3_0 : Memref sig .tc .vmem S8x512x1024 .f32).view.readAt (Elt F) (Rect.unit (s := S8x512x1024) ![2, 0, 0] S1x512x1024.size inb_S8x512x1024_S1x512x1024_2_0_0).toLoadRect (I c).ew
def x406 (I : Dev nD → In F) (c : Dev nD) : IVec S512x1 32 := k0_pay28 (l405 I c)
def x431 (I : Dev nD → In F) (c : Dev nD) : FVec F S512x512 .f32 := k0_pay29 (x2 I c) (x371 I c) (x402 I c) (l405 I c) (l415 I c) (l427 I c)
def x439 (I : Dev nD → In F) (c : Dev nD) : FVec F S512x512 .f32 := k0_pay30 (x2 I c) (x371 I c) (x402 I c) (l405 I c)
def x442 (I : Dev nD → In F) (c : Dev nD) : FVec F S512x512 .f32 := k0_pay31 (l440 I c)
def l453 (I : Dev nD → In F) (c : Dev nD) : Vec F S1x512x1024 .f32 := (Memref.whole cc0_stg3_0 : Memref sig .tc .vmem S8x512x1024 .f32).view.readAt (Elt F) (Rect.unit (s := S8x512x1024) ![3, 0, 0] S1x512x1024.size inb_S8x512x1024_S1x512x1024_3_0_0).toLoadRect (I c).ew
def l466 (I : Dev nD → In F) (c : Dev nD) : Vec F S1x512x1024 .f32 := (Memref.whole cc0_stg3_0 : Memref sig .tc .vmem S8x512x1024 .f32).view.readAt (Elt F) (Rect.unit (s := S8x512x1024) ![4, 0, 0] S1x512x1024.size inb_S8x512x1024_S1x512x1024_4_0_0).toLoadRect (I c).ew
def l479 (I : Dev nD → In F) (c : Dev nD) : Vec F S1x512x1024 .f32 := (Memref.whole cc0_stg3_0 : Memref sig .tc .vmem S8x512x1024 .f32).view.readAt (Elt F) (Rect.unit (s := S8x512x1024) ![5, 0, 0] S1x512x1024.size inb_S8x512x1024_S1x512x1024_5_0_0).toLoadRect (I c).ew
def x470 (I : Dev nD → In F) (c : Dev nD) : FVec F S512x512 .f32 := k0_pay32 (x2 I c) (x371 I c) (x402 I c) (x406 I c) (x431 I c) (x439 I c) (x442 I c) (l453 I c) (l466 I c)
def x478 (I : Dev nD → In F) (c : Dev nD) : FVec F S512x512 .f32 := k0_pay33 (x2 I c) (x371 I c) (x402 I c) (x406 I c)
def x481 (I : Dev nD → In F) (c : Dev nD) : FVec F S512x512 .f32 := k0_pay34 (l479 I c)
def l492 (I : Dev nD → In F) (c : Dev nD) : Vec F S1x512x1024 .f32 := (Memref.whole cc0_stg3_0 : Memref sig .tc .vmem S8x512x1024 .f32).view.readAt (Elt F) (Rect.unit (s := S8x512x1024) ![6, 0, 0] S1x512x1024.size inb_S8x512x1024_S1x512x1024_6_0_0).toLoadRect (I c).ew
def l505 (I : Dev nD → In F) (c : Dev nD) : Vec F S1x512x1024 .f32 := (Memref.whole cc0_stg3_0 : Memref sig .tc .vmem S8x512x1024 .f32).view.readAt (Elt F) (Rect.unit (s := S8x512x1024) ![7, 0, 0] S1x512x1024.size inb_S8x512x1024_S1x512x1024_7_0_0).toLoadRect (I c).ew
def l518 (I : Dev nD → In F) (c : Dev nD) : Vec F S512x512 .f32 := (Memref.whole cc0_stg0_0 : Memref sig .tc .vmem S2048x512 .f32).view.readAt (Elt F) (Rect.unit (s := S2048x512) (k0_off11 c) S512x512.size (k0_off11_inb c)).toLoadRect (I c).x
def x519 (I : Dev nD → In F) (c : Dev nD) : FVec F S512x512 .f32 := k0_pay36 (l518 I c)
def x_c512_i32_285 (I : Dev nD → In F) (c : Dev nD) : BitVec 32 := 512#32
def l522 (I : Dev nD → In F) (c : Dev nD) : Vec F S512x1 .i32 := (Memref.whole cc0_stg2_0 : Memref sig .tc .vmem S2048x1 .i32).view.readAt (Elt F) (Rect.unit (s := S2048x1) (k0_off12 c) S512x1.size (k0_off12_inb c)).toLoadRect (I c).ix
def l532 (I : Dev nD → In F) (c : Dev nD) : Vec F S1x512x1024 .f32 := (Memref.whole cc0_stg3_0 : Memref sig .tc .vmem S8x512x1024 .f32).view.readAt (Elt F) (Rect.unit (s := S8x512x1024) ![0, 0, 0] S1x512x1024.size inb_S8x512x1024_S1x512x1024_0_0_0).toLoadRect (I c).ew
def l544 (I : Dev nD → In F) (c : Dev nD) : Vec F S1x512x1024 .f32 := (Memref.whole cc0_stg3_0 : Memref sig .tc .vmem S8x512x1024 .f32).view.readAt (Elt F) (Rect.unit (s := S8x512x1024) ![1, 0, 0] S1x512x1024.size inb_S8x512x1024_S1x512x1024_1_0_0).toLoadRect (I c).ew
def l557 (I : Dev nD → In F) (c : Dev nD) : Vec F S1x512x1024 .f32 := (Memref.whole cc0_stg3_0 : Memref sig .tc .vmem S8x512x1024 .f32).view.readAt (Elt F) (Rect.unit (s := S8x512x1024) ![2, 0, 0] S1x512x1024.size inb_S8x512x1024_S1x512x1024_2_0_0).toLoadRect (I c).ew
def x523 (I : Dev nD → In F) (c : Dev nD) : IVec S512x1 32 := k0_pay37 (l522 I c)
def x548 (I : Dev nD → In F) (c : Dev nD) : FVec F S512x512 .f32 := k0_pay38 (x2 I c) (x398 I c) (x519 I c) (l522 I c) (l532 I c) (l544 I c)
def x556 (I : Dev nD → In F) (c : Dev nD) : FVec F S512x512 .f32 := k0_pay39 (x2 I c) (x398 I c) (x519 I c) (l522 I c)
def x558 (I : Dev nD → In F) (c : Dev nD) : FVec F S512x1024 .f32 := k0_pay40 (l557 I c)
def l570 (I : Dev nD → In F) (c : Dev nD) : Vec F S1x512x1024 .f32 := (Memref.whole cc0_stg3_0 : Memref sig .tc .vmem S8x512x1024 .f32).view.readAt (Elt F) (Rect.unit (s := S8x512x1024) ![3, 0, 0] S1x512x1024.size inb_S8x512x1024_S1x512x1024_3_0_0).toLoadRect (I c).ew
def l583 (I : Dev nD → In F) (c : Dev nD) : Vec F S1x512x1024 .f32 := (Memref.whole cc0_stg3_0 : Memref sig .tc .vmem S8x512x1024 .f32).view.readAt (Elt F) (Rect.unit (s := S8x512x1024) ![4, 0, 0] S1x512x1024.size inb_S8x512x1024_S1x512x1024_4_0_0).toLoadRect (I c).ew
def l596 (I : Dev nD → In F) (c : Dev nD) : Vec F S1x512x1024 .f32 := (Memref.whole cc0_stg3_0 : Memref sig .tc .vmem S8x512x1024 .f32).view.readAt (Elt F) (Rect.unit (s := S8x512x1024) ![5, 0, 0] S1x512x1024.size inb_S8x512x1024_S1x512x1024_5_0_0).toLoadRect (I c).ew
def x587 (I : Dev nD → In F) (c : Dev nD) : FVec F S512x512 .f32 := k0_pay41 (x2 I c) (x398 I c) (x519 I c) (x523 I c) (x548 I c) (x556 I c) (x558 I c) (l570 I c) (l583 I c)
def x595 (I : Dev nD → In F) (c : Dev nD) : FVec F S512x512 .f32 := k0_pay42 (x2 I c) (x398 I c) (x519 I c) (x523 I c)
def x597 (I : Dev nD → In F) (c : Dev nD) : FVec F S512x1024 .f32 := k0_pay43 (l596 I c)
def l609 (I : Dev nD → In F) (c : Dev nD) : Vec F S1x512x1024 .f32 := (Memref.whole cc0_stg3_0 : Memref sig .tc .vmem S8x512x1024 .f32).view.readAt (Elt F) (Rect.unit (s := S8x512x1024) ![6, 0, 0] S1x512x1024.size inb_S8x512x1024_S1x512x1024_6_0_0).toLoadRect (I c).ew
def l622 (I : Dev nD → In F) (c : Dev nD) : Vec F S1x512x1024 .f32 := (Memref.whole cc0_stg3_0 : Memref sig .tc .vmem S8x512x1024 .f32).view.readAt (Elt F) (Rect.unit (s := S8x512x1024) ![7, 0, 0] S1x512x1024.size inb_S8x512x1024_S1x512x1024_7_0_0).toLoadRect (I c).ew
def x662 (I : Dev nD → In F) (c : Dev nD) : BitVec 32 := (Scalar.subi (x2 I c) 1#32)
def l721 (I : Dev nD → In F) (c : Dev nD) : Vec F S512x512 .f32 := (Memref.whole cc0_stg0_0 : Memref sig .tc .vmem S2048x512 .f32).view.readAt (Elt F) (Rect.unit (s := S2048x512) (k0_off9 c 1#32) S512x512.size (k0_off9_inb c 0)).toLoadRect (I c).x
def l725 (I : Dev nD → In F) (c : Dev nD) : Vec F S512x1 .i32 := (Memref.whole cc0_stg2_0 : Memref sig .tc .vmem S2048x1 .i32).view.readAt (Elt F) (Rect.unit (s := S2048x1) (k0_off10 c 1#32) S512x1.size (k0_off10_inb c 0)).toLoadRect (I c).ix
def l735 (I : Dev nD → In F) (c : Dev nD) : Vec F S1x512x1024 .f32 := (Memref.whole cc0_stg3_0 : Memref sig .tc .vmem S8x512x1024 .f32).view.readAt (Elt F) (Rect.unit (s := S8x512x1024) ![0, 0, 0] S1x512x1024.size inb_S8x512x1024_S1x512x1024_0_0_0).toLoadRect (I c).ew
def l747 (I : Dev nD → In F) (c : Dev nD) : Vec F S1x512x1024 .f32 := (Memref.whole cc0_stg3_0 : Memref sig .tc .vmem S8x512x1024 .f32).view.readAt (Elt F) (Rect.unit (s := S8x512x1024) ![1, 0, 0] S1x512x1024.size inb_S8x512x1024_S1x512x1024_1_0_0).toLoadRect (I c).ew
def x722 (I : Dev nD → In F) (c : Dev nD) : FVec F S512x512 .f32 := k0_pay47 (l721 I c)
def x726 (I : Dev nD → In F) (c : Dev nD) : IVec S512x1 32 := k0_pay48 (l725 I c)
def x751 (I : Dev nD → In F) (c : Dev nD) : FVec F S512x512 .f32 := k0_pay49 (x2 I c) (x371 I c) (l721 I c) (l725 I c) (l735 I c) (l747 I c)
def x757 (I : Dev nD → In F) (c : Dev nD) : FVec F S512x1 .f32 := k0_pay50 (x2 I c) (x371 I c) (l725 I c)
def l760 (I : Dev nD → In F) (c : Dev nD) : Vec F S1x512x1024 .f32 := (Memref.whole cc0_stg3_0 : Memref sig .tc .vmem S8x512x1024 .f32).view.readAt (Elt F) (Rect.unit (s := S8x512x1024) ![2, 0, 0] S1x512x1024.size inb_S8x512x1024_S1x512x1024_2_0_0).toLoadRect (I c).ew
def l773 (I : Dev nD → In F) (c : Dev nD) : Vec F S1x512x1024 .f32 := (Memref.whole cc0_stg3_0 : Memref sig .tc .vmem S8x512x1024 .f32).view.readAt (Elt F) (Rect.unit (s := S8x512x1024) ![3, 0, 0] S1x512x1024.size inb_S8x512x1024_S1x512x1024_3_0_0).toLoadRect (I c).ew
def l786 (I : Dev nD → In F) (c : Dev nD) : Vec F S1x512x1024 .f32 := (Memref.whole cc0_stg3_0 : Memref sig .tc .vmem S8x512x1024 .f32).view.readAt (Elt F) (Rect.unit (s := S8x512x1024) ![4, 0, 0] S1x512x1024.size inb_S8x512x1024_S1x512x1024_4_0_0).toLoadRect (I c).ew
def x790 (I : Dev nD → In F) (c : Dev nD) : FVec F S512x512 .f32 := k0_pay51 (x2 I c) (x371 I c) (x722 I c) (x726 I c) (x751 I c) (x757 I c) (l760 I c) (l773 I c) (l786 I c)
def x796 (I : Dev nD → In F) (c : Dev nD) : FVec F S512x1 .f32 := k0_pay52 (x2 I c) (x371 I c) (x726 I c)
def l799 (I : Dev nD → In F) (c : Dev nD) : Vec F S1x512x1024 .f32 := (Memref.whole cc0_stg3_0 : Memref sig .tc .vmem S8x512x1024 .f32).view.readAt (Elt F) (Rect.unit (s := S8x512x1024) ![5, 0, 0] S1x512x1024.size inb_S8x512x1024_S1x512x1024_5_0_0).toLoadRect (I c).ew
def l812 (I : Dev nD → In F) (c : Dev nD) : Vec F S1x512x1024 .f32 := (Memref.whole cc0_stg3_0 : Memref sig .tc .vmem S8x512x1024 .f32).view.readAt (Elt F) (Rect.unit (s := S8x512x1024) ![6, 0, 0] S1x512x1024.size inb_S8x512x1024_S1x512x1024_6_0_0).toLoadRect (I c).ew
def l825 (I : Dev nD → In F) (c : Dev nD) : Vec F S1x512x1024 .f32 := (Memref.whole cc0_stg3_0 : Memref sig .tc .vmem S8x512x1024 .f32).view.readAt (Elt F) (Rect.unit (s := S8x512x1024) ![7, 0, 0] S1x512x1024.size inb_S8x512x1024_S1x512x1024_7_0_0).toLoadRect (I c).ew
def x835 (I : Dev nD → In F) (c : Dev nD) : FVec F S1x512x512 .bf16 := (k0_pay53 (x2 I c) (x371 I c) (x722 I c) (x726 I c) (x790 I c) (x796 I c) (l799 I c) (l812 I c) (l825 I c))
def l838 (I : Dev nD → In F) (c : Dev nD) : Vec F S512x512 .f32 := (Memref.whole cc0_stg0_0 : Memref sig .tc .vmem S2048x512 .f32).view.readAt (Elt F) (Rect.unit (s := S2048x512) (k0_off11 c) S512x512.size (k0_off11_inb c)).toLoadRect (I c).x
def l842 (I : Dev nD → In F) (c : Dev nD) : Vec F S512x1 .i32 := (Memref.whole cc0_stg2_0 : Memref sig .tc .vmem S2048x1 .i32).view.readAt (Elt F) (Rect.unit (s := S2048x1) (k0_off12 c) S512x1.size (k0_off12_inb c)).toLoadRect (I c).ix
def l852 (I : Dev nD → In F) (c : Dev nD) : Vec F S1x512x1024 .f32 := (Memref.whole cc0_stg3_0 : Memref sig .tc .vmem S8x512x1024 .f32).view.readAt (Elt F) (Rect.unit (s := S8x512x1024) ![0, 0, 0] S1x512x1024.size inb_S8x512x1024_S1x512x1024_0_0_0).toLoadRect (I c).ew
def l864 (I : Dev nD → In F) (c : Dev nD) : Vec F S1x512x1024 .f32 := (Memref.whole cc0_stg3_0 : Memref sig .tc .vmem S8x512x1024 .f32).view.readAt (Elt F) (Rect.unit (s := S8x512x1024) ![1, 0, 0] S1x512x1024.size inb_S8x512x1024_S1x512x1024_1_0_0).toLoadRect (I c).ew
def x839 (I : Dev nD → In F) (c : Dev nD) : FVec F S512x512 .f32 := k0_pay54 (l838 I c)
def x843 (I : Dev nD → In F) (c : Dev nD) : IVec S512x1 32 := k0_pay55 (l842 I c)
def x868 (I : Dev nD → In F) (c : Dev nD) : FVec F S512x512 .f32 := k0_pay56 (x2 I c) (x398 I c) (l838 I c) (l842 I c) (l852 I c) (l864 I c)
def x872 (I : Dev nD → In F) (c : Dev nD) : IVec S512x1 1 := k0_pay57 (x2 I c) (l842 I c)
def x873 (I : Dev nD → In F) (c : Dev nD) : FVec F S512x1 .f32 := k0_pay58 (F := F)
def l877 (I : Dev nD → In F) (c : Dev nD) : Vec F S1x512x1024 .f32 := (Memref.whole cc0_stg3_0 : Memref sig .tc .vmem S8x512x1024 .f32).view.readAt (Elt F) (Rect.unit (s := S8x512x1024) ![2, 0, 0] S1x512x1024.size inb_S8x512x1024_S1x512x1024_2_0_0).toLoadRect (I c).ew
def l890 (I : Dev nD → In F) (c : Dev nD) : Vec F S1x512x1024 .f32 := (Memref.whole cc0_stg3_0 : Memref sig .tc .vmem S8x512x1024 .f32).view.readAt (Elt F) (Rect.unit (s := S8x512x1024) ![3, 0, 0] S1x512x1024.size inb_S8x512x1024_S1x512x1024_3_0_0).toLoadRect (I c).ew
def l903 (I : Dev nD → In F) (c : Dev nD) : Vec F S1x512x1024 .f32 := (Memref.whole cc0_stg3_0 : Memref sig .tc .vmem S8x512x1024 .f32).view.readAt (Elt F) (Rect.unit (s := S8x512x1024) ![4, 0, 0] S1x512x1024.size inb_S8x512x1024_S1x512x1024_4_0_0).toLoadRect (I c).ew
def x907 (I : Dev nD → In F) (c : Dev nD) : FVec F S512x512 .f32 := k0_pay59 (x2 I c) (x398 I c) (x839 I c) (x843 I c) (x868 I c) (x872 I c) (x873 I c) (l877 I c) (l890 I c) (l903 I c)
def x911 (I : Dev nD → In F) (c : Dev nD) : IVec S512x1 1 := k0_pay60 (x2 I c) (x843 I c)
def x912 (I : Dev nD → In F) (c : Dev nD) : FVec F S512x1 .f32 := k0_pay61 (F := F)
def l916 (I : Dev nD → In F) (c : Dev nD) : Vec F S1x512x1024 .f32 := (Memref.whole cc0_stg3_0 : Memref sig .tc .vmem S8x512x1024 .f32).view.readAt (Elt F) (Rect.unit (s := S8x512x1024) ![5, 0, 0] S1x512x1024.size inb_S8x512x1024_S1x512x1024_5_0_0).toLoadRect (I c).ew
def l929 (I : Dev nD → In F) (c : Dev nD) : Vec F S1x512x1024 .f32 := (Memref.whole cc0_stg3_0 : Memref sig .tc .vmem S8x512x1024 .f32).view.readAt (Elt F) (Rect.unit (s := S8x512x1024) ![6, 0, 0] S1x512x1024.size inb_S8x512x1024_S1x512x1024_6_0_0).toLoadRect (I c).ew
def l942 (I : Dev nD → In F) (c : Dev nD) : Vec F S1x512x1024 .f32 := (Memref.whole cc0_stg3_0 : Memref sig .tc .vmem S8x512x1024 .f32).view.readAt (Elt F) (Rect.unit (s := S8x512x1024) ![7, 0, 0] S1x512x1024.size inb_S8x512x1024_S1x512x1024_7_0_0).toLoadRect (I c).ew
def x947 (I : Dev nD → In F) (c : Dev nD) : FVec F S512x512 .bf16 := (k0_pay62 (x2 I c) (x398 I c) (x839 I c) (x843 I c) (x907 I c) (x911 I c) (x912 I c) (l916 I c) (l929 I c) (l942 I c))
def x971 (I : Dev nD → In F) (c : Dev nD) : BitVec 32 := (Scalar.muli (Scalar.remsi (Scalar.addi (Scalar.subi (Scalar.subi (x2 I c) 1#32) 0#32) 4#32) 4#32) 512#32)
def l1041 (I : Dev nD → In F) (c : Dev nD) : Vec F S512x512 .f32 := (Memref.whole cc0_stg0_0 : Memref sig .tc .vmem S2048x512 .f32).view.readAt (Elt F) (Rect.unit (s := S2048x512) (k0_off9 c 2#32) S512x512.size (k0_off9_inb c 1)).toLoadRect (I c).x
def l1045 (I : Dev nD → In F) (c : Dev nD) : Vec F S512x1 .i32 := (Memref.whole cc0_stg2_0 : Memref sig .tc .vmem S2048x1 .i32).view.readAt (Elt F) (Rect.unit (s := S2048x1) (k0_off10 c 2#32) S512x1.size (k0_off10_inb c 1)).toLoadRect (I c).ix
def l1047 (I : Dev nD → In F) (c : Dev nD) : Vec F S512x32 .f32 := (Memref.whole cc0_stg1_0 : Memref sig .tc .vmem S512x32 .f32).view.readAt (Elt F) (Rect.unit (s := S512x32) ![0, 0] S512x32.size inb_S512x32_S512x32_0_0).toLoadRect (I c).rw
def l1068 (I : Dev nD → In F) (c : Dev nD) : Vec F S512x512 .f32 := (Memref.whole cc0_stg0_0 : Memref sig .tc .vmem S2048x512 .f32).view.readAt (Elt F) (Rect.unit (s := S2048x512) (k0_off9 c 2#32) S512x512.size (k0_off9_inb c 1)).toLoadRect (I c).x
def l1072 (I : Dev nD → In F) (c : Dev nD) : Vec F S512x1 .i32 := (Memref.whole cc0_stg2_0 : Memref sig .tc .vmem S2048x1 .i32).view.readAt (Elt F) (Rect.unit (s := S2048x1) (k0_off10 c 2#32) S512x1.size (k0_off10_inb c 1)).toLoadRect (I c).ix
def x1065 (I : Dev nD → In F) (c : Dev nD) : FVec F S512x1 .f32 := k0_pay67 (l1041 I c) (l1045 I c) (l1047 I c)
def x1069 (I : Dev nD → In F) (c : Dev nD) : FVec F S512x512 .f32 := k0_pay68 (l1068 I c)
def x1073 (I : Dev nD → In F) (c : Dev nD) : IVec S512x1 32 := k0_pay69 (l1072 I c)
def x1074 (I : Dev nD → In F) (c : Dev nD) : BitVec 32 := (Scalar.muli (x2 I c) 8#32)
def l1082 (I : Dev nD → In F) (c : Dev nD) : Vec F S1x512x1024 .f32 := (Memref.whole cc0_stg3_0 : Memref sig .tc .vmem S8x512x1024 .f32).view.readAt (Elt F) (Rect.unit (s := S8x512x1024) ![0, 0, 0] S1x512x1024.size inb_S8x512x1024_S1x512x1024_0_0_0).toLoadRect (I c).ew
def l1094 (I : Dev nD → In F) (c : Dev nD) : Vec F S1x512x1024 .f32 := (Memref.whole cc0_stg3_0 : Memref sig .tc .vmem S8x512x1024 .f32).view.readAt (Elt F) (Rect.unit (s := S8x512x1024) ![1, 0, 0] S1x512x1024.size inb_S8x512x1024_S1x512x1024_1_0_0).toLoadRect (I c).ew
def l1107 (I : Dev nD → In F) (c : Dev nD) : Vec F S1x512x1024 .f32 := (Memref.whole cc0_stg3_0 : Memref sig .tc .vmem S8x512x1024 .f32).view.readAt (Elt F) (Rect.unit (s := S8x512x1024) ![2, 0, 0] S1x512x1024.size inb_S8x512x1024_S1x512x1024_2_0_0).toLoadRect (I c).ew
def x1111 (I : Dev nD → In F) (c : Dev nD) : FVec F S512x512 .f32 := k0_pay70 (x2 I c) (x1065 I c) (x1069 I c) (x1073 I c) (x1074 I c) (l1082 I c) (l1094 I c) (l1107 I c)
def x1112 (I : Dev nD → In F) (c : Dev nD) : BitVec 32 := (Scalar.muli (x2 I c) 8#32)
def x_c3_i32_692 (I : Dev nD → In F) (c : Dev nD) : BitVec 32 := 3#32
def l1120 (I : Dev nD → In F) (c : Dev nD) : Vec F S1x512x1024 .f32 := (Memref.whole cc0_stg3_0 : Memref sig .tc .vmem S8x512x1024 .f32).view.readAt (Elt F) (Rect.unit (s := S8x512x1024) ![3, 0, 0] S1x512x1024.size inb_S8x512x1024_S1x512x1024_3_0_0).toLoadRect (I c).ew
def l1133 (I : Dev nD → In F) (c : Dev nD) : Vec F S1x512x1024 .f32 := (Memref.whole cc0_stg3_0 : Memref sig .tc .vmem S8x512x1024 .f32).view.readAt (Elt F) (Rect.unit (s := S8x512x1024) ![4, 0, 0] S1x512x1024.size inb_S8x512x1024_S1x512x1024_4_0_0).toLoadRect (I c).ew
def l1146 (I : Dev nD → In F) (c : Dev nD) : Vec F S1x512x1024 .f32 := (Memref.whole cc0_stg3_0 : Memref sig .tc .vmem S8x512x1024 .f32).view.readAt (Elt F) (Rect.unit (s := S8x512x1024) ![5, 0, 0] S1x512x1024.size inb_S8x512x1024_S1x512x1024_5_0_0).toLoadRect (I c).ew
def x1150 (I : Dev nD → In F) (c : Dev nD) : FVec F S512x512 .f32 := k0_pay71 (x2 I c) (x1065 I c) (x1069 I c) (x1073 I c) (x1111 I c) (x1112 I c) (x_c3_i32_692 I c) (l1120 I c) (l1133 I c) (l1146 I c)
def x1151 (I : Dev nD → In F) (c : Dev nD) : BitVec 32 := (Scalar.muli (x2 I c) 8#32)
def x_c6_i32_713 (I : Dev nD → In F) (c : Dev nD) : BitVec 32 := 6#32
def l1159 (I : Dev nD → In F) (c : Dev nD) : Vec F S1x512x1024 .f32 := (Memref.whole cc0_stg3_0 : Memref sig .tc .vmem S8x512x1024 .f32).view.readAt (Elt F) (Rect.unit (s := S8x512x1024) ![6, 0, 0] S1x512x1024.size inb_S8x512x1024_S1x512x1024_6_0_0).toLoadRect (I c).ew
def l1172 (I : Dev nD → In F) (c : Dev nD) : Vec F S1x512x1024 .f32 := (Memref.whole cc0_stg3_0 : Memref sig .tc .vmem S8x512x1024 .f32).view.readAt (Elt F) (Rect.unit (s := S8x512x1024) ![7, 0, 0] S1x512x1024.size inb_S8x512x1024_S1x512x1024_7_0_0).toLoadRect (I c).ew
def x1214 (I : Dev nD → In F) (c : Dev nD) : BitVec 32 := (Scalar.remsi (Scalar.addi (Scalar.subi (x2 I c) 2#32) 4#32) 4#32)
def x1215 (I : Dev nD → In F) (c : Dev nD) : BitVec 32 := (Scalar.addi (x2 I c) 2#32)
def x_c4_i32_765 (I : Dev nD → In F) (c : Dev nD) : BitVec 32 := 4#32
def l1271 (I : Dev nD → In F) (c : Dev nD) : Vec F S512x512 .f32 := (Memref.whole cc0_stg0_0 : Memref sig .tc .vmem S2048x512 .f32).view.readAt (Elt F) (Rect.unit (s := S2048x512) (k0_off9 c 2#32) S512x512.size (k0_off9_inb c 1)).toLoadRect (I c).x
def x1272 (I : Dev nD → In F) (c : Dev nD) : FVec F S512x512 .f32 := k0_pay75 (l1271 I c)
def x_c512_i32_823 (I : Dev nD → In F) (c : Dev nD) : BitVec 32 := 512#32
def l1275 (I : Dev nD → In F) (c : Dev nD) : Vec F S512x1 .i32 := (Memref.whole cc0_stg2_0 : Memref sig .tc .vmem S2048x1 .i32).view.readAt (Elt F) (Rect.unit (s := S2048x1) (k0_off10 c 2#32) S512x1.size (k0_off10_inb c 1)).toLoadRect (I c).ix
def l1285 (I : Dev nD → In F) (c : Dev nD) : Vec F S1x512x1024 .f32 := (Memref.whole cc0_stg3_0 : Memref sig .tc .vmem S8x512x1024 .f32).view.readAt (Elt F) (Rect.unit (s := S8x512x1024) ![0, 0, 0] S1x512x1024.size inb_S8x512x1024_S1x512x1024_0_0_0).toLoadRect (I c).ew
def l1297 (I : Dev nD → In F) (c : Dev nD) : Vec F S1x512x1024 .f32 := (Memref.whole cc0_stg3_0 : Memref sig .tc .vmem S8x512x1024 .f32).view.readAt (Elt F) (Rect.unit (s := S8x512x1024) ![1, 0, 0] S1x512x1024.size inb_S8x512x1024_S1x512x1024_1_0_0).toLoadRect (I c).ew
def l1310 (I : Dev nD → In F) (c : Dev nD) : Vec F S1x512x1024 .f32 := (Memref.whole cc0_stg3_0 : Memref sig .tc .vmem S8x512x1024 .f32).view.readAt (Elt F) (Rect.unit (s := S8x512x1024) ![2, 0, 0] S1x512x1024.size inb_S8x512x1024_S1x512x1024_2_0_0).toLoadRect (I c).ew
def x1276 (I : Dev nD → In F) (c : Dev nD) : IVec S512x1 32 := k0_pay76 (l1275 I c)
def x1301 (I : Dev nD → In F) (c : Dev nD) : FVec F S512x512 .f32 := k0_pay77 (x2 I c) (x1065 I c) (x1272 I c) (l1275 I c) (l1285 I c) (l1297 I c)
def x1309 (I : Dev nD → In F) (c : Dev nD) : FVec F S512x512 .f32 := k0_pay78 (x2 I c) (x1065 I c) (x1272 I c) (l1275 I c)
def x1311 (I : Dev nD → In F) (c : Dev nD) : FVec F S512x1024 .f32 := k0_pay79 (l1310 I c)
def l1323 (I : Dev nD → In F) (c : Dev nD) : Vec F S1x512x1024 .f32 := (Memref.whole cc0_stg3_0 : Memref sig .tc .vmem S8x512x1024 .f32).view.readAt (Elt F) (Rect.unit (s := S8x512x1024) ![3, 0, 0] S1x512x1024.size inb_S8x512x1024_S1x512x1024_3_0_0).toLoadRect (I c).ew
def l1336 (I : Dev nD → In F) (c : Dev nD) : Vec F S1x512x1024 .f32 := (Memref.whole cc0_stg3_0 : Memref sig .tc .vmem S8x512x1024 .f32).view.readAt (Elt F) (Rect.unit (s := S8x512x1024) ![4, 0, 0] S1x512x1024.size inb_S8x512x1024_S1x512x1024_4_0_0).toLoadRect (I c).ew
def l1349 (I : Dev nD → In F) (c : Dev nD) : Vec F S1x512x1024 .f32 := (Memref.whole cc0_stg3_0 : Memref sig .tc .vmem S8x512x1024 .f32).view.readAt (Elt F) (Rect.unit (s := S8x512x1024) ![5, 0, 0] S1x512x1024.size inb_S8x512x1024_S1x512x1024_5_0_0).toLoadRect (I c).ew
def x1340 (I : Dev nD → In F) (c : Dev nD) : FVec F S512x512 .f32 := k0_pay80 (x2 I c) (x1065 I c) (x1272 I c) (x1276 I c) (x1301 I c) (x1309 I c) (x1311 I c) (l1323 I c) (l1336 I c)
def x1348 (I : Dev nD → In F) (c : Dev nD) : FVec F S512x512 .f32 := k0_pay81 (x2 I c) (x1065 I c) (x1272 I c) (x1276 I c)
def x1350 (I : Dev nD → In F) (c : Dev nD) : FVec F S512x1024 .f32 := k0_pay82 (l1349 I c)
def l1362 (I : Dev nD → In F) (c : Dev nD) : Vec F S1x512x1024 .f32 := (Memref.whole cc0_stg3_0 : Memref sig .tc .vmem S8x512x1024 .f32).view.readAt (Elt F) (Rect.unit (s := S8x512x1024) ![6, 0, 0] S1x512x1024.size inb_S8x512x1024_S1x512x1024_6_0_0).toLoadRect (I c).ew
def l1375 (I : Dev nD → In F) (c : Dev nD) : Vec F S1x512x1024 .f32 := (Memref.whole cc0_stg3_0 : Memref sig .tc .vmem S8x512x1024 .f32).view.readAt (Elt F) (Rect.unit (s := S8x512x1024) ![7, 0, 0] S1x512x1024.size inb_S8x512x1024_S1x512x1024_7_0_0).toLoadRect (I c).ew
def x1415 (I : Dev nD → In F) (c : Dev nD) : BitVec 32 := (Scalar.subi (x2 I c) 2#32)
def x_c1_i32_1063 (I : Dev nD → In F) (c : Dev nD) : BitVec 32 := 1#32
def x1582 (I : Dev nD → In F) (c : Dev nD) : BitVec 32 := (Scalar.muli (Scalar.remsi (Scalar.addi (Scalar.subi (Scalar.subi (x2 I c) 1#32) 2#32) 4#32) 4#32) 512#32)
def x1635 (I : Dev nD → In F) (c : Dev nD) : BitVec 32 := (Scalar.addi (Scalar.muli (Scalar.remsi (Scalar.addi (Scalar.addi (x2 I c) 1#32) 2#32) 4#32) 512#32) 256#32)
def x1673 (I : Dev nD → In F) (c : Dev nD) : BitVec 32 := (Scalar.addi (Scalar.muli (x12 I c) 512#32) 256#32)
def x1703 (I : Dev nD → In F) (c : Dev nD) : BitVec 32 := (Scalar.subi (Scalar.addi (x2 I c) 1#32) 1#32)
def x_c4_i32_1196 (I : Dev nD → In F) (c : Dev nD) : BitVec 32 := 4#32
def x1821 (I : Dev nD → In F) (c : Dev nD) : BitVec 32 := (Scalar.addi (Scalar.muli (x2 I c) 512#32) 0#32)
def x1969 (I : Dev nD → In F) (c : Dev nD) : BitVec 32 := (Scalar.addi (Scalar.muli (x12 I c) 512#32) 0#32)
def x2057 (I : Dev nD → In F) (c : Dev nD) : BitVec 32 := (Scalar.addi (Scalar.muli (x14 I c) 512#32) 0#32)

/-! ## The chunks of partial sums, and their pieces -/

def st_0_0 (I : Dev nD → In F) (c : Dev nD) : FVec F S1x512x512 .bf16 := (k0_pay13 (x45 I c) (x152 I c) (l153 I c))
def st_0_1 (I : Dev nD → In F) (c : Dev nD) : FVec F S1x512x512 .bf16 := (k0_pay35 (x2 I c) (x371 I c) (x402 I c) (x406 I c) (x470 I c) (x478 I c) (x481 I c) (l492 I c) (l505 I c))
def st_0_2 (I : Dev nD → In F) (c : Dev nD) : FVec F S1x512x512 .bf16 := (k0_pay72 (x2 I c) (x1065 I c) (x1069 I c) (x1073 I c) (x1150 I c) (x1151 I c) (x_c6_i32_713 I c) (l1159 I c) (l1172 I c))
def st_0_3 (I : Dev nD → In F) (c : Dev nD) : FVec F S1x512x512 .bf16 := (k0_pay44 (x2 I c) (x398 I c) (x519 I c) (x523 I c) (x587 I c) (x595 I c) (x597 I c) (l609 I c) (l622 I c))
def st_1_0 (I : Dev nD → In F) (c : Dev nD) : FVec F S1x512x512 .bf16 := (k0_pay22 (x2 I c) (x41 I c) (x199 I c) (x203 I c) (x280 I c) (x292 I c) (l302 I c) (l307 I c))
def st_1_1 (I : Dev nD → In F) (c : Dev nD) : FVec F S1x512x512 .bf16 := (x835 I c)
def st_1_2 (I : Dev nD → In F) (c : Dev nD) : FVec F S1x512x512 .bf16 := (k0_pay83 (x2 I c) (x1065 I c) (x1272 I c) (x1276 I c) (x1340 I c) (x1348 I c) (x1350 I c) (l1362 I c) (l1375 I c))
def st_1_3 (I : Dev nD → In F) (c : Dev nD) : FVec F S1x512x512 .bf16 := (k0_pay63 (x947 I c))

/-- The chunk `j` steps after the device's own, in column half `w`. -/
def stW (I : Dev nD → In F) (c : Dev nD) (w : Fin 2) (j : ℕ) : FVec F S1x512x512 .bf16 :=
  match w, j with
  | 0, 0 => st_0_0 I c
  | 0, 1 => st_0_1 I c
  | 0, 2 => st_0_2 I c
  | 0, _ => st_0_3 I c
  | 1, 0 => st_1_0 I c
  | 1, 1 => st_1_1 I c
  | 1, 2 => st_1_2 I c
  | 1, _ => st_1_3 I c

/-- A device's own partial sums: direction, column half, number of steps back along the ring. -/
def Vc (I : Dev nD → In F) (c : Dev nD) (d w : Fin 2) (k : ℕ) : PV F := half d (stW I c w (if d = 0 then (4 - k) % 4 else k))

def x977 (I : Dev nD → In F) (c : Dev nD) : FVec F S256x512 .bf16 := k0_pay64 (sq (Vc I c 0 1 1)) (sq4 (M (Vc I) 0 1 0 (up 0 c)))
def x1496 (I : Dev nD → In F) (c : Dev nD) : FVec F S256x512 .bf16 := (k0_pay86 (sq (Vc I c 0 0 3)) (sq4 (M (Vc I) 0 0 2 (up 0 c))))
def x1638 (I : Dev nD → In F) (c : Dev nD) : FVec F S256x512 .bf16 := k0_pay90 (sq (Vc I c 1 1 3))
def x1639 (I : Dev nD → In F) (c : Dev nD) : Vec F S1x1x256x512 .bf16 := (sq4 (M (Vc I) 1 1 2 (up 1 c)))
def x1971 (I : Dev nD → In F) (c : Dev nD) : Vec F S1x256x512 .bf16 := (sq (M (Vc I) 0 0 5 c))
def x2059 (I : Dev nD → In F) (c : Dev nD) : Vec F S1x256x512 .bf16 := (sq (M (Vc I) 0 0 6 c))

end Cert.Ring

end

end
-- ==== Proof.Parts1.lean ====
module

public import proofs.«01_k».proof.Proof.Vals

/-!
# The program, part by part (1 to 12)
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Dev nD → In F) (c : Dev nD)

theorem part1 {Q : (Σ' (d0 : Dev nD) (v2 : BitVec 32) (v5 : BitVec 32) (v7 : BitVec 32) (v9 : BitVec 32) (v12 : BitVec 32) (v14 : BitVec 32) (v22 : IVec S512x1 32) (v34 : FVec F S512x32 .f32), IVec S512x32 32) → sProp 𝕄} :
    iprop(ins I c)
      ⊢ iprop(((ins I c) -∗ Q ⟨c, (x2 I c), (x5 I c), (x7 I c), (x9 I c), (x12 I c), (x14 I c), (x22 I c), (x34 I c), (x35 I c)⟩)
        -∗ WP c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 ) Q) := by
  rw [k0_part1_eq_skeleton]
  unfold k0_part1_skel
  unfold x12 x14 x2 x22 x34 x35 x5 x7 x9 l17 l21 l23
  simp only [semSignalWord, semWaitWord, bar_sem, Prog.lift, Prog.bind_op, Prog.bind_ret, Prog.pure_eq_ret, Prog.bind_assoc, wp_deviceId]
  iintro Hi Hk
  iapply (ld_x I c) $$ Hi
  iintro Hi
  iapply (ld_ix I c) $$ Hi
  iintro Hi
  iapply (ld_rw I c) $$ Hi
  iintro Hi
  iapply le_wp_ret
  iapply Hk
  iexact Hi

theorem part2 {Q : (Σ' (v41 : FVec F S512x1 .f32) (v45 : FVec F S512x512 .f32) (v49 : IVec S512x1 32) (v74 : FVec F S512x512 .f32), BitVec 32) → sProp 𝕄} :
    iprop(ins I c)
      ⊢ iprop(((ins I c) -∗ Q ⟨(x41 I c), (x45 I c), (x49 I c), (x74 I c), (x_c8_i32_34 I c)⟩)
        -∗ WP c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x22 I c) (x34 I c) (x35 I c)) Q) := by
  rw [k0_part2_eq_skeleton]
  unfold k0_part2_skel
  unfold x41 x45 x49 x74 x_c8_i32_34 l44 l48 l58 l70
  simp only [semSignalWord, semWaitWord, bar_sem, Prog.lift, Prog.bind_op, Prog.bind_ret, Prog.pure_eq_ret, Prog.bind_assoc, wp_deviceId]
  iintro Hi Hk
  iapply (ld_x I c) $$ Hi
  iintro Hi
  iapply (ld_ix I c) $$ Hi
  iintro Hi
  iapply (ld_ew I c) $$ Hi
  iintro Hi
  iapply (ld_ew I c) $$ Hi
  iintro Hi
  iapply le_wp_ret
  iapply Hk
  iexact Hi

theorem part3 {Q : (Σ' (v113 : FVec F S512x512 .f32), BitVec 32) → sProp 𝕄} :
    iprop(ins I c)
      ⊢ iprop(((ins I c) -∗ Q ⟨(x113 I c), (x_c8_i32_51 I c)⟩)
        -∗ WP c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (x2 I c) (x41 I c) (x45 I c) (x49 I c) (x74 I c) (x_c8_i32_34 I c)) Q) := by
  rw [k0_part3_eq_skeleton]
  unfold k0_part3_skel
  unfold x113 x_c8_i32_51 l109 l83 l96
  simp only [semSignalWord, semWaitWord, bar_sem, Prog.lift, Prog.bind_op, Prog.bind_ret, Prog.pure_eq_ret, Prog.bind_assoc, wp_deviceId]
  iintro Hi Hk
  iapply (ld_ew I c) $$ Hi
  iintro Hi
  iapply (ld_ew I c) $$ Hi
  iintro Hi
  iapply (ld_ew I c) $$ Hi
  iintro Hi
  iapply le_wp_ret
  iapply Hk
  iexact Hi

theorem part4 {Q : (FVec F S512x512 .f32) → sProp 𝕄} :
    iprop(ins I c)
      ⊢ iprop(((ins I c) -∗ Q (x152 I c))
        -∗ WP c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (x2 I c) (x41 I c) (x45 I c) (x49 I c) (x113 I c) (x_c8_i32_51 I c)) Q) := by
  rw [k0_part4_eq_skeleton]
  unfold k0_part4_skel
  unfold x152 l122 l135 l148
  simp only [semSignalWord, semWaitWord, bar_sem, Prog.lift, Prog.bind_op, Prog.bind_ret, Prog.pure_eq_ret, Prog.bind_assoc, wp_deviceId]
  iintro Hi Hk
  iapply (ld_ew I c) $$ Hi
  iintro Hi
  iapply (ld_ew I c) $$ Hi
  iintro Hi
  iapply (ld_ew I c) $$ Hi
  iintro Hi
  iapply le_wp_ret
  iapply Hk
  iexact Hi

theorem part5 {Q : (PUnit) → sProp 𝕄} :
    iprop(Ctx (Vc I) ∗ ins I c ∗ raw (F := F) c 0 0 ∗ BarPre (F := F) c ∗ OwB (F := F) c)
      ⊢ iprop(((ins I c ∗ dsts (F := F) 0 0 0 c ∗ dsts (F := F) 0 1 0 c ∗ dsts (F := F) 1 0 0 c ∗ dsts (F := F) 1 1 0 c ∗ semVal (barC c) 0 ∗ Ow (F := F) 0 c ∗ pc c 0 (row 0 c 0) fullShare (Vc I c 0 0 0) ∗ pc c 0 (row 1 c 0) fullShare (Vc I c 1 0 0)) -∗ Q ⟨⟩)
        -∗ WP c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x5 I c) (x7 I c) (x45 I c) (x152 I c)) Q) := by
  rw [k0_part5_eq_skeleton]
  unfold k0_part5_skel
  simp only [semSignalWord, semWaitWord, bar_sem, Prog.lift, Prog.bind_op, Prog.bind_ret, Prog.pure_eq_ret, Prog.bind_assoc, wp_deviceId]
  iintro ⟨#HC, Hi, R00, HB, HW⟩ Hk
  iapply (ld_sw I c) $$ Hi
  iintro Hi
  iapply (ld_raw c (w := 0) (j := 0) (oc3_ c)) $$ R00
  iintro R00
  iapply (st_chunk (Vc I) c (w := 0) (j := 0) (oc3_ c) 0 0 (ck0_0 c) (ck1_0 c) rfl rfl) $$ R00
  iintro ⟨P000, P100⟩
  iapply (bar_lanes (Vc I) c (dv1 c _) (dv2 c _)) $$ [HB HW]
  · isplitr [HB HW]; · iexact HC
    isplitl [HB]; · iexact HB
    iexact HW
  iintro ⟨HS, D00, D01, D10, D11, Ho⟩
  iapply le_wp_ret
  iapply Hk
  isplitl [Hi]; · iexact Hi
  isplitl [D00]; · iexact D00
  isplitl [D01]; · iexact D01
  isplitl [D10]; · iexact D10
  isplitl [D11]; · iexact D11
  isplitl [HS]; · iexact HS
  isplitl [Ho]; · iexact Ho
  isplitl [P000]; · iexact P000
  iexact P100

theorem part6 {Q : (Σ' (v199 : FVec F S512x512 .f32) (v203 : IVec S512x1 32) (v211 : FVec F S512x512 .f32) (v214 : FVec F S512x512 .f32), FVec F S512x512 .f32) → sProp 𝕄} :
    iprop(Ctx (Vc I) ∗ pc c 0 (row 0 c 0) fullShare (Vc I c 0 0 0) ∗ fuel (F := F) 0 0 0 c ∗ dsts (F := F) 0 0 0 c ∗ Ow (F := F) 0 c ∗ pc c 0 (row 1 c 0) fullShare (Vc I c 1 0 0) ∗ fuel (F := F) 1 0 0 c ∗ dsts (F := F) 1 0 0 c ∗ ins I c)
      ⊢ iprop(((Ow (F := F) 2 c ∗ ins I c ∗ Sent (Vc I) 0 0 0 c ∗ Sent (Vc I) 1 0 0 c) -∗ Q ⟨(x199 I c), (x203 I c), (x211 I c), (x214 I c), (x_cst_116 I c)⟩)
        -∗ WP c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x5 I c) (x41 I c)) Q) := by
  rw [k0_part6_eq_skeleton]
  unfold k0_part6_skel
  unfold x199 x203 x211 x214 x_cst_116 l198 l202 l212
  simp only [semSignalWord, semWaitWord, bar_sem, Prog.lift, Prog.bind_op, Prog.bind_ret, Prog.pure_eq_ret, Prog.bind_assoc, wp_deviceId]
  iintro ⟨#HC, P000, F00, D00, Ho, P100, F10, D10, Hi⟩ Hk
  ihave L00 := (lane_start (Vc I) 0 0 c) $$ [P000 F00 D00]
  · isplitl [P000]; · iexact P000
    isplitl [F00]; · iexact F00
    iexact D00
  iapply (send_slot (Vc I) 0 0 0 c 0 (by decide) rfl _ (dv3 c _) (pM_eq (op4_0 c) _ _ _) rfl rfl rfl) $$ [L00 Ho]
  · isplitr [L00 Ho]; · iexact HC
    isplitl [L00]; · iexact L00
    iexact Ho
  iintro ⟨L00, Ho⟩
  ihave L10 := (lane_start (Vc I) 1 0 c) $$ [P100 F10 D10]
  · isplitl [P100]; · iexact P100
    isplitl [F10]; · iexact F10
    iexact D10
  iapply (send_slot (Vc I) 1 0 0 c 1 (by decide) rfl _ (dv4 c _) (pM_eq (op5_0 c) _ _ _) rfl rfl rfl) $$ [L10 Ho]
  · isplitr [L10 Ho]; · iexact HC
    isplitl [L10]; · iexact L10
    iexact Ho
  iintro ⟨L10, Ho⟩
  iapply (ld_x I c) $$ Hi
  iintro Hi
  iapply (ld_ix I c) $$ Hi
  iintro Hi
  iapply (ld_ew I c) $$ Hi
  iintro Hi
  iapply le_wp_ret
  iapply Hk
  isplitl [Ho]; · iexact Ho
  isplitl [Hi]; · iexact Hi
  isplitl [L00]; · iexact L00
  iexact L10

theorem part7 {Q : (Σ' (v241 : FVec F S512x512 .f32), FVec F S512x512 .f32) → sProp 𝕄} :
    iprop(ins I c)
      ⊢ iprop(((ins I c) -∗ Q ⟨(x241 I c), (x253 I c)⟩)
        -∗ WP c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (x2 I c) (x41 I c) (x199 I c) (x203 I c) (x211 I c) (x214 I c) (x_cst_116 I c)) Q) := by
  rw [k0_part7_eq_skeleton]
  unfold k0_part7_skel
  unfold x241 x253 l224 l237 l250
  simp only [semSignalWord, semWaitWord, bar_sem, Prog.lift, Prog.bind_op, Prog.bind_ret, Prog.pure_eq_ret, Prog.bind_assoc, wp_deviceId]
  iintro Hi Hk
  iapply (ld_ew I c) $$ Hi
  iintro Hi
  iapply (ld_ew I c) $$ Hi
  iintro Hi
  iapply (ld_ew I c) $$ Hi
  iintro Hi
  iapply le_wp_ret
  iapply Hk
  iexact Hi

theorem part8 {Q : (Σ' (v280 : FVec F S512x512 .f32), FVec F S512x512 .f32) → sProp 𝕄} :
    iprop(ins I c)
      ⊢ iprop(((ins I c) -∗ Q ⟨(x280 I c), (x292 I c)⟩)
        -∗ WP c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (x2 I c) (x41 I c) (x199 I c) (x203 I c) (x241 I c) (x253 I c)) Q) := by
  rw [k0_part8_eq_skeleton]
  unfold k0_part8_skel
  unfold x280 x292 l263 l276 l289
  simp only [semSignalWord, semWaitWord, bar_sem, Prog.lift, Prog.bind_op, Prog.bind_ret, Prog.pure_eq_ret, Prog.bind_assoc, wp_deviceId]
  iintro Hi Hk
  iapply (ld_ew I c) $$ Hi
  iintro Hi
  iapply (ld_ew I c) $$ Hi
  iintro Hi
  iapply (ld_ew I c) $$ Hi
  iintro Hi
  iapply le_wp_ret
  iapply Hk
  iexact Hi

theorem part9 {Q : (BitVec 32) → sProp 𝕄} :
    iprop(ins I c ∗ raw (F := F) c 1 0)
      ⊢ iprop(((ins I c ∗ pc c 1 (row 0 c 0) fullShare (Vc I c 0 1 0) ∗ pc c 1 (row 1 c 0) fullShare (Vc I c 1 1 0)) -∗ Q (x_c1_i32_184 I c))
        -∗ WP c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x41 I c) (x199 I c) (x203 I c) (x280 I c) (x292 I c)) Q) := by
  rw [k0_part9_eq_skeleton]
  unfold k0_part9_skel
  unfold x_c1_i32_184
  simp only [semSignalWord, semWaitWord, bar_sem, Prog.lift, Prog.bind_op, Prog.bind_ret, Prog.pure_eq_ret, Prog.bind_assoc, wp_deviceId]
  iintro ⟨Hi, R10⟩ Hk
  iapply (ld_ew I c) $$ Hi
  iintro Hi
  iapply (ld_sw I c) $$ Hi
  iintro Hi
  iapply (ld_raw c (w := 1) (j := 0) (oc6_ c)) $$ R10
  iintro R10
  iapply (st_chunk (Vc I) c (w := 1) (j := 0) (oc6_ c) 0 0 (ck0_0 c) (ck1_0 c) rfl rfl) $$ R10
  iintro ⟨P010, P110⟩
  iapply le_wp_ret
  iapply Hk
  isplitl [Hi]; · iexact Hi
  isplitl [P010]; · iexact P010
  iexact P110

theorem part10 {Q : (Σ' (v352 : IVec S512x1 32), FVec F S512x32 .f32) → sProp 𝕄} :
    iprop(Ctx (Vc I) ∗ pc c 1 (row 0 c 0) fullShare (Vc I c 0 1 0) ∗ fuel (F := F) 0 1 0 c ∗ dsts (F := F) 0 1 0 c ∗ Ow (F := F) 2 c ∗ pc c 1 (row 1 c 0) fullShare (Vc I c 1 1 0) ∗ fuel (F := F) 1 1 0 c ∗ dsts (F := F) 1 1 0 c ∗ ins I c)
      ⊢ iprop(((Ow (F := F) 4 c ∗ ins I c ∗ Sent (Vc I) 0 1 0 c ∗ Sent (Vc I) 1 1 0 c) -∗ Q ⟨(x352 I c), (x360 I c)⟩)
        -∗ WP c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x5 I c) (x7 I c) (x9 I c) (x_c1_i32_184 I c)) Q) := by
  rw [k0_part10_eq_skeleton]
  unfold k0_part10_skel
  unfold x352 x360 l347 l351 l353
  simp only [semSignalWord, semWaitWord, bar_sem, Prog.lift, Prog.bind_op, Prog.bind_ret, Prog.pure_eq_ret, Prog.bind_assoc, wp_deviceId]
  iintro ⟨#HC, P010, F01, D01, Ho, P110, F11, D11, Hi⟩ Hk
  ihave L01 := (lane_start (Vc I) 0 1 c) $$ [P010 F01 D01]
  · isplitl [P010]; · iexact P010
    isplitl [F01]; · iexact F01
    iexact D01
  iapply (send_slot (Vc I) 0 1 0 c 2 (by decide) rfl _ (dv5 c _) (pM_eq (op7_0 c) _ _ _) rfl rfl rfl) $$ [L01 Ho]
  · isplitr [L01 Ho]; · iexact HC
    isplitl [L01]; · iexact L01
    iexact Ho
  iintro ⟨L01, Ho⟩
  ihave L11 := (lane_start (Vc I) 1 1 c) $$ [P110 F11 D11]
  · isplitl [P110]; · iexact P110
    isplitl [F11]; · iexact F11
    iexact D11
  iapply (send_slot (Vc I) 1 1 0 c 3 (by decide) rfl _ (dv6 c _) (pM_eq (op8_0 c) _ _ _) rfl rfl rfl) $$ [L11 Ho]
  · isplitr [L11 Ho]; · iexact HC
    isplitl [L11]; · iexact L11
    iexact Ho
  iintro ⟨L11, Ho⟩
  iapply (ld_x I c) $$ Hi
  iintro Hi
  iapply (ld_ix I c) $$ Hi
  iintro Hi
  iapply (ld_rw I c) $$ Hi
  iintro Hi
  iapply le_wp_ret
  iapply Hk
  isplitl [Ho]; · iexact Ho
  isplitl [Hi]; · iexact Hi
  isplitl [L01]; · iexact L01
  iexact L11

theorem part11 {Q : (Σ' (v371 : FVec F S512x1 .f32) (v398 : FVec F S512x1 .f32) (v402 : FVec F S512x512 .f32), BitVec 32) → sProp 𝕄} :
    iprop(ins I c)
      ⊢ iprop(((ins I c) -∗ Q ⟨(x371 I c), (x398 I c), (x402 I c), (x403 I c)⟩)
        -∗ WP c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x9 I c) (x12 I c) (x352 I c) (x360 I c)) Q) := by
  rw [k0_part11_eq_skeleton]
  unfold k0_part11_skel
  unfold x371 x398 x402 x403 l374 l378 l380 l401
  simp only [semSignalWord, semWaitWord, bar_sem, Prog.lift, Prog.bind_op, Prog.bind_ret, Prog.pure_eq_ret, Prog.bind_assoc, wp_deviceId]
  iintro Hi Hk
  iapply (ld_x I c) $$ Hi
  iintro Hi
  iapply (ld_ix I c) $$ Hi
  iintro Hi
  iapply (ld_rw I c) $$ Hi
  iintro Hi
  iapply (ld_x I c) $$ Hi
  iintro Hi
  iapply le_wp_ret
  iapply Hk
  iexact Hi

theorem part12 {Q : (Σ' (v406 : IVec S512x1 32) (v431 : FVec F S512x512 .f32) (v439 : FVec F S512x512 .f32), FVec F S512x512 .f32) → sProp 𝕄} :
    iprop(ins I c)
      ⊢ iprop(((ins I c) -∗ Q ⟨(x406 I c), (x431 I c), (x439 I c), (x442 I c)⟩)
        -∗ WP c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x371 I c) (x402 I c) (x403 I c)) Q) := by
  rw [k0_part12_eq_skeleton]
  unfold k0_part12_skel
  unfold x406 x431 x439 x442 l405 l415 l427 l440
  simp only [semSignalWord, semWaitWord, bar_sem, Prog.lift, Prog.bind_op, Prog.bind_ret, Prog.pure_eq_ret, Prog.bind_assoc, wp_deviceId]
  iintro Hi Hk
  iapply (ld_ix I c) $$ Hi
  iintro Hi
  iapply (ld_ew I c) $$ Hi
  iintro Hi
  iapply (ld_ew I c) $$ Hi
  iintro Hi
  iapply (ld_ew I c) $$ Hi
  iintro Hi
  iapply le_wp_ret
  iapply Hk
  iexact Hi

end Cert.Ring

end

end
-- ==== Proof.Parts2.lean ====
module

public import proofs.«01_k».proof.Proof.Vals

/-!
# The program, part by part (13 to 26)
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Dev nD → In F) (c : Dev nD)

theorem part13 {Q : (Σ' (v470 : FVec F S512x512 .f32) (v478 : FVec F S512x512 .f32), FVec F S512x512 .f32) → sProp 𝕄} :
    iprop(ins I c)
      ⊢ iprop(((ins I c) -∗ Q ⟨(x470 I c), (x478 I c), (x481 I c)⟩)
        -∗ WP c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (x2 I c) (x371 I c) (x402 I c) (x406 I c) (x431 I c) (x439 I c) (x442 I c)) Q) := by
  rw [k0_part13_eq_skeleton]
  unfold k0_part13_skel
  unfold x470 x478 x481 l453 l466 l479
  simp only [semSignalWord, semWaitWord, bar_sem, Prog.lift, Prog.bind_op, Prog.bind_ret, Prog.pure_eq_ret, Prog.bind_assoc, wp_deviceId]
  iintro Hi Hk
  iapply (ld_ew I c) $$ Hi
  iintro Hi
  iapply (ld_ew I c) $$ Hi
  iintro Hi
  iapply (ld_ew I c) $$ Hi
  iintro Hi
  iapply le_wp_ret
  iapply Hk
  iexact Hi

theorem part14 {Q : (Σ' (v519 : FVec F S512x512 .f32), BitVec 32) → sProp 𝕄} :
    iprop(ins I c ∗ raw (F := F) c 0 1)
      ⊢ iprop(((ins I c ∗ pc c 0 (row 0 c 3) fullShare (Vc I c 0 0 3) ∗ pc c 0 (row 1 c 1) fullShare (Vc I c 1 0 1)) -∗ Q ⟨(x519 I c), (x_c512_i32_285 I c)⟩)
        -∗ WP c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x9 I c) (x12 I c) (x371 I c) (x402 I c) (x406 I c) (x470 I c) (x478 I c) (x481 I c)) Q) := by
  rw [k0_part14_eq_skeleton]
  unfold k0_part14_skel
  unfold x519 x_c512_i32_285 l518
  simp only [semSignalWord, semWaitWord, bar_sem, Prog.lift, Prog.bind_op, Prog.bind_ret, Prog.pure_eq_ret, Prog.bind_assoc, wp_deviceId]
  iintro ⟨Hi, R01⟩ Hk
  iapply (ld_ew I c) $$ Hi
  iintro Hi
  iapply (ld_ew I c) $$ Hi
  iintro Hi
  iapply (ld_raw c (w := 0) (j := 1) (oc13_1 c)) $$ R01
  iintro R01
  iapply (st_chunk (Vc I) c (w := 0) (j := 1) (oc13_1 c) 3 1 (ck0_1 c) (ck1_1 c) rfl rfl) $$ R01
  iintro ⟨P003, P101⟩
  iapply (ld_x I c) $$ Hi
  iintro Hi
  iapply le_wp_ret
  iapply Hk
  isplitl [Hi]; · iexact Hi
  isplitl [P003]; · iexact P003
  iexact P101

theorem part15 {Q : (Σ' (v523 : IVec S512x1 32) (v548 : FVec F S512x512 .f32) (v556 : FVec F S512x512 .f32), FVec F S512x1024 .f32) → sProp 𝕄} :
    iprop(ins I c)
      ⊢ iprop(((ins I c) -∗ Q ⟨(x523 I c), (x548 I c), (x556 I c), (x558 I c)⟩)
        -∗ WP c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x12 I c) (x398 I c) (x519 I c) (x_c512_i32_285 I c)) Q) := by
  rw [k0_part15_eq_skeleton]
  unfold k0_part15_skel
  unfold x523 x548 x556 x558 l522 l532 l544 l557
  simp only [semSignalWord, semWaitWord, bar_sem, Prog.lift, Prog.bind_op, Prog.bind_ret, Prog.pure_eq_ret, Prog.bind_assoc, wp_deviceId]
  iintro Hi Hk
  iapply (ld_ix I c) $$ Hi
  iintro Hi
  iapply (ld_ew I c) $$ Hi
  iintro Hi
  iapply (ld_ew I c) $$ Hi
  iintro Hi
  iapply (ld_ew I c) $$ Hi
  iintro Hi
  iapply le_wp_ret
  iapply Hk
  iexact Hi

theorem part16 {Q : (Σ' (v587 : FVec F S512x512 .f32) (v595 : FVec F S512x512 .f32), FVec F S512x1024 .f32) → sProp 𝕄} :
    iprop(ins I c)
      ⊢ iprop(((ins I c) -∗ Q ⟨(x587 I c), (x595 I c), (x597 I c)⟩)
        -∗ WP c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (x2 I c) (x398 I c) (x519 I c) (x523 I c) (x548 I c) (x556 I c) (x558 I c)) Q) := by
  rw [k0_part16_eq_skeleton]
  unfold k0_part16_skel
  unfold x587 x595 x597 l570 l583 l596
  simp only [semSignalWord, semWaitWord, bar_sem, Prog.lift, Prog.bind_op, Prog.bind_ret, Prog.pure_eq_ret, Prog.bind_assoc, wp_deviceId]
  iintro Hi Hk
  iapply (ld_ew I c) $$ Hi
  iintro Hi
  iapply (ld_ew I c) $$ Hi
  iintro Hi
  iapply (ld_ew I c) $$ Hi
  iintro Hi
  iapply le_wp_ret
  iapply Hk
  iexact Hi

theorem part17 {Q : (PUnit) → sProp 𝕄} :
    iprop(ins I c ∗ raw (F := F) c 0 3)
      ⊢ iprop(((ins I c ∗ pc c 0 (row 0 c 1) fullShare (Vc I c 0 0 1) ∗ pc c 0 (row 1 c 3) fullShare (Vc I c 1 0 3)) -∗ Q ⟨⟩)
        -∗ WP c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x12 I c) (x398 I c) (x519 I c) (x523 I c) (x587 I c) (x595 I c) (x597 I c)) Q) := by
  rw [k0_part17_eq_skeleton]
  unfold k0_part17_skel
  simp only [semSignalWord, semWaitWord, bar_sem, Prog.lift, Prog.bind_op, Prog.bind_ret, Prog.pure_eq_ret, Prog.bind_assoc, wp_deviceId]
  iintro ⟨Hi, R03⟩ Hk
  iapply (ld_ew I c) $$ Hi
  iintro Hi
  iapply (ld_ew I c) $$ Hi
  iintro Hi
  iapply (ld_raw c (w := 0) (j := 3) (oc14_ c)) $$ R03
  iintro R03
  iapply (st_chunk (Vc I) c (w := 0) (j := 3) (oc14_ c) 1 3 (ck0_3 c) (ck1_3 c) rfl rfl) $$ R03
  iintro ⟨P001, P103⟩
  iapply le_wp_ret
  iapply Hk
  isplitl [Hi]; · iexact Hi
  isplitl [P001]; · iexact P001
  iexact P103

theorem part18 {Q : (BitVec 32) → sProp 𝕄} :
    iprop(Ctx (Vc I) ∗ Sent (Vc I) 0 0 0 c ∗ Ow (F := F) 4 c ∗ pc c 0 (row 0 c 1) fullShare (Vc I c 0 0 1))
      ⊢ iprop(((Ready (Vc I) 0 0 1 c ∗ Ow (F := F) 4 c) -∗ Q (x662 I c))
        -∗ WP c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x7 I c)) Q) := by
  rw [k0_part18_eq_skeleton]
  unfold k0_part18_skel
  unfold x662
  simp only [semSignalWord, semWaitWord, bar_sem, Prog.lift, Prog.bind_op, Prog.bind_ret, Prog.pure_eq_ret, Prog.bind_assoc, wp_deviceId]
  iintro ⟨#HC, L00, Ho, P001⟩ Hk
  iapply (wait_send (Vc I) 0 0 0 c 4 (by decide) (by decide) rfl (by rw [pM_eq (op4_0 c)])) $$ [L00 Ho]
  · isplitr [L00 Ho]; · iexact HC
    isplitl [L00]; · iexact L00
    iexact Ho
  iintro ⟨L00, Ho⟩
  iapply (wait_slot (Vc I) 0 0 0 c 4 (by decide) (by decide) rfl (sM_credit 0 0 0)) $$ [L00 Ho]
  · isplitr [L00 Ho]; · iexact HC
    isplitl [L00]; · iexact L00
    iexact Ho
  iintro ⟨L00, Ho⟩
  iapply (ld_piece c (w := 0) (r := row 0 c 1) (op15_0 c)) $$ P001
  iintro P001
  iapply (ld_got (Vc I) 0 0 0 c rfl) $$ L00
  iintro L00
  iapply (ld_piece c (w := 0) (r := row 0 c 1) (op15_0 c)) $$ P001
  iintro P001
  iapply (add_piece (Vc I) 0 0 0 c (by decide) (op15_0 c) (k0_pay45_add _ _)) $$ [L00 P001]
  · isplitl [L00]; · iexact L00
    iexact P001
  iintro L00
  iapply le_wp_ret
  iapply Hk
  isplitl [L00]; · iexact L00
  iexact Ho

theorem part19 {Q : (PUnit) → sProp 𝕄} :
    iprop(Ctx (Vc I) ∗ Ready (Vc I) 0 0 1 c ∗ Ow (F := F) 4 c ∗ Sent (Vc I) 1 0 0 c)
      ⊢ iprop(((Sent (Vc I) 0 0 1 c ∗ Ow (F := F) 5 c ∗ Half (Vc I) 1 0 0 c) -∗ Q ⟨⟩)
        -∗ WP c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x5 I c) (x7 I c) (x662 I c)) Q) := by
  rw [k0_part19_eq_skeleton]
  unfold k0_part19_skel
  simp only [semSignalWord, semWaitWord, bar_sem, Prog.lift, Prog.bind_op, Prog.bind_ret, Prog.pure_eq_ret, Prog.bind_assoc, wp_deviceId]
  iintro ⟨#HC, L00, Ho, L10⟩ Hk
  iapply (send_slot (Vc I) 0 0 1 c 4 (by decide) rfl _ (dv7 c _) (pM_eq (op4_1 c) _ _ _) rfl rfl rfl) $$ [L00 Ho]
  · isplitr [L00 Ho]; · iexact HC
    isplitl [L00]; · iexact L00
    iexact Ho
  iintro ⟨L00, Ho⟩
  iapply (wait_send (Vc I) 1 0 0 c 5 (by decide) (by decide) rfl (by rw [pM_eq (op5_0 c)])) $$ [L10 Ho]
  · isplitr [L10 Ho]; · iexact HC
    isplitl [L10]; · iexact L10
    iexact Ho
  iintro ⟨L10, Ho⟩
  iapply le_wp_ret
  iapply Hk
  isplitl [L00]; · iexact L00
  isplitl [Ho]; · iexact Ho
  iexact L10

theorem part20 {Q : (PUnit) → sProp 𝕄} :
    iprop(Ctx (Vc I) ∗ Half (Vc I) 1 0 0 c ∗ Ow (F := F) 5 c ∗ pc c 0 (row 1 c 1) fullShare (Vc I c 1 0 1))
      ⊢ iprop(((Sent (Vc I) 1 0 1 c ∗ Ow (F := F) 6 c) -∗ Q ⟨⟩)
        -∗ WP c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x5 I c)) Q) := by
  rw [k0_part20_eq_skeleton]
  unfold k0_part20_skel
  simp only [semSignalWord, semWaitWord, bar_sem, Prog.lift, Prog.bind_op, Prog.bind_ret, Prog.pure_eq_ret, Prog.bind_assoc, wp_deviceId]
  iintro ⟨#HC, L10, Ho, P101⟩ Hk
  iapply (wait_slot (Vc I) 1 0 0 c 5 (by decide) (by decide) rfl (sM_credit 1 0 0)) $$ [L10 Ho]
  · isplitr [L10 Ho]; · iexact HC
    isplitl [L10]; · iexact L10
    iexact Ho
  iintro ⟨L10, Ho⟩
  iapply (ld_piece c (w := 0) (r := row 1 c 1) (op16_0 c)) $$ P101
  iintro P101
  iapply (ld_got (Vc I) 1 0 0 c rfl) $$ L10
  iintro L10
  iapply (ld_piece c (w := 0) (r := row 1 c 1) (op16_0 c)) $$ P101
  iintro P101
  iapply (add_piece (Vc I) 1 0 0 c (by decide) (op16_0 c) (k0_pay46_add _ _)) $$ [L10 P101]
  · isplitl [L10]; · iexact L10
    iexact P101
  iintro L10
  iapply (send_slot (Vc I) 1 0 1 c 5 (by decide) rfl _ (dv8 c _) (pM_eq (op5_1 c) _ _ _) rfl rfl rfl) $$ [L10 Ho]
  · isplitr [L10 Ho]; · iexact HC
    isplitl [L10]; · iexact L10
    iexact Ho
  iintro ⟨L10, Ho⟩
  iapply le_wp_ret
  iapply Hk
  isplitl [L10]; · iexact L10
  iexact Ho

theorem part21 {Q : (Σ' (v722 : FVec F S512x512 .f32) (v726 : IVec S512x1 32) (v751 : FVec F S512x512 .f32), FVec F S512x1 .f32) → sProp 𝕄} :
    iprop(ins I c)
      ⊢ iprop(((ins I c) -∗ Q ⟨(x722 I c), (x726 I c), (x751 I c), (x757 I c)⟩)
        -∗ WP c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x9 I c) (x371 I c)) Q) := by
  rw [k0_part21_eq_skeleton]
  unfold k0_part21_skel
  unfold x722 x726 x751 x757 l721 l725 l735 l747
  simp only [semSignalWord, semWaitWord, bar_sem, Prog.lift, Prog.bind_op, Prog.bind_ret, Prog.pure_eq_ret, Prog.bind_assoc, wp_deviceId]
  iintro Hi Hk
  iapply (ld_x I c) $$ Hi
  iintro Hi
  iapply (ld_ix I c) $$ Hi
  iintro Hi
  iapply (ld_ew I c) $$ Hi
  iintro Hi
  iapply (ld_ew I c) $$ Hi
  iintro Hi
  iapply le_wp_ret
  iapply Hk
  iexact Hi

theorem part22 {Q : (Σ' (v790 : FVec F S512x512 .f32), FVec F S512x1 .f32) → sProp 𝕄} :
    iprop(ins I c)
      ⊢ iprop(((ins I c) -∗ Q ⟨(x790 I c), (x796 I c)⟩)
        -∗ WP c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (x2 I c) (x371 I c) (x722 I c) (x726 I c) (x751 I c) (x757 I c)) Q) := by
  rw [k0_part22_eq_skeleton]
  unfold k0_part22_skel
  unfold x790 x796 l760 l773 l786
  simp only [semSignalWord, semWaitWord, bar_sem, Prog.lift, Prog.bind_op, Prog.bind_ret, Prog.pure_eq_ret, Prog.bind_assoc, wp_deviceId]
  iintro Hi Hk
  iapply (ld_ew I c) $$ Hi
  iintro Hi
  iapply (ld_ew I c) $$ Hi
  iintro Hi
  iapply (ld_ew I c) $$ Hi
  iintro Hi
  iapply le_wp_ret
  iapply Hk
  iexact Hi

theorem part23 {Q : (FVec F S1x512x512 .bf16) → sProp 𝕄} :
    iprop(ins I c ∗ raw (F := F) c 1 1)
      ⊢ iprop(((ins I c ∗ raw (F := F) c 1 1) -∗ Q (x835 I c))
        -∗ WP c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x9 I c) (x371 I c) (x722 I c) (x726 I c) (x790 I c) (x796 I c)) Q) := by
  rw [k0_part23_eq_skeleton]
  unfold k0_part23_skel
  unfold x835 l799 l812 l825
  simp only [semSignalWord, semWaitWord, bar_sem, Prog.lift, Prog.bind_op, Prog.bind_ret, Prog.pure_eq_ret, Prog.bind_assoc, wp_deviceId]
  iintro ⟨Hi, R11⟩ Hk
  iapply (ld_ew I c) $$ Hi
  iintro Hi
  iapply (ld_ew I c) $$ Hi
  iintro Hi
  iapply (ld_ew I c) $$ Hi
  iintro Hi
  iapply (ld_raw c (w := 1) (j := 1) (oc17_1 c)) $$ R11
  iintro R11
  iapply le_wp_ret
  iapply Hk
  isplitl [Hi]; · iexact Hi
  iexact R11

theorem part24 {Q : (Σ' (v839 : FVec F S512x512 .f32) (v843 : IVec S512x1 32) (v868 : FVec F S512x512 .f32) (v872 : IVec S512x1 1), FVec F S512x1 .f32) → sProp 𝕄} :
    iprop(raw (F := F) c 1 1 ∗ ins I c)
      ⊢ iprop(((ins I c ∗ pc c 1 (row 0 c 3) fullShare (Vc I c 0 1 3) ∗ pc c 1 (row 1 c 1) fullShare (Vc I c 1 1 1)) -∗ Q ⟨(x839 I c), (x843 I c), (x868 I c), (x872 I c), (x873 I c)⟩)
        -∗ WP c (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x12 I c) (x398 I c) (x835 I c)) Q) := by
  rw [k0_part24_eq_skeleton]
  unfold k0_part24_skel
  unfold x839 x843 x868 x872 x873 l838 l842 l852 l864
  simp only [semSignalWord, semWaitWord, bar_sem, Prog.lift, Prog.bind_op, Prog.bind_ret, Prog.pure_eq_ret, Prog.bind_assoc, wp_deviceId]
  iintro ⟨R11, Hi⟩ Hk
  iapply (st_chunk (Vc I) c (w := 1) (j := 1) (oc17_1 c) 3 1 (ck0_1 c) (ck1_1 c) rfl rfl) $$ R11
  iintro ⟨P013, P111⟩
  iapply (ld_x I c) $$ Hi
  iintro Hi
  iapply (ld_ix I c) $$ Hi
  iintro Hi
  iapply (ld_ew I c) $$ Hi
  iintro Hi
  iapply (ld_ew I c) $$ Hi
  iintro Hi
  iapply le_wp_ret
  iapply Hk
  isplitl [Hi]; · iexact Hi
  isplitl [P013]; · iexact P013
  iexact P111

theorem part25 {Q : (Σ' (v907 : FVec F S512x512 .f32) (v911 : IVec S512x1 1), FVec F S512x1 .f32) → sProp 𝕄} :
    iprop(ins I c)
      ⊢ iprop(((ins I c) -∗ Q ⟨(x907 I c), (x911 I c), (x912 I c)⟩)
        -∗ WP c (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (x2 I c) (x398 I c) (x839 I c) (x843 I c) (x868 I c) (x872 I c) (x873 I c)) Q) := by
  rw [k0_part25_eq_skeleton]
  unfold k0_part25_skel
  unfold x907 x911 x912 l877 l890 l903
  simp only [semSignalWord, semWaitWord, bar_sem, Prog.lift, Prog.bind_op, Prog.bind_ret, Prog.pure_eq_ret, Prog.bind_assoc, wp_deviceId]
  iintro Hi Hk
  iapply (ld_ew I c) $$ Hi
  iintro Hi
  iapply (ld_ew I c) $$ Hi
  iintro Hi
  iapply (ld_ew I c) $$ Hi
  iintro Hi
  iapply le_wp_ret
  iapply Hk
  iexact Hi

theorem part26 {Q : (FVec F S512x512 .bf16) → sProp 𝕄} :
    iprop(ins I c ∗ raw (F := F) c 1 3)
      ⊢ iprop(((ins I c ∗ raw (F := F) c 1 3) -∗ Q (x947 I c))
        -∗ WP c (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x12 I c) (x398 I c) (x839 I c) (x843 I c) (x907 I c) (x911 I c) (x912 I c)) Q) := by
  rw [k0_part26_eq_skeleton]
  unfold k0_part26_skel
  unfold x947 l916 l929 l942
  simp only [semSignalWord, semWaitWord, bar_sem, Prog.lift, Prog.bind_op, Prog.bind_ret, Prog.pure_eq_ret, Prog.bind_assoc, wp_deviceId]
  iintro ⟨Hi, R13⟩ Hk
  iapply (ld_ew I c) $$ Hi
  iintro Hi
  iapply (ld_ew I c) $$ Hi
  iintro Hi
  iapply (ld_ew I c) $$ Hi
  iintro Hi
  iapply (ld_raw c (w := 1) (j := 3) (oc18_ c)) $$ R13
  iintro R13
  iapply le_wp_ret
  iapply Hk
  isplitl [Hi]; · iexact Hi
  iexact R13

end Cert.Ring

end

end
-- ==== Proof.Parts3.lean ====
module

public import proofs.«01_k».proof.Proof.Vals

/-!
# The program, part by part (27 to 36)
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Dev nD → In F) (c : Dev nD)

theorem part27 {Q : (Σ' (v971 : BitVec 32), FVec F S256x512 .bf16) → sProp 𝕄} :
    iprop(Ctx (Vc I) ∗ raw (F := F) c 1 3 ∗ Sent (Vc I) 0 1 0 c ∗ Ow (F := F) 6 c)
      ⊢ iprop(((Got (Vc I) 0 1 0 c ∗ Ow (F := F) 6 c ∗ pc c 1 (row 0 c 1) fullShare (Vc I c 0 1 1) ∗ pc c 1 (row 1 c 3) fullShare (Vc I c 1 1 3)) -∗ Q ⟨(x971 I c), (x977 I c)⟩)
        -∗ WP c (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x7 I c) (x947 I c)) Q) := by
  rw [k0_part27_eq_skeleton]
  unfold k0_part27_skel
  unfold x971 x977
  simp only [semSignalWord, semWaitWord, bar_sem, Prog.lift, Prog.bind_op, Prog.bind_ret, Prog.pure_eq_ret, Prog.bind_assoc, wp_deviceId]
  iintro ⟨#HC, R13, L01, Ho⟩ Hk
  iapply (st_chunk (Vc I) c (w := 1) (j := 3) (oc18_ c) 1 3 (ck0_3 c) (ck1_3 c) rfl rfl) $$ R13
  iintro ⟨P011, P113⟩
  iapply (wait_send (Vc I) 0 1 0 c 6 (by decide) (by decide) rfl (by rw [pM_eq (op7_0 c)])) $$ [L01 Ho]
  · isplitr [L01 Ho]; · iexact HC
    isplitl [L01]; · iexact L01
    iexact Ho
  iintro ⟨L01, Ho⟩
  iapply (wait_slot (Vc I) 0 1 0 c 6 (by decide) (by decide) rfl (sM_credit 0 0 1)) $$ [L01 Ho]
  · isplitr [L01 Ho]; · iexact HC
    isplitl [L01]; · iexact L01
    iexact Ho
  iintro ⟨L01, Ho⟩
  iapply (ld_piece c (w := 1) (r := row 0 c 1) (op19_0 c)) $$ P011
  iintro P011
  iapply (ld_got (Vc I) 0 1 0 c rfl) $$ L01
  iintro L01
  iapply le_wp_ret
  iapply Hk
  isplitl [L01]; · iexact L01
  isplitl [Ho]; · iexact Ho
  isplitl [P011]; · iexact P011
  iexact P113

theorem part28 {Q : (PUnit) → sProp 𝕄} :
    iprop(Ctx (Vc I) ∗ pc c 1 (row 0 c 1) fullShare (Vc I c 0 1 1) ∗ Got (Vc I) 0 1 0 c ∗ Ow (F := F) 6 c ∗ Sent (Vc I) 1 1 0 c)
      ⊢ iprop(((Sent (Vc I) 0 1 1 c ∗ Ow (F := F) 7 c ∗ Half (Vc I) 1 1 0 c) -∗ Q ⟨⟩)
        -∗ WP c (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x7 I c) (x971 I c) (x977 I c)) Q) := by
  rw [k0_part28_eq_skeleton]
  unfold k0_part28_skel
  simp only [semSignalWord, semWaitWord, bar_sem, Prog.lift, Prog.bind_op, Prog.bind_ret, Prog.pure_eq_ret, Prog.bind_assoc, wp_deviceId]
  iintro ⟨#HC, P011, L01, Ho, L11⟩ Hk
  iapply (ld_piece c (w := 1) (r := row 0 c 1) (op19_0 c)) $$ P011
  iintro P011
  iapply (add_piece (Vc I) 0 1 0 c (by decide) (op19_0 c) (by unfold x977; exact k0_pay65_add _ _)) $$ [L01 P011]
  · isplitl [L01]; · iexact L01
    iexact P011
  iintro L01
  iapply (send_slot (Vc I) 0 1 1 c 6 (by decide) rfl _ (dv9 c _) (pM_eq (op7_1 c) _ _ _) rfl rfl rfl) $$ [L01 Ho]
  · isplitr [L01 Ho]; · iexact HC
    isplitl [L01]; · iexact L01
    iexact Ho
  iintro ⟨L01, Ho⟩
  iapply (wait_send (Vc I) 1 1 0 c 7 (by decide) (by decide) rfl (by rw [pM_eq (op8_0 c)])) $$ [L11 Ho]
  · isplitr [L11 Ho]; · iexact HC
    isplitl [L11]; · iexact L11
    iexact Ho
  iintro ⟨L11, Ho⟩
  iapply le_wp_ret
  iapply Hk
  isplitl [L01]; · iexact L01
  isplitl [Ho]; · iexact Ho
  iexact L11

theorem part29 {Q : (PUnit) → sProp 𝕄} :
    iprop(Ctx (Vc I) ∗ Half (Vc I) 1 1 0 c ∗ Ow (F := F) 7 c ∗ pc c 1 (row 1 c 1) fullShare (Vc I c 1 1 1))
      ⊢ iprop(((Ready (Vc I) 1 1 1 c ∗ Ow (F := F) 7 c) -∗ Q ⟨⟩)
        -∗ WP c (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x5 I c)) Q) := by
  rw [k0_part29_eq_skeleton]
  unfold k0_part29_skel
  simp only [semSignalWord, semWaitWord, bar_sem, Prog.lift, Prog.bind_op, Prog.bind_ret, Prog.pure_eq_ret, Prog.bind_assoc, wp_deviceId]
  iintro ⟨#HC, L11, Ho, P111⟩ Hk
  iapply (wait_slot (Vc I) 1 1 0 c 7 (by decide) (by decide) rfl (sM_credit 1 0 1)) $$ [L11 Ho]
  · isplitr [L11 Ho]; · iexact HC
    isplitl [L11]; · iexact L11
    iexact Ho
  iintro ⟨L11, Ho⟩
  iapply (ld_piece c (w := 1) (r := row 1 c 1) (op20_0 c)) $$ P111
  iintro P111
  iapply (ld_got (Vc I) 1 1 0 c rfl) $$ L11
  iintro L11
  iapply (ld_piece c (w := 1) (r := row 1 c 1) (op20_0 c)) $$ P111
  iintro P111
  iapply (add_piece (Vc I) 1 1 0 c (by decide) (op20_0 c) (k0_pay66_add _ _)) $$ [L11 P111]
  · isplitl [L11]; · iexact L11
    iexact P111
  iintro L11
  iapply le_wp_ret
  iapply Hk
  isplitl [L11]; · iexact L11
  iexact Ho

theorem part30 {Q : (Σ' (v1065 : FVec F S512x1 .f32) (v1069 : FVec F S512x512 .f32) (v1073 : IVec S512x1 32), BitVec 32) → sProp 𝕄} :
    iprop(Ctx (Vc I) ∗ Ready (Vc I) 1 1 1 c ∗ Ow (F := F) 7 c ∗ ins I c)
      ⊢ iprop(((Sent (Vc I) 1 1 1 c ∗ Ow (F := F) 8 c ∗ ins I c) -∗ Q ⟨(x1065 I c), (x1069 I c), (x1073 I c), (x1074 I c)⟩)
        -∗ WP c (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x14 I c)) Q) := by
  rw [k0_part30_eq_skeleton]
  unfold k0_part30_skel
  unfold x1065 x1069 x1073 x1074 l1041 l1045 l1047 l1068 l1072
  simp only [semSignalWord, semWaitWord, bar_sem, Prog.lift, Prog.bind_op, Prog.bind_ret, Prog.pure_eq_ret, Prog.bind_assoc, wp_deviceId]
  iintro ⟨#HC, L11, Ho, Hi⟩ Hk
  iapply (send_slot (Vc I) 1 1 1 c 7 (by decide) rfl _ (dv10 c _) (pM_eq (op8_1 c) _ _ _) rfl rfl rfl) $$ [L11 Ho]
  · isplitr [L11 Ho]; · iexact HC
    isplitl [L11]; · iexact L11
    iexact Ho
  iintro ⟨L11, Ho⟩
  iapply (ld_x I c) $$ Hi
  iintro Hi
  iapply (ld_ix I c) $$ Hi
  iintro Hi
  iapply (ld_rw I c) $$ Hi
  iintro Hi
  iapply (ld_x I c) $$ Hi
  iintro Hi
  iapply (ld_ix I c) $$ Hi
  iintro Hi
  iapply le_wp_ret
  iapply Hk
  isplitl [L11]; · iexact L11
  isplitl [Ho]; · iexact Ho
  iexact Hi

theorem part31 {Q : (Σ' (v1111 : FVec F S512x512 .f32) (v1112 : BitVec 32), BitVec 32) → sProp 𝕄} :
    iprop(ins I c)
      ⊢ iprop(((ins I c) -∗ Q ⟨(x1111 I c), (x1112 I c), (x_c3_i32_692 I c)⟩)
        -∗ WP c (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (x2 I c) (x1065 I c) (x1069 I c) (x1073 I c) (x1074 I c)) Q) := by
  rw [k0_part31_eq_skeleton]
  unfold k0_part31_skel
  unfold x1111 x1112 x_c3_i32_692 l1082 l1094 l1107
  simp only [semSignalWord, semWaitWord, bar_sem, Prog.lift, Prog.bind_op, Prog.bind_ret, Prog.pure_eq_ret, Prog.bind_assoc, wp_deviceId]
  iintro Hi Hk
  iapply (ld_ew I c) $$ Hi
  iintro Hi
  iapply (ld_ew I c) $$ Hi
  iintro Hi
  iapply (ld_ew I c) $$ Hi
  iintro Hi
  iapply le_wp_ret
  iapply Hk
  iexact Hi

theorem part32 {Q : (Σ' (v1150 : FVec F S512x512 .f32) (v1151 : BitVec 32), BitVec 32) → sProp 𝕄} :
    iprop(ins I c)
      ⊢ iprop(((ins I c) -∗ Q ⟨(x1150 I c), (x1151 I c), (x_c6_i32_713 I c)⟩)
        -∗ WP c (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (x2 I c) (x1065 I c) (x1069 I c) (x1073 I c) (x1111 I c) (x1112 I c) (x_c3_i32_692 I c)) Q) := by
  rw [k0_part32_eq_skeleton]
  unfold k0_part32_skel
  unfold x1150 x1151 x_c6_i32_713 l1120 l1133 l1146
  simp only [semSignalWord, semWaitWord, bar_sem, Prog.lift, Prog.bind_op, Prog.bind_ret, Prog.pure_eq_ret, Prog.bind_assoc, wp_deviceId]
  iintro Hi Hk
  iapply (ld_ew I c) $$ Hi
  iintro Hi
  iapply (ld_ew I c) $$ Hi
  iintro Hi
  iapply (ld_ew I c) $$ Hi
  iintro Hi
  iapply le_wp_ret
  iapply Hk
  iexact Hi

theorem part33 {Q : (PUnit) → sProp 𝕄} :
    iprop(ins I c ∗ raw (F := F) c 0 2)
      ⊢ iprop(((ins I c ∗ pc c 0 (row 0 c 2) fullShare (Vc I c 0 0 2) ∗ pc c 0 (row 1 c 2) fullShare (Vc I c 1 0 2)) -∗ Q ⟨⟩)
        -∗ WP c (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x14 I c) (x1065 I c) (x1069 I c) (x1073 I c) (x1150 I c) (x1151 I c) (x_c6_i32_713 I c)) Q) := by
  rw [k0_part33_eq_skeleton]
  unfold k0_part33_skel
  simp only [semSignalWord, semWaitWord, bar_sem, Prog.lift, Prog.bind_op, Prog.bind_ret, Prog.pure_eq_ret, Prog.bind_assoc, wp_deviceId]
  iintro ⟨Hi, R02⟩ Hk
  iapply (ld_ew I c) $$ Hi
  iintro Hi
  iapply (ld_ew I c) $$ Hi
  iintro Hi
  iapply (ld_raw c (w := 0) (j := 2) (oc13_2 c)) $$ R02
  iintro R02
  iapply (st_chunk (Vc I) c (w := 0) (j := 2) (oc13_2 c) 2 2 (ck0_2 c) (ck1_2 c) rfl rfl) $$ R02
  iintro ⟨P002, P102⟩
  iapply le_wp_ret
  iapply Hk
  isplitl [Hi]; · iexact Hi
  isplitl [P002]; · iexact P002
  iexact P102

theorem part34 {Q : (Σ' (v1214 : BitVec 32) (v1215 : BitVec 32), BitVec 32) → sProp 𝕄} :
    iprop(Ctx (Vc I) ∗ Sent (Vc I) 0 0 1 c ∗ Ow (F := F) 8 c ∗ pc c 0 (row 0 c 2) fullShare (Vc I c 0 0 2))
      ⊢ iprop(((Ready (Vc I) 0 0 2 c ∗ Ow (F := F) 8 c) -∗ Q ⟨(x1214 I c), (x1215 I c), (x_c4_i32_765 I c)⟩)
        -∗ WP c (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x7 I c)) Q) := by
  rw [k0_part34_eq_skeleton]
  unfold k0_part34_skel
  unfold x1214 x1215 x_c4_i32_765
  simp only [semSignalWord, semWaitWord, bar_sem, Prog.lift, Prog.bind_op, Prog.bind_ret, Prog.pure_eq_ret, Prog.bind_assoc, wp_deviceId]
  iintro ⟨#HC, L00, Ho, P002⟩ Hk
  iapply (wait_send (Vc I) 0 0 1 c 8 (by decide) (by decide) rfl (by rw [pM_eq (op4_1 c)])) $$ [L00 Ho]
  · isplitr [L00 Ho]; · iexact HC
    isplitl [L00]; · iexact L00
    iexact Ho
  iintro ⟨L00, Ho⟩
  iapply (wait_slot (Vc I) 0 0 1 c 8 (by decide) (by decide) rfl (sM_credit 0 1 0)) $$ [L00 Ho]
  · isplitr [L00 Ho]; · iexact HC
    isplitl [L00]; · iexact L00
    iexact Ho
  iintro ⟨L00, Ho⟩
  iapply (ld_piece c (w := 0) (r := row 0 c 2) (op15_1 c)) $$ P002
  iintro P002
  iapply (ld_got (Vc I) 0 0 1 c rfl) $$ L00
  iintro L00
  iapply (ld_piece c (w := 0) (r := row 0 c 2) (op15_1 c)) $$ P002
  iintro P002
  iapply (add_piece (Vc I) 0 0 1 c (by decide) (op15_1 c) (k0_pay73_add _ _)) $$ [L00 P002]
  · isplitl [L00]; · iexact L00
    iexact P002
  iintro L00
  iapply le_wp_ret
  iapply Hk
  isplitl [L00]; · iexact L00
  iexact Ho

theorem part35 {Q : (PUnit) → sProp 𝕄} :
    iprop(Ctx (Vc I) ∗ Ready (Vc I) 0 0 2 c ∗ Ow (F := F) 8 c ∗ Sent (Vc I) 1 0 1 c)
      ⊢ iprop(((Sent (Vc I) 0 0 2 c ∗ Ow (F := F) 9 c ∗ Half (Vc I) 1 0 1 c) -∗ Q ⟨⟩)
        -∗ WP c (k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x5 I c) (x7 I c) (x1214 I c) (x1215 I c) (x_c4_i32_765 I c)) Q) := by
  rw [k0_part35_eq_skeleton]
  unfold k0_part35_skel
  simp only [semSignalWord, semWaitWord, bar_sem, Prog.lift, Prog.bind_op, Prog.bind_ret, Prog.pure_eq_ret, Prog.bind_assoc, wp_deviceId]
  iintro ⟨#HC, L00, Ho, L10⟩ Hk
  iapply (send_slot (Vc I) 0 0 2 c 8 (by decide) rfl _ (dv11 c _) (pM_eq (op4_2 c) _ _ _) rfl rfl rfl) $$ [L00 Ho]
  · isplitr [L00 Ho]; · iexact HC
    isplitl [L00]; · iexact L00
    iexact Ho
  iintro ⟨L00, Ho⟩
  iapply (wait_send (Vc I) 1 0 1 c 9 (by decide) (by decide) rfl (by rw [pM_eq (op5_1 c)])) $$ [L10 Ho]
  · isplitr [L10 Ho]; · iexact HC
    isplitl [L10]; · iexact L10
    iexact Ho
  iintro ⟨L10, Ho⟩
  iapply le_wp_ret
  iapply Hk
  isplitl [L00]; · iexact L00
  isplitl [Ho]; · iexact Ho
  iexact L10

theorem part36 {Q : (Σ' (v1272 : FVec F S512x512 .f32), BitVec 32) → sProp 𝕄} :
    iprop(Ctx (Vc I) ∗ Half (Vc I) 1 0 1 c ∗ Ow (F := F) 9 c ∗ pc c 0 (row 1 c 2) fullShare (Vc I c 1 0 2) ∗ ins I c)
      ⊢ iprop(((Sent (Vc I) 1 0 2 c ∗ Ow (F := F) 10 c ∗ ins I c) -∗ Q ⟨(x1272 I c), (x_c512_i32_823 I c)⟩)
        -∗ WP c (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x5 I c) (x14 I c)) Q) := by
  rw [k0_part36_eq_skeleton]
  unfold k0_part36_skel
  unfold x1272 x_c512_i32_823 l1271
  simp only [semSignalWord, semWaitWord, bar_sem, Prog.lift, Prog.bind_op, Prog.bind_ret, Prog.pure_eq_ret, Prog.bind_assoc, wp_deviceId]
  iintro ⟨#HC, L10, Ho, P102, Hi⟩ Hk
  iapply (wait_slot (Vc I) 1 0 1 c 9 (by decide) (by decide) rfl (sM_credit 1 1 0)) $$ [L10 Ho]
  · isplitr [L10 Ho]; · iexact HC
    isplitl [L10]; · iexact L10
    iexact Ho
  iintro ⟨L10, Ho⟩
  iapply (ld_piece c (w := 0) (r := row 1 c 2) (op16_1 c)) $$ P102
  iintro P102
  iapply (ld_got (Vc I) 1 0 1 c rfl) $$ L10
  iintro L10
  iapply (ld_piece c (w := 0) (r := row 1 c 2) (op16_1 c)) $$ P102
  iintro P102
  iapply (add_piece (Vc I) 1 0 1 c (by decide) (op16_1 c) (k0_pay74_add _ _)) $$ [L10 P102]
  · isplitl [L10]; · iexact L10
    iexact P102
  iintro L10
  iapply (send_slot (Vc I) 1 0 2 c 9 (by decide) rfl _ (dv12 c _) (pM_eq (op5_2 c) _ _ _) rfl rfl rfl) $$ [L10 Ho]
  · isplitr [L10 Ho]; · iexact HC
    isplitl [L10]; · iexact L10
    iexact Ho
  iintro ⟨L10, Ho⟩
  iapply (ld_x I c) $$ Hi
  iintro Hi
  iapply le_wp_ret
  iapply Hk
  isplitl [L10]; · iexact L10
  isplitl [Ho]; · iexact Ho
  iexact Hi

end Cert.Ring

end

end
-- ==== Proof.Parts4.lean ====
module

public import proofs.«01_k».proof.Proof.Vals

/-!
# The program, part by part (37 to 46)
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Dev nD → In F) (c : Dev nD)

theorem part37 {Q : (Σ' (v1276 : IVec S512x1 32) (v1301 : FVec F S512x512 .f32) (v1309 : FVec F S512x512 .f32), FVec F S512x1024 .f32) → sProp 𝕄} :
    iprop(ins I c)
      ⊢ iprop(((ins I c) -∗ Q ⟨(x1276 I c), (x1301 I c), (x1309 I c), (x1311 I c)⟩)
        -∗ WP c (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x14 I c) (x1065 I c) (x1272 I c) (x_c512_i32_823 I c)) Q) := by
  rw [k0_part37_eq_skeleton]
  unfold k0_part37_skel
  unfold x1276 x1301 x1309 x1311 l1275 l1285 l1297 l1310
  simp only [semSignalWord, semWaitWord, bar_sem, Prog.lift, Prog.bind_op, Prog.bind_ret, Prog.pure_eq_ret, Prog.bind_assoc, wp_deviceId]
  iintro Hi Hk
  iapply (ld_ix I c) $$ Hi
  iintro Hi
  iapply (ld_ew I c) $$ Hi
  iintro Hi
  iapply (ld_ew I c) $$ Hi
  iintro Hi
  iapply (ld_ew I c) $$ Hi
  iintro Hi
  iapply le_wp_ret
  iapply Hk
  iexact Hi

theorem part38 {Q : (Σ' (v1340 : FVec F S512x512 .f32) (v1348 : FVec F S512x512 .f32), FVec F S512x1024 .f32) → sProp 𝕄} :
    iprop(ins I c)
      ⊢ iprop(((ins I c) -∗ Q ⟨(x1340 I c), (x1348 I c), (x1350 I c)⟩)
        -∗ WP c (k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (x2 I c) (x1065 I c) (x1272 I c) (x1276 I c) (x1301 I c) (x1309 I c) (x1311 I c)) Q) := by
  rw [k0_part38_eq_skeleton]
  unfold k0_part38_skel
  unfold x1340 x1348 x1350 l1323 l1336 l1349
  simp only [semSignalWord, semWaitWord, bar_sem, Prog.lift, Prog.bind_op, Prog.bind_ret, Prog.pure_eq_ret, Prog.bind_assoc, wp_deviceId]
  iintro Hi Hk
  iapply (ld_ew I c) $$ Hi
  iintro Hi
  iapply (ld_ew I c) $$ Hi
  iintro Hi
  iapply (ld_ew I c) $$ Hi
  iintro Hi
  iapply le_wp_ret
  iapply Hk
  iexact Hi

theorem part39 {Q : (PUnit) → sProp 𝕄} :
    iprop(ins I c ∗ raw (F := F) c 1 2)
      ⊢ iprop(((ins I c ∗ pc c 1 (row 0 c 2) fullShare (Vc I c 0 1 2) ∗ pc c 1 (row 1 c 2) fullShare (Vc I c 1 1 2)) -∗ Q ⟨⟩)
        -∗ WP c (k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x14 I c) (x1065 I c) (x1272 I c) (x1276 I c) (x1340 I c) (x1348 I c) (x1350 I c)) Q) := by
  rw [k0_part39_eq_skeleton]
  unfold k0_part39_skel
  simp only [semSignalWord, semWaitWord, bar_sem, Prog.lift, Prog.bind_op, Prog.bind_ret, Prog.pure_eq_ret, Prog.bind_assoc, wp_deviceId]
  iintro ⟨Hi, R12⟩ Hk
  iapply (ld_ew I c) $$ Hi
  iintro Hi
  iapply (ld_ew I c) $$ Hi
  iintro Hi
  iapply (ld_raw c (w := 1) (j := 2) (oc17_2 c)) $$ R12
  iintro R12
  iapply (st_chunk (Vc I) c (w := 1) (j := 2) (oc17_2 c) 2 2 (ck0_2 c) (ck1_2 c) rfl rfl) $$ R12
  iintro ⟨P012, P112⟩
  iapply le_wp_ret
  iapply Hk
  isplitl [Hi]; · iexact Hi
  isplitl [P012]; · iexact P012
  iexact P112

theorem part40 {Q : (BitVec 32) → sProp 𝕄} :
    iprop(Ctx (Vc I) ∗ Sent (Vc I) 0 1 1 c ∗ Ow (F := F) 10 c ∗ pc c 1 (row 0 c 2) fullShare (Vc I c 0 1 2))
      ⊢ iprop(((Ready (Vc I) 0 1 2 c ∗ Ow (F := F) 10 c) -∗ Q (x1415 I c))
        -∗ WP c (k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x7 I c)) Q) := by
  rw [k0_part40_eq_skeleton]
  unfold k0_part40_skel
  unfold x1415
  simp only [semSignalWord, semWaitWord, bar_sem, Prog.lift, Prog.bind_op, Prog.bind_ret, Prog.pure_eq_ret, Prog.bind_assoc, wp_deviceId]
  iintro ⟨#HC, L01, Ho, P012⟩ Hk
  iapply (wait_send (Vc I) 0 1 1 c 10 (by decide) (by decide) rfl (by rw [pM_eq (op7_1 c)])) $$ [L01 Ho]
  · isplitr [L01 Ho]; · iexact HC
    isplitl [L01]; · iexact L01
    iexact Ho
  iintro ⟨L01, Ho⟩
  iapply (wait_slot (Vc I) 0 1 1 c 10 (by decide) (by decide) rfl (sM_credit 0 1 1)) $$ [L01 Ho]
  · isplitr [L01 Ho]; · iexact HC
    isplitl [L01]; · iexact L01
    iexact Ho
  iintro ⟨L01, Ho⟩
  iapply (ld_piece c (w := 1) (r := row 0 c 2) (op19_1 c)) $$ P012
  iintro P012
  iapply (ld_got (Vc I) 0 1 1 c rfl) $$ L01
  iintro L01
  iapply (ld_piece c (w := 1) (r := row 0 c 2) (op19_1 c)) $$ P012
  iintro P012
  iapply (add_piece (Vc I) 0 1 1 c (by decide) (op19_1 c) (k0_pay84_add _ _)) $$ [L01 P012]
  · isplitl [L01]; · iexact L01
    iexact P012
  iintro L01
  iapply le_wp_ret
  iapply Hk
  isplitl [L01]; · iexact L01
  iexact Ho

theorem part41 {Q : (PUnit) → sProp 𝕄} :
    iprop(Ctx (Vc I) ∗ Ready (Vc I) 0 1 2 c ∗ Ow (F := F) 10 c ∗ Sent (Vc I) 1 1 1 c)
      ⊢ iprop(((Sent (Vc I) 0 1 2 c ∗ Ow (F := F) 11 c ∗ Half (Vc I) 1 1 1 c) -∗ Q ⟨⟩)
        -∗ WP c (k0_part41 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x5 I c) (x7 I c) (x1415 I c)) Q) := by
  rw [k0_part41_eq_skeleton]
  unfold k0_part41_skel
  simp only [semSignalWord, semWaitWord, bar_sem, Prog.lift, Prog.bind_op, Prog.bind_ret, Prog.pure_eq_ret, Prog.bind_assoc, wp_deviceId]
  iintro ⟨#HC, L01, Ho, L11⟩ Hk
  iapply (send_slot (Vc I) 0 1 2 c 10 (by decide) rfl _ (dv13 c _) (pM_eq (op7_2 c) _ _ _) rfl rfl rfl) $$ [L01 Ho]
  · isplitr [L01 Ho]; · iexact HC
    isplitl [L01]; · iexact L01
    iexact Ho
  iintro ⟨L01, Ho⟩
  iapply (wait_send (Vc I) 1 1 1 c 11 (by decide) (by decide) rfl (by rw [pM_eq (op8_1 c)])) $$ [L11 Ho]
  · isplitr [L11 Ho]; · iexact HC
    isplitl [L11]; · iexact L11
    iexact Ho
  iintro ⟨L11, Ho⟩
  iapply le_wp_ret
  iapply Hk
  isplitl [L01]; · iexact L01
  isplitl [Ho]; · iexact Ho
  iexact L11

theorem part42 {Q : (PUnit) → sProp 𝕄} :
    iprop(Ctx (Vc I) ∗ Half (Vc I) 1 1 1 c ∗ Ow (F := F) 11 c ∗ pc c 1 (row 1 c 2) fullShare (Vc I c 1 1 2))
      ⊢ iprop(((Sent (Vc I) 1 1 2 c ∗ Ow (F := F) 12 c) -∗ Q ⟨⟩)
        -∗ WP c (k0_part42 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x5 I c)) Q) := by
  rw [k0_part42_eq_skeleton]
  unfold k0_part42_skel
  simp only [semSignalWord, semWaitWord, bar_sem, Prog.lift, Prog.bind_op, Prog.bind_ret, Prog.pure_eq_ret, Prog.bind_assoc, wp_deviceId]
  iintro ⟨#HC, L11, Ho, P112⟩ Hk
  iapply (wait_slot (Vc I) 1 1 1 c 11 (by decide) (by decide) rfl (sM_credit 1 1 1)) $$ [L11 Ho]
  · isplitr [L11 Ho]; · iexact HC
    isplitl [L11]; · iexact L11
    iexact Ho
  iintro ⟨L11, Ho⟩
  iapply (ld_piece c (w := 1) (r := row 1 c 2) (op20_1 c)) $$ P112
  iintro P112
  iapply (ld_got (Vc I) 1 1 1 c rfl) $$ L11
  iintro L11
  iapply (ld_piece c (w := 1) (r := row 1 c 2) (op20_1 c)) $$ P112
  iintro P112
  iapply (add_piece (Vc I) 1 1 1 c (by decide) (op20_1 c) (k0_pay85_add _ _)) $$ [L11 P112]
  · isplitl [L11]; · iexact L11
    iexact P112
  iintro L11
  iapply (send_slot (Vc I) 1 1 2 c 11 (by decide) rfl _ (dv14 c _) (pM_eq (op8_2 c) _ _ _) rfl rfl rfl) $$ [L11 Ho]
  · isplitr [L11 Ho]; · iexact HC
    isplitl [L11]; · iexact L11
    iexact Ho
  iintro ⟨L11, Ho⟩
  iapply le_wp_ret
  iapply Hk
  isplitl [L11]; · iexact L11
  iexact Ho

theorem part43 {Q : (FVec F S256x512 .bf16) → sProp 𝕄} :
    iprop(Ctx (Vc I) ∗ Sent (Vc I) 0 0 2 c ∗ Ow (F := F) 12 c ∗ pc c 0 (row 0 c 3) fullShare (Vc I c 0 0 3))
      ⊢ iprop(((Got (Vc I) 0 0 2 c ∗ Ow (F := F) 12 c ∗ pc c 0 (row 0 c 3) fullShare (Vc I c 0 0 3)) -∗ Q (x1496 I c))
        -∗ WP c (k0_part43 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x7 I c)) Q) := by
  rw [k0_part43_eq_skeleton]
  unfold k0_part43_skel
  unfold x1496
  simp only [semSignalWord, semWaitWord, bar_sem, Prog.lift, Prog.bind_op, Prog.bind_ret, Prog.pure_eq_ret, Prog.bind_assoc, wp_deviceId]
  iintro ⟨#HC, L00, Ho, P003⟩ Hk
  iapply (wait_send (Vc I) 0 0 2 c 12 (by decide) (by decide) rfl (by rw [pM_eq (op4_2 c)])) $$ [L00 Ho]
  · isplitr [L00 Ho]; · iexact HC
    isplitl [L00]; · iexact L00
    iexact Ho
  iintro ⟨L00, Ho⟩
  iapply (wait_slot (Vc I) 0 0 2 c 12 (by decide) (by decide) rfl (sM_credit 0 2 0)) $$ [L00 Ho]
  · isplitr [L00 Ho]; · iexact HC
    isplitl [L00]; · iexact L00
    iexact Ho
  iintro ⟨L00, Ho⟩
  iapply (ld_piece c (w := 0) (r := row 0 c 3) (op15_2 c)) $$ P003
  iintro P003
  iapply (ld_got (Vc I) 0 0 2 c rfl) $$ L00
  iintro L00
  iapply le_wp_ret
  iapply Hk
  isplitl [L00]; · iexact L00
  isplitl [Ho]; · iexact Ho
  iexact P003

theorem part44 {Q : (PUnit) → sProp 𝕄} :
    iprop(Ctx (Vc I) ∗ pc c 0 (row 0 c 3) fullShare (Vc I c 0 0 3) ∗ Got (Vc I) 0 0 2 c ∗ Ow (F := F) 12 c)
      ⊢ iprop(((Sent (Vc I) 0 0 3 c ∗ Ow (F := F) 13 c) -∗ Q ⟨⟩)
        -∗ WP c (k0_part44 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x7 I c) (x1496 I c)) Q) := by
  rw [k0_part44_eq_skeleton]
  unfold k0_part44_skel
  simp only [semSignalWord, semWaitWord, bar_sem, Prog.lift, Prog.bind_op, Prog.bind_ret, Prog.pure_eq_ret, Prog.bind_assoc, wp_deviceId]
  iintro ⟨#HC, P003, L00, Ho⟩ Hk
  iapply (ld_piece c (w := 0) (r := row 0 c 3) (op15_2 c)) $$ P003
  iintro P003
  iapply (add_piece (Vc I) 0 0 2 c (by decide) (op15_2 c) (by unfold x1496; exact k0_pay87_add _ _)) $$ [L00 P003]
  · isplitl [L00]; · iexact L00
    iexact P003
  iintro L00
  iapply (send_piece (Vc I) 0 0 3 c 12 (by decide) (by decide) rfl _ (dv15 c _) (pM_eq (op21_0 c) _ _ _) (pM_eq (op21_0 c) _ _ _) rfl rfl) $$ [L00 Ho]
  · isplitr [L00 Ho]; · iexact HC
    isplitl [L00]; · iexact L00
    iexact Ho
  iintro ⟨L00, Ho⟩
  iapply le_wp_ret
  iapply Hk
  isplitl [L00]; · iexact L00
  iexact Ho

theorem part45 {Q : (BitVec 32) → sProp 𝕄} :
    iprop(Ctx (Vc I) ∗ Sent (Vc I) 1 0 2 c ∗ Ow (F := F) 13 c ∗ pc c 0 (row 1 c 3) fullShare (Vc I c 1 0 3))
      ⊢ iprop(((Ready (Vc I) 1 0 3 c ∗ Ow (F := F) 13 c) -∗ Q (x_c1_i32_1063 I c))
        -∗ WP c (k0_part45 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x5 I c)) Q) := by
  rw [k0_part45_eq_skeleton]
  unfold k0_part45_skel
  unfold x_c1_i32_1063
  simp only [semSignalWord, semWaitWord, bar_sem, Prog.lift, Prog.bind_op, Prog.bind_ret, Prog.pure_eq_ret, Prog.bind_assoc, wp_deviceId]
  iintro ⟨#HC, L10, Ho, P103⟩ Hk
  iapply (wait_send (Vc I) 1 0 2 c 13 (by decide) (by decide) rfl (by rw [pM_eq (op5_2 c)])) $$ [L10 Ho]
  · isplitr [L10 Ho]; · iexact HC
    isplitl [L10]; · iexact L10
    iexact Ho
  iintro ⟨L10, Ho⟩
  iapply (wait_slot (Vc I) 1 0 2 c 13 (by decide) (by decide) rfl (sM_credit 1 2 0)) $$ [L10 Ho]
  · isplitr [L10 Ho]; · iexact HC
    isplitl [L10]; · iexact L10
    iexact Ho
  iintro ⟨L10, Ho⟩
  iapply (ld_piece c (w := 0) (r := row 1 c 3) (op16_2 c)) $$ P103
  iintro P103
  iapply (ld_got (Vc I) 1 0 2 c rfl) $$ L10
  iintro L10
  iapply (ld_piece c (w := 0) (r := row 1 c 3) (op16_2 c)) $$ P103
  iintro P103
  iapply (add_piece (Vc I) 1 0 2 c (by decide) (op16_2 c) (k0_pay88_add _ _)) $$ [L10 P103]
  · isplitl [L10]; · iexact L10
    iexact P103
  iintro L10
  iapply le_wp_ret
  iapply Hk
  isplitl [L10]; · iexact L10
  iexact Ho

theorem part46 {Q : (BitVec 32) → sProp 𝕄} :
    iprop(Ctx (Vc I) ∗ Ready (Vc I) 1 0 3 c ∗ Ow (F := F) 13 c ∗ Sent (Vc I) 0 1 2 c)
      ⊢ iprop(((Sent (Vc I) 1 0 3 c ∗ Ow (F := F) 14 c ∗ Got (Vc I) 0 1 2 c) -∗ Q (x1582 I c))
        -∗ WP c (k0_part46 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x5 I c) (x7 I c) (x_c1_i32_1063 I c)) Q) := by
  rw [k0_part46_eq_skeleton]
  unfold k0_part46_skel
  unfold x1582
  simp only [semSignalWord, semWaitWord, bar_sem, Prog.lift, Prog.bind_op, Prog.bind_ret, Prog.pure_eq_ret, Prog.bind_assoc, wp_deviceId]
  iintro ⟨#HC, L10, Ho, L01⟩ Hk
  iapply (send_piece (Vc I) 1 0 3 c 13 (by decide) (by decide) rfl _ (dv16 c _) (pM_eq (op22_0 c) _ _ _) (pM_eq (op22_0 c) _ _ _) rfl rfl) $$ [L10 Ho]
  · isplitr [L10 Ho]; · iexact HC
    isplitl [L10]; · iexact L10
    iexact Ho
  iintro ⟨L10, Ho⟩
  iapply (wait_send (Vc I) 0 1 2 c 14 (by decide) (by decide) rfl (by rw [pM_eq (op7_2 c)])) $$ [L01 Ho]
  · isplitr [L01 Ho]; · iexact HC
    isplitl [L01]; · iexact L01
    iexact Ho
  iintro ⟨L01, Ho⟩
  iapply (wait_slot (Vc I) 0 1 2 c 14 (by decide) (by decide) rfl (sM_credit 0 2 1)) $$ [L01 Ho]
  · isplitr [L01 Ho]; · iexact HC
    isplitl [L01]; · iexact L01
    iexact Ho
  iintro ⟨L01, Ho⟩
  iapply le_wp_ret
  iapply Hk
  isplitl [L10]; · iexact L10
  isplitl [Ho]; · iexact Ho
  iexact L01

end Cert.Ring

end

end
-- ==== Proof.Parts5.lean ====
module

public import proofs.«01_k».proof.Proof.Vals

/-!
# The program, part by part (47 to 54)
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Dev nD → In F) (c : Dev nD)

theorem part47 {Q : (PUnit) → sProp 𝕄} :
    iprop(pc c 1 (row 0 c 3) fullShare (Vc I c 0 1 3) ∗ Got (Vc I) 0 1 2 c)
      ⊢ iprop(((Ready (Vc I) 0 1 3 c) -∗ Q ⟨⟩)
        -∗ WP c (k0_part47 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x7 I c) (x1582 I c)) Q) := by
  rw [k0_part47_eq_skeleton]
  unfold k0_part47_skel
  simp only [semSignalWord, semWaitWord, bar_sem, Prog.lift, Prog.bind_op, Prog.bind_ret, Prog.pure_eq_ret, Prog.bind_assoc, wp_deviceId]
  iintro ⟨P013, L01⟩ Hk
  iapply (ld_piece c (w := 1) (r := row 0 c 3) (op19_2 c)) $$ P013
  iintro P013
  iapply (ld_got (Vc I) 0 1 2 c rfl) $$ L01
  iintro L01
  iapply (ld_piece c (w := 1) (r := row 0 c 3) (op19_2 c)) $$ P013
  iintro P013
  iapply (add_piece (Vc I) 0 1 2 c (by decide) (op19_2 c) (k0_pay89_add _ _)) $$ [L01 P013]
  · isplitl [L01]; · iexact L01
    iexact P013
  iintro L01
  iapply le_wp_ret
  iapply Hk
  iexact L01

theorem part48 {Q : (Σ' (v1635 : BitVec 32) (v1638 : FVec F S256x512 .bf16), Vec F S1x1x256x512 .bf16) → sProp 𝕄} :
    iprop(Ctx (Vc I) ∗ Ready (Vc I) 0 1 3 c ∗ Ow (F := F) 14 c ∗ Sent (Vc I) 1 1 2 c ∗ pc c 1 (row 1 c 3) fullShare (Vc I c 1 1 3))
      ⊢ iprop(((Sent (Vc I) 0 1 3 c ∗ Ow (F := F) 15 c ∗ Got (Vc I) 1 1 2 c ∗ pc c 1 (row 1 c 3) fullShare (Vc I c 1 1 3)) -∗ Q ⟨(x1635 I c), (x1638 I c), (x1639 I c)⟩)
        -∗ WP c (k0_part48 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x5 I c)) Q) := by
  rw [k0_part48_eq_skeleton]
  unfold k0_part48_skel
  unfold x1635 x1638 x1639
  simp only [semSignalWord, semWaitWord, bar_sem, Prog.lift, Prog.bind_op, Prog.bind_ret, Prog.pure_eq_ret, Prog.bind_assoc, wp_deviceId]
  iintro ⟨#HC, L01, Ho, L11, P113⟩ Hk
  iapply (send_piece (Vc I) 0 1 3 c 14 (by decide) (by decide) rfl _ (dv17 c _) (pM_eq (op23_0 c) _ _ _) (pM_eq (op23_0 c) _ _ _) rfl rfl) $$ [L01 Ho]
  · isplitr [L01 Ho]; · iexact HC
    isplitl [L01]; · iexact L01
    iexact Ho
  iintro ⟨L01, Ho⟩
  iapply (wait_send (Vc I) 1 1 2 c 15 (by decide) (by decide) rfl (by rw [pM_eq (op8_2 c)])) $$ [L11 Ho]
  · isplitr [L11 Ho]; · iexact HC
    isplitl [L11]; · iexact L11
    iexact Ho
  iintro ⟨L11, Ho⟩
  iapply (wait_slot (Vc I) 1 1 2 c 15 (by decide) (by decide) rfl (sM_credit 1 2 1)) $$ [L11 Ho]
  · isplitr [L11 Ho]; · iexact HC
    isplitl [L11]; · iexact L11
    iexact Ho
  iintro ⟨L11, Ho⟩
  iapply (ld_piece c (w := 1) (r := row 1 c 3) (op20_2 c)) $$ P113
  iintro P113
  iapply (ld_got (Vc I) 1 1 2 c rfl) $$ L11
  iintro L11
  iapply le_wp_ret
  iapply Hk
  isplitl [L01]; · iexact L01
  isplitl [Ho]; · iexact Ho
  isplitl [L11]; · iexact L11
  iexact P113

theorem part49 {Q : (BitVec 32) → sProp 𝕄} :
    iprop(Ctx (Vc I) ∗ pc c 1 (row 1 c 3) fullShare (Vc I c 1 1 3) ∗ Got (Vc I) 1 1 2 c ∗ Ow (F := F) 15 c ∗ Sent (Vc I) 0 0 3 c ∗ Out (Vc I) 16 c ∗ Sent (Vc I) 0 1 3 c)
      ⊢ iprop(((Sent (Vc I) 1 1 3 c ∗ Ow (F := F) 16 c ∗ Sent (Vc I) 0 0 3 c ∗ Out (Vc I) 14 c ∗ Sent (Vc I) 0 1 3 c) -∗ Q (x1673 I c))
        -∗ WP c (k0_part49 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x5 I c) (x9 I c) (x12 I c) (x1635 I c) (x1638 I c) (x1639 I c)) Q) := by
  rw [k0_part49_eq_skeleton]
  unfold k0_part49_skel
  unfold x1673
  simp only [semSignalWord, semWaitWord, bar_sem, Prog.lift, Prog.bind_op, Prog.bind_ret, Prog.pure_eq_ret, Prog.bind_assoc, wp_deviceId]
  iintro ⟨#HC, P113, L11, Ho, L00, HO, L01⟩ Hk
  iapply (ld_piece c (w := 1) (r := row 1 c 3) (op20_2 c)) $$ P113
  iintro P113
  iapply (add_piece (Vc I) 1 1 2 c (by decide) (op20_2 c) (by unfold x1638 x1639; exact k0_pay91_add _ _)) $$ [L11 P113]
  · isplitl [L11]; · iexact L11
    iexact P113
  iintro L11
  iapply (send_piece (Vc I) 1 1 3 c 15 (by decide) (by decide) rfl _ (dv18 c _) (pM_eq (op24_0 c) _ _ _) (pM_eq (op24_0 c) _ _ _) rfl rfl) $$ [L11 Ho]
  · isplitr [L11 Ho]; · iexact HC
    isplitl [L11]; · iexact L11
    iexact Ho
  iintro ⟨L11, Ho⟩
  iapply (ld_sent (Vc I) 0 0 3 c (by decide) (op25_1_0 c)) $$ L00
  iintro L00
  iapply (ld_out (Vc I) 16 c) $$ HO
  iintro HO
  iapply (st_out (Vc I) 15 c 0 0 3 rfl (by decide) (by decide) (oo26_1_0 c) (k0_pay92_emit _)) $$ HO
  iintro HO
  iapply (ld_sent (Vc I) 0 1 3 c (by decide) (op27_1_0 c)) $$ L01
  iintro L01
  iapply (ld_out (Vc I) 15 c) $$ HO
  iintro HO
  iapply (st_out (Vc I) 14 c 0 1 3 rfl (by decide) (by decide) (oo28_1_0 c) (k0_pay93_emit _)) $$ HO
  iintro HO
  iapply le_wp_ret
  iapply Hk
  isplitl [L11]; · iexact L11
  isplitl [Ho]; · iexact Ho
  isplitl [L00]; · iexact L00
  isplitl [HO]; · iexact HO
  iexact L01

theorem part50 {Q : (Σ' (v1703 : BitVec 32), BitVec 32) → sProp 𝕄} :
    iprop(Ctx (Vc I) ∗ Sent (Vc I) 1 0 3 c ∗ Out (Vc I) 14 c ∗ Sent (Vc I) 1 1 3 c ∗ Sent (Vc I) 0 0 3 c ∗ Ow (F := F) 16 c)
      ⊢ iprop(((Sent (Vc I) 1 0 3 c ∗ Out (Vc I) 12 c ∗ Sent (Vc I) 1 1 3 c ∗ Ready (Vc I) 0 0 4 c ∗ Ow (F := F) 16 c) -∗ Q ⟨(x1703 I c), (x_c4_i32_1196 I c)⟩)
        -∗ WP c (k0_part50 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x7 I c) (x12 I c) (x1673 I c)) Q) := by
  rw [k0_part50_eq_skeleton]
  unfold k0_part50_skel
  unfold x1703 x_c4_i32_1196
  simp only [semSignalWord, semWaitWord, bar_sem, Prog.lift, Prog.bind_op, Prog.bind_ret, Prog.pure_eq_ret, Prog.bind_assoc, wp_deviceId]
  iintro ⟨#HC, L10, HO, L11, L00, Ho⟩ Hk
  iapply (ld_sent (Vc I) 1 0 3 c (by decide) (op29_256 c)) $$ L10
  iintro L10
  iapply (ld_out (Vc I) 14 c) $$ HO
  iintro HO
  iapply (st_out (Vc I) 13 c 1 0 3 rfl (by decide) (by decide) (oo30_256 c) (k0_pay94_emit _)) $$ HO
  iintro HO
  iapply (ld_sent (Vc I) 1 1 3 c (by decide) (op31_256 c)) $$ L11
  iintro L11
  iapply (ld_out (Vc I) 13 c) $$ HO
  iintro HO
  iapply (st_out (Vc I) 12 c 1 1 3 rfl (by decide) (by decide) (oo32_256 c) (k0_pay95_emit _)) $$ HO
  iintro HO
  iapply (wait_send (Vc I) 0 0 3 c 16 (by decide) (by decide) rfl (by rw [pM_eq (op21_0 c)])) $$ [L00 Ho]
  · isplitr [L00 Ho]; · iexact HC
    isplitl [L00]; · iexact L00
    iexact Ho
  iintro ⟨L00, Ho⟩
  iapply (wait_piece (Vc I) 0 0 3 c 16 (by decide) (by decide) (by decide) rfl (by rw [pM_eq (op21_0 c)])) $$ [L00 Ho]
  · isplitr [L00 Ho]; · iexact HC
    isplitl [L00]; · iexact L00
    iexact Ho
  iintro ⟨L00, Ho⟩
  iapply le_wp_ret
  iapply Hk
  isplitl [L10]; · iexact L10
  isplitl [HO]; · iexact HO
  isplitl [L11]; · iexact L11
  isplitl [L00]; · iexact L00
  iexact Ho

theorem part51 {Q : (PUnit) → sProp 𝕄} :
    iprop(Ctx (Vc I) ∗ Ready (Vc I) 0 0 4 c ∗ Ow (F := F) 16 c ∗ Sent (Vc I) 1 0 3 c)
      ⊢ iprop(((Sent (Vc I) 0 0 4 c ∗ Ow (F := F) 17 c ∗ Half (Vc I) 1 0 3 c) -∗ Q ⟨⟩)
        -∗ WP c (k0_part51 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x7 I c) (x1703 I c) (x_c4_i32_1196 I c)) Q) := by
  rw [k0_part51_eq_skeleton]
  unfold k0_part51_skel
  simp only [semSignalWord, semWaitWord, bar_sem, Prog.lift, Prog.bind_op, Prog.bind_ret, Prog.pure_eq_ret, Prog.bind_assoc, wp_deviceId]
  iintro ⟨#HC, L00, Ho, L10⟩ Hk
  iapply (send_piece (Vc I) 0 0 4 c 16 (by decide) (by decide) rfl _ (dv19 c _) (pM_eq (op21_1 c) _ _ _) (pM_eq (op21_1 c) _ _ _) rfl rfl) $$ [L00 Ho]
  · isplitr [L00 Ho]; · iexact HC
    isplitl [L00]; · iexact L00
    iexact Ho
  iintro ⟨L00, Ho⟩
  iapply (wait_send (Vc I) 1 0 3 c 17 (by decide) (by decide) rfl (by rw [pM_eq (op22_0 c)])) $$ [L10 Ho]
  · isplitr [L10 Ho]; · iexact HC
    isplitl [L10]; · iexact L10
    iexact Ho
  iintro ⟨L10, Ho⟩
  iapply le_wp_ret
  iapply Hk
  isplitl [L00]; · iexact L00
  isplitl [Ho]; · iexact Ho
  iexact L10

theorem part52 {Q : (PUnit) → sProp 𝕄} :
    iprop(Ctx (Vc I) ∗ Half (Vc I) 1 0 3 c ∗ Ow (F := F) 17 c ∗ Sent (Vc I) 0 1 3 c)
      ⊢ iprop(((Sent (Vc I) 1 0 4 c ∗ Ow (F := F) 18 c ∗ Half (Vc I) 0 1 3 c) -∗ Q ⟨⟩)
        -∗ WP c (k0_part52 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x5 I c) (x7 I c)) Q) := by
  rw [k0_part52_eq_skeleton]
  unfold k0_part52_skel
  simp only [semSignalWord, semWaitWord, bar_sem, Prog.lift, Prog.bind_op, Prog.bind_ret, Prog.pure_eq_ret, Prog.bind_assoc, wp_deviceId]
  iintro ⟨#HC, L10, Ho, L01⟩ Hk
  iapply (wait_piece (Vc I) 1 0 3 c 17 (by decide) (by decide) (by decide) rfl (by rw [pM_eq (op22_0 c)])) $$ [L10 Ho]
  · isplitr [L10 Ho]; · iexact HC
    isplitl [L10]; · iexact L10
    iexact Ho
  iintro ⟨L10, Ho⟩
  iapply (send_piece (Vc I) 1 0 4 c 17 (by decide) (by decide) rfl _ (dv20 c _) (pM_eq (op22_1 c) _ _ _) (pM_eq (op22_1 c) _ _ _) rfl rfl) $$ [L10 Ho]
  · isplitr [L10 Ho]; · iexact HC
    isplitl [L10]; · iexact L10
    iexact Ho
  iintro ⟨L10, Ho⟩
  iapply (wait_send (Vc I) 0 1 3 c 18 (by decide) (by decide) rfl (by rw [pM_eq (op23_0 c)])) $$ [L01 Ho]
  · isplitr [L01 Ho]; · iexact HC
    isplitl [L01]; · iexact L01
    iexact Ho
  iintro ⟨L01, Ho⟩
  iapply le_wp_ret
  iapply Hk
  isplitl [L10]; · iexact L10
  isplitl [Ho]; · iexact Ho
  iexact L01

theorem part53 {Q : (PUnit) → sProp 𝕄} :
    iprop(Ctx (Vc I) ∗ Half (Vc I) 0 1 3 c ∗ Ow (F := F) 18 c)
      ⊢ iprop(((Sent (Vc I) 0 1 4 c ∗ Ow (F := F) 19 c) -∗ Q ⟨⟩)
        -∗ WP c (k0_part53 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x7 I c)) Q) := by
  rw [k0_part53_eq_skeleton]
  unfold k0_part53_skel
  simp only [semSignalWord, semWaitWord, bar_sem, Prog.lift, Prog.bind_op, Prog.bind_ret, Prog.pure_eq_ret, Prog.bind_assoc, wp_deviceId]
  iintro ⟨#HC, L01, Ho⟩ Hk
  iapply (wait_piece (Vc I) 0 1 3 c 18 (by decide) (by decide) (by decide) rfl (by rw [pM_eq (op23_0 c)])) $$ [L01 Ho]
  · isplitr [L01 Ho]; · iexact HC
    isplitl [L01]; · iexact L01
    iexact Ho
  iintro ⟨L01, Ho⟩
  iapply (send_piece (Vc I) 0 1 4 c 18 (by decide) (by decide) rfl _ (dv21 c _) (pM_eq (op23_1 c) _ _ _) (pM_eq (op23_1 c) _ _ _) rfl rfl) $$ [L01 Ho]
  · isplitr [L01 Ho]; · iexact HC
    isplitl [L01]; · iexact L01
    iexact Ho
  iintro ⟨L01, Ho⟩
  iapply le_wp_ret
  iapply Hk
  isplitl [L01]; · iexact L01
  iexact Ho

theorem part54 {Q : (BitVec 32) → sProp 𝕄} :
    iprop(Ctx (Vc I) ∗ Sent (Vc I) 1 1 3 c ∗ Ow (F := F) 19 c ∗ Sent (Vc I) 0 0 4 c ∗ Out (Vc I) 12 c)
      ⊢ iprop(((Sent (Vc I) 1 1 4 c ∗ Ow (F := F) 20 c ∗ Sent (Vc I) 0 0 4 c ∗ Out (Vc I) 11 c) -∗ Q (x1821 I c))
        -∗ WP c (k0_part54 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x5 I c)) Q) := by
  rw [k0_part54_eq_skeleton]
  unfold k0_part54_skel
  unfold x1821
  simp only [semSignalWord, semWaitWord, bar_sem, Prog.lift, Prog.bind_op, Prog.bind_ret, Prog.pure_eq_ret, Prog.bind_assoc, wp_deviceId]
  iintro ⟨#HC, L11, Ho, L00, HO⟩ Hk
  iapply (wait_send (Vc I) 1 1 3 c 19 (by decide) (by decide) rfl (by rw [pM_eq (op24_0 c)])) $$ [L11 Ho]
  · isplitr [L11 Ho]; · iexact HC
    isplitl [L11]; · iexact L11
    iexact Ho
  iintro ⟨L11, Ho⟩
  iapply (wait_piece (Vc I) 1 1 3 c 19 (by decide) (by decide) (by decide) rfl (by rw [pM_eq (op24_0 c)])) $$ [L11 Ho]
  · isplitr [L11 Ho]; · iexact HC
    isplitl [L11]; · iexact L11
    iexact Ho
  iintro ⟨L11, Ho⟩
  iapply (send_piece (Vc I) 1 1 4 c 19 (by decide) (by decide) rfl _ (dv22 c _) (pM_eq (op24_1 c) _ _ _) (pM_eq (op24_1 c) _ _ _) rfl rfl) $$ [L11 Ho]
  · isplitr [L11 Ho]; · iexact HC
    isplitl [L11]; · iexact L11
    iexact Ho
  iintro ⟨L11, Ho⟩
  iapply (ld_sent (Vc I) 0 0 4 c (by decide) (op33_0 c)) $$ L00
  iintro L00
  iapply (ld_out (Vc I) 12 c) $$ HO
  iintro HO
  iapply (st_out (Vc I) 11 c 0 0 4 rfl (by decide) (by decide) (oo34_0 c) (k0_pay96_emit _)) $$ HO
  iintro HO
  iapply le_wp_ret
  iapply Hk
  isplitl [L11]; · iexact L11
  isplitl [Ho]; · iexact Ho
  isplitl [L00]; · iexact L00
  iexact HO

end Cert.Ring

end

end
-- ==== Proof.Parts6.lean ====
module

public import proofs.«01_k».proof.Proof.Vals

/-!
# The program, part by part (55 to 62)
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Dev nD → In F) (c : Dev nD)

theorem part55 {Q : (PUnit) → sProp 𝕄} :
    iprop(Ctx (Vc I) ∗ Sent (Vc I) 0 1 4 c ∗ Out (Vc I) 11 c ∗ Sent (Vc I) 1 0 4 c ∗ Sent (Vc I) 1 1 4 c ∗ Sent (Vc I) 0 0 4 c ∗ Ow (F := F) 20 c)
      ⊢ iprop(((Sent (Vc I) 0 1 4 c ∗ Out (Vc I) 8 c ∗ Sent (Vc I) 1 0 4 c ∗ Sent (Vc I) 1 1 4 c ∗ Half (Vc I) 0 0 4 c ∗ Ow (F := F) 20 c) -∗ Q ⟨⟩)
        -∗ WP c (k0_part55 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x7 I c) (x1821 I c)) Q) := by
  rw [k0_part55_eq_skeleton]
  unfold k0_part55_skel
  simp only [semSignalWord, semWaitWord, bar_sem, Prog.lift, Prog.bind_op, Prog.bind_ret, Prog.pure_eq_ret, Prog.bind_assoc, wp_deviceId]
  iintro ⟨#HC, L01, HO, L10, L11, L00, Ho⟩ Hk
  iapply (ld_sent (Vc I) 0 1 4 c (by decide) (op35_0 c)) $$ L01
  iintro L01
  iapply (ld_out (Vc I) 11 c) $$ HO
  iintro HO
  iapply (st_out (Vc I) 10 c 0 1 4 rfl (by decide) (by decide) (oo36_0 c) (k0_pay97_emit _)) $$ HO
  iintro HO
  iapply (ld_sent (Vc I) 1 0 4 c (by decide) (op33_256 c)) $$ L10
  iintro L10
  iapply (ld_out (Vc I) 10 c) $$ HO
  iintro HO
  iapply (st_out (Vc I) 9 c 1 0 4 rfl (by decide) (by decide) (oo34_256 c) (k0_pay98_emit _)) $$ HO
  iintro HO
  iapply (ld_sent (Vc I) 1 1 4 c (by decide) (op35_256 c)) $$ L11
  iintro L11
  iapply (ld_out (Vc I) 9 c) $$ HO
  iintro HO
  iapply (st_out (Vc I) 8 c 1 1 4 rfl (by decide) (by decide) (oo36_256 c) (k0_pay99_emit _)) $$ HO
  iintro HO
  iapply (wait_send (Vc I) 0 0 4 c 20 (by decide) (by decide) rfl (by rw [pM_eq (op21_1 c)])) $$ [L00 Ho]
  · isplitr [L00 Ho]; · iexact HC
    isplitl [L00]; · iexact L00
    iexact Ho
  iintro ⟨L00, Ho⟩
  iapply le_wp_ret
  iapply Hk
  isplitl [L01]; · iexact L01
  isplitl [HO]; · iexact HO
  isplitl [L10]; · iexact L10
  isplitl [L11]; · iexact L11
  isplitl [L00]; · iexact L00
  iexact Ho

theorem part56 {Q : (PUnit) → sProp 𝕄} :
    iprop(Ctx (Vc I) ∗ Half (Vc I) 0 0 4 c ∗ Ow (F := F) 20 c)
      ⊢ iprop(((Sent (Vc I) 0 0 5 c ∗ Ow (F := F) 21 c) -∗ Q ⟨⟩)
        -∗ WP c (k0_part56 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x7 I c)) Q) := by
  rw [k0_part56_eq_skeleton]
  unfold k0_part56_skel
  simp only [semSignalWord, semWaitWord, bar_sem, Prog.lift, Prog.bind_op, Prog.bind_ret, Prog.pure_eq_ret, Prog.bind_assoc, wp_deviceId]
  iintro ⟨#HC, L00, Ho⟩ Hk
  iapply (wait_piece (Vc I) 0 0 4 c 20 (by decide) (by decide) (by decide) rfl (by rw [pM_eq (op21_1 c)])) $$ [L00 Ho]
  · isplitr [L00 Ho]; · iexact HC
    isplitl [L00]; · iexact L00
    iexact Ho
  iintro ⟨L00, Ho⟩
  iapply (send_piece (Vc I) 0 0 5 c 20 (by decide) (by decide) rfl _ (dv23 c _) (pM_eq (op21_2 c) _ _ _) (pM_eq (op21_2 c) _ _ _) rfl rfl) $$ [L00 Ho]
  · isplitr [L00 Ho]; · iexact HC
    isplitl [L00]; · iexact L00
    iexact Ho
  iintro ⟨L00, Ho⟩
  iapply le_wp_ret
  iapply Hk
  isplitl [L00]; · iexact L00
  iexact Ho

theorem part57 {Q : (PUnit) → sProp 𝕄} :
    iprop(Ctx (Vc I) ∗ Sent (Vc I) 1 0 4 c ∗ Ow (F := F) 21 c ∗ Sent (Vc I) 0 1 4 c)
      ⊢ iprop(((Sent (Vc I) 1 0 5 c ∗ Ow (F := F) 22 c ∗ Half (Vc I) 0 1 4 c) -∗ Q ⟨⟩)
        -∗ WP c (k0_part57 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x5 I c)) Q) := by
  rw [k0_part57_eq_skeleton]
  unfold k0_part57_skel
  simp only [semSignalWord, semWaitWord, bar_sem, Prog.lift, Prog.bind_op, Prog.bind_ret, Prog.pure_eq_ret, Prog.bind_assoc, wp_deviceId]
  iintro ⟨#HC, L10, Ho, L01⟩ Hk
  iapply (wait_send (Vc I) 1 0 4 c 21 (by decide) (by decide) rfl (by rw [pM_eq (op22_1 c)])) $$ [L10 Ho]
  · isplitr [L10 Ho]; · iexact HC
    isplitl [L10]; · iexact L10
    iexact Ho
  iintro ⟨L10, Ho⟩
  iapply (wait_piece (Vc I) 1 0 4 c 21 (by decide) (by decide) (by decide) rfl (by rw [pM_eq (op22_1 c)])) $$ [L10 Ho]
  · isplitr [L10 Ho]; · iexact HC
    isplitl [L10]; · iexact L10
    iexact Ho
  iintro ⟨L10, Ho⟩
  iapply (send_piece (Vc I) 1 0 5 c 21 (by decide) (by decide) rfl _ (dv24 c _) (pM_eq (op22_2 c) _ _ _) (pM_eq (op22_2 c) _ _ _) rfl rfl) $$ [L10 Ho]
  · isplitr [L10 Ho]; · iexact HC
    isplitl [L10]; · iexact L10
    iexact Ho
  iintro ⟨L10, Ho⟩
  iapply (wait_send (Vc I) 0 1 4 c 22 (by decide) (by decide) rfl (by rw [pM_eq (op23_1 c)])) $$ [L01 Ho]
  · isplitr [L01 Ho]; · iexact HC
    isplitl [L01]; · iexact L01
    iexact Ho
  iintro ⟨L01, Ho⟩
  iapply le_wp_ret
  iapply Hk
  isplitl [L10]; · iexact L10
  isplitl [Ho]; · iexact Ho
  iexact L01

theorem part58 {Q : (PUnit) → sProp 𝕄} :
    iprop(Ctx (Vc I) ∗ Half (Vc I) 0 1 4 c ∗ Ow (F := F) 22 c)
      ⊢ iprop(((Ready (Vc I) 0 1 5 c ∗ Ow (F := F) 22 c) -∗ Q ⟨⟩)
        -∗ WP c (k0_part58 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x2 I c) (x7 I c)) Q) := by
  rw [k0_part58_eq_skeleton]
  unfold k0_part58_skel
  simp only [semSignalWord, semWaitWord, bar_sem, Prog.lift, Prog.bind_op, Prog.bind_ret, Prog.pure_eq_ret, Prog.bind_assoc, wp_deviceId]
  iintro ⟨#HC, L01, Ho⟩ Hk
  iapply (wait_piece (Vc I) 0 1 4 c 22 (by decide) (by decide) (by decide) rfl (by rw [pM_eq (op23_1 c)])) $$ [L01 Ho]
  · isplitr [L01 Ho]; · iexact HC
    isplitl [L01]; · iexact L01
    iexact Ho
  iintro ⟨L01, Ho⟩
  iapply le_wp_ret
  iapply Hk
  isplitl [L01]; · iexact L01
  iexact Ho

theorem part59 {Q : (Σ' (v1969 : BitVec 32), Vec F S1x256x512 .bf16) → sProp 𝕄} :
    iprop(Ctx (Vc I) ∗ Ready (Vc I) 0 1 5 c ∗ Ow (F := F) 22 c ∗ Sent (Vc I) 1 1 4 c ∗ Sent (Vc I) 0 0 5 c)
      ⊢ iprop(((Sent (Vc I) 0 1 5 c ∗ Ow (F := F) 24 c ∗ Sent (Vc I) 1 1 5 c ∗ Sent (Vc I) 0 0 5 c) -∗ Q ⟨(x1969 I c), (x1971 I c)⟩)
        -∗ WP c (k0_part59 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x5 I c) (x12 I c)) Q) := by
  rw [k0_part59_eq_skeleton]
  unfold k0_part59_skel
  unfold x1969 x1971
  simp only [semSignalWord, semWaitWord, bar_sem, Prog.lift, Prog.bind_op, Prog.bind_ret, Prog.pure_eq_ret, Prog.bind_assoc, wp_deviceId]
  iintro ⟨#HC, L01, Ho, L11, L00⟩ Hk
  iapply (send_piece (Vc I) 0 1 5 c 22 (by decide) (by decide) rfl _ (dv25 c _) (pM_eq (op23_2 c) _ _ _) (pM_eq (op23_2 c) _ _ _) rfl rfl) $$ [L01 Ho]
  · isplitr [L01 Ho]; · iexact HC
    isplitl [L01]; · iexact L01
    iexact Ho
  iintro ⟨L01, Ho⟩
  iapply (wait_send (Vc I) 1 1 4 c 23 (by decide) (by decide) rfl (by rw [pM_eq (op24_1 c)])) $$ [L11 Ho]
  · isplitr [L11 Ho]; · iexact HC
    isplitl [L11]; · iexact L11
    iexact Ho
  iintro ⟨L11, Ho⟩
  iapply (wait_piece (Vc I) 1 1 4 c 23 (by decide) (by decide) (by decide) rfl (by rw [pM_eq (op24_1 c)])) $$ [L11 Ho]
  · isplitr [L11 Ho]; · iexact HC
    isplitl [L11]; · iexact L11
    iexact Ho
  iintro ⟨L11, Ho⟩
  iapply (send_piece (Vc I) 1 1 5 c 23 (by decide) (by decide) rfl _ (dv26 c _) (pM_eq (op24_2 c) _ _ _) (pM_eq (op24_2 c) _ _ _) rfl rfl) $$ [L11 Ho]
  · isplitr [L11 Ho]; · iexact HC
    isplitl [L11]; · iexact L11
    iexact Ho
  iintro ⟨L11, Ho⟩
  iapply (ld_sent (Vc I) 0 0 5 c (by decide) (op29_0 c)) $$ L00
  iintro L00
  iapply le_wp_ret
  iapply Hk
  isplitl [L01]; · iexact L01
  isplitl [Ho]; · iexact Ho
  isplitl [L11]; · iexact L11
  iexact L00

theorem part60 {Q : (PUnit) → sProp 𝕄} :
    iprop(Out (Vc I) 8 c ∗ Sent (Vc I) 0 1 5 c ∗ Sent (Vc I) 1 0 5 c ∗ Sent (Vc I) 1 1 5 c)
      ⊢ iprop(((Out (Vc I) 4 c ∗ Sent (Vc I) 0 1 5 c ∗ Sent (Vc I) 1 0 5 c ∗ Sent (Vc I) 1 1 5 c) -∗ Q ⟨⟩)
        -∗ WP c (k0_part60 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x9 I c) (x12 I c) (x1969 I c) (x1971 I c)) Q) := by
  rw [k0_part60_eq_skeleton]
  unfold k0_part60_skel
  simp only [semSignalWord, semWaitWord, bar_sem, Prog.lift, Prog.bind_op, Prog.bind_ret, Prog.pure_eq_ret, Prog.bind_assoc, wp_deviceId]
  iintro ⟨HO, L01, L10, L11⟩ Hk
  iapply (ld_out (Vc I) 8 c) $$ HO
  iintro HO
  iapply (st_out (Vc I) 7 c 0 0 5 rfl (by decide) (by decide) (oo30_0 c) (by unfold x1971; exact k0_pay100_emit _)) $$ HO
  iintro HO
  iapply (ld_sent (Vc I) 0 1 5 c (by decide) (op31_0 c)) $$ L01
  iintro L01
  iapply (ld_out (Vc I) 7 c) $$ HO
  iintro HO
  iapply (st_out (Vc I) 6 c 0 1 5 rfl (by decide) (by decide) (oo32_0 c) (k0_pay101_emit _)) $$ HO
  iintro HO
  iapply (ld_sent (Vc I) 1 0 5 c (by decide) (op25_1_256 c)) $$ L10
  iintro L10
  iapply (ld_out (Vc I) 6 c) $$ HO
  iintro HO
  iapply (st_out (Vc I) 5 c 1 0 5 rfl (by decide) (by decide) (oo26_1_256 c) (k0_pay102_emit _)) $$ HO
  iintro HO
  iapply (ld_sent (Vc I) 1 1 5 c (by decide) (op27_1_256 c)) $$ L11
  iintro L11
  iapply (ld_out (Vc I) 5 c) $$ HO
  iintro HO
  iapply (st_out (Vc I) 4 c 1 1 5 rfl (by decide) (by decide) (oo28_1_256 c) (k0_pay103_emit _)) $$ HO
  iintro HO
  iapply le_wp_ret
  iapply Hk
  isplitl [HO]; · iexact HO
  isplitl [L01]; · iexact L01
  isplitl [L10]; · iexact L10
  iexact L11

theorem part61 {Q : (PUnit) → sProp 𝕄} :
    iprop(Ctx (Vc I) ∗ Sent (Vc I) 0 0 5 c ∗ Ow (F := F) 24 c ∗ Sent (Vc I) 1 0 5 c)
      ⊢ iprop(((Ready (Vc I) 0 0 6 c ∗ Ow (F := F) 24 c ∗ Ready (Vc I) 1 0 6 c) -∗ Q ⟨⟩)
        -∗ WP c (k0_part61 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x5 I c) (x7 I c)) Q) := by
  rw [k0_part61_eq_skeleton]
  unfold k0_part61_skel
  simp only [semSignalWord, semWaitWord, bar_sem, Prog.lift, Prog.bind_op, Prog.bind_ret, Prog.pure_eq_ret, Prog.bind_assoc, wp_deviceId]
  iintro ⟨#HC, L00, Ho, L10⟩ Hk
  iapply (wait_send (Vc I) 0 0 5 c 24 (by decide) (by decide) rfl (by rw [pM_eq (op21_2 c)])) $$ [L00 Ho]
  · isplitr [L00 Ho]; · iexact HC
    isplitl [L00]; · iexact L00
    iexact Ho
  iintro ⟨L00, Ho⟩
  iapply (wait_piece (Vc I) 0 0 5 c 24 (by decide) (by decide) (by decide) rfl (by rw [pM_eq (op21_2 c)])) $$ [L00 Ho]
  · isplitr [L00 Ho]; · iexact HC
    isplitl [L00]; · iexact L00
    iexact Ho
  iintro ⟨L00, Ho⟩
  iapply (wait_send (Vc I) 1 0 5 c 24 (by decide) (by decide) rfl (by rw [pM_eq (op22_2 c)])) $$ [L10 Ho]
  · isplitr [L10 Ho]; · iexact HC
    isplitl [L10]; · iexact L10
    iexact Ho
  iintro ⟨L10, Ho⟩
  iapply (wait_piece (Vc I) 1 0 5 c 24 (by decide) (by decide) (by decide) rfl (by rw [pM_eq (op22_2 c)])) $$ [L10 Ho]
  · isplitr [L10 Ho]; · iexact HC
    isplitl [L10]; · iexact L10
    iexact Ho
  iintro ⟨L10, Ho⟩
  iapply le_wp_ret
  iapply Hk
  isplitl [L00]; · iexact L00
  isplitl [Ho]; · iexact Ho
  iexact L10

theorem part62 {Q : (Σ' (v2057 : BitVec 32), Vec F S1x256x512 .bf16) → sProp 𝕄} :
    iprop(Ctx (Vc I) ∗ Sent (Vc I) 0 1 5 c ∗ Ow (F := F) 24 c ∗ Sent (Vc I) 1 1 5 c ∗ Ready (Vc I) 0 0 6 c)
      ⊢ iprop(((Ready (Vc I) 0 1 6 c ∗ Ow (F := F) 24 c ∗ Ready (Vc I) 1 1 6 c ∗ Ready (Vc I) 0 0 6 c) -∗ Q ⟨(x2057 I c), (x2059 I c)⟩)
        -∗ WP c (k0_part62 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c (x5 I c) (x7 I c) (x14 I c)) Q) := by
  rw [k0_part62_eq_skeleton]
  unfold k0_part62_skel
  unfold x2057 x2059
  simp only [semSignalWord, semWaitWord, bar_sem, Prog.lift, Prog.bind_op, Prog.bind_ret, Prog.pure_eq_ret, Prog.bind_assoc, wp_deviceId]
  iintro ⟨#HC, L01, Ho, L11, L00⟩ Hk
  iapply (wait_send (Vc I) 0 1 5 c 24 (by decide) (by decide) rfl (by rw [pM_eq (op23_2 c)])) $$ [L01 Ho]
  · isplitr [L01 Ho]; · iexact HC
    isplitl [L01]; · iexact L01
    iexact Ho
  iintro ⟨L01, Ho⟩
  iapply (wait_piece (Vc I) 0 1 5 c 24 (by decide) (by decide) (by decide) rfl (by rw [pM_eq (op23_2 c)])) $$ [L01 Ho]
  · isplitr [L01 Ho]; · iexact HC
    isplitl [L01]; · iexact L01
    iexact Ho
  iintro ⟨L01, Ho⟩
  iapply (wait_send (Vc I) 1 1 5 c 24 (by decide) (by decide) rfl (by rw [pM_eq (op24_2 c)])) $$ [L11 Ho]
  · isplitr [L11 Ho]; · iexact HC
    isplitl [L11]; · iexact L11
    iexact Ho
  iintro ⟨L11, Ho⟩
  iapply (wait_piece (Vc I) 1 1 5 c 24 (by decide) (by decide) (by decide) rfl (by rw [pM_eq (op24_2 c)])) $$ [L11 Ho]
  · isplitr [L11 Ho]; · iexact HC
    isplitl [L11]; · iexact L11
    iexact Ho
  iintro ⟨L11, Ho⟩
  iapply (ld_ready (Vc I) 0 0 6 c (op25_2_0 c)) $$ L00
  iintro L00
  iapply le_wp_ret
  iapply Hk
  isplitl [L01]; · iexact L01
  isplitl [Ho]; · iexact Ho
  isplitl [L11]; · iexact L11
  iexact L00

end Cert.Ring

end

end
-- ==== Proof.Body.lean ====
module

public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6

/-!
# The whole program of a device
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- One part after another. -/
theorem seq (c : Dev nD) {α β : Type} {R Post : sProp 𝕄} {a : α} {p : Prog (TpuEff nD τ sig (Elt F) Λ₀ .tc) α} {k : α → Prog (TpuEff nD τ sig (Elt F) Λ₀ .tc) β} {Q : β → sProp 𝕄}
    (h : ∀ Q : α → sProp 𝕄, R ⊢ iprop((Post -∗ Q a) -∗ WP c p Q)) : R ⊢ iprop((Post -∗ WP c (k a) Q) -∗ WP c (p >>= k) Q) := by
  have e := wp_bind frame (wpE (defs₀ (F := F)) 𝒱₀ (c : Thread nD τ) none) Set.univ p k Q
  unfold WP
  rw [e]
  exact h fun a => WP c (k a) Q

variable (I : Dev nD → In F) (c : Dev nD)

theorem part63 {Q : (Σ' (d0 : Dev nD) (v5 : BitVec 32) (v7 : BitVec 32), BitVec 32) → sProp 𝕄} :
    iprop(Ctx (Vc I) ∗ ins I c ∗ raw (F := F) c 0 0 ∗ raw (F := F) c 0 1 ∗ raw (F := F) c 0 2 ∗ raw (F := F) c 0 3 ∗ raw (F := F) c 1 0 ∗ raw (F := F) c 1 1 ∗ raw (F := F) c 1 2 ∗ raw (F := F) c 1 3 ∗ fuel (F := F) 0 0 0 c ∗ fuel (F := F) 0 1 0 c ∗ fuel (F := F) 1 0 0 c ∗ fuel (F := F) 1 1 0 c ∗ BarPre (F := F) c ∗ OwB (F := F) c ∗ Out (Vc I) 16 c)
      ⊢ iprop(((ins I c ∗ Out (Vc I) 4 c ∗ semVal (barC c) 0 ∗ Ow (F := F) 24 c ∗ Sent (Vc I) 0 0 5 c ∗ Sent (Vc I) 1 0 5 c ∗ Sent (Vc I) 0 1 5 c ∗ Sent (Vc I) 1 1 5 c) -∗ Q ⟨c, (x5 I c), (x7 I c), (x14 I c)⟩) -∗ WP c (k0_part63 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) Q) := by
  rw [k0_part63_eq_skeleton]
  unfold k0_part63_skel
  iintro ⟨#HC, Hi, R00, R01, R02, R03, R10, R11, R12, R13, F00, F01, F10, F11, HB, HW, HO⟩ Hk
  iapply (seq c (fun Q => part1 I c (Q := Q))) $$ [Hi]
  · iexact Hi
  iintro Hi
  try dsimp only
  iapply (seq c (fun Q => part2 I c (Q := Q))) $$ [Hi]
  · iexact Hi
  iintro Hi
  try dsimp only
  iapply (seq c (fun Q => part3 I c (Q := Q))) $$ [Hi]
  · iexact Hi
  iintro Hi
  try dsimp only
  iapply (seq c (fun Q => part4 I c (Q := Q))) $$ [Hi]
  · iexact Hi
  iintro Hi
  try dsimp only
  iapply (seq c (fun Q => part5 I c (Q := Q))) $$ [Hi R00 HB HW]
  · isplitr [Hi R00 HB HW]; · iexact HC
    isplitl [Hi]; · iexact Hi
    isplitl [R00]; · iexact R00
    isplitl [HB]; · iexact HB
    iexact HW
  iintro ⟨Hi, D00, D01, D10, D11, HS, Ho, P000, P100⟩
  try dsimp only
  iapply (seq c (fun Q => part6 I c (Q := Q))) $$ [P000 F00 D00 Ho P100 F10 D10 Hi]
  · isplitr [P000 F00 D00 Ho P100 F10 D10 Hi]; · iexact HC
    isplitl [P000]; · iexact P000
    isplitl [F00]; · iexact F00
    isplitl [D00]; · iexact D00
    isplitl [Ho]; · iexact Ho
    isplitl [P100]; · iexact P100
    isplitl [F10]; · iexact F10
    isplitl [D10]; · iexact D10
    iexact Hi
  iintro ⟨Ho, Hi, L00, L10⟩
  try dsimp only
  iapply (seq c (fun Q => part7 I c (Q := Q))) $$ [Hi]
  · iexact Hi
  iintro Hi
  try dsimp only
  iapply (seq c (fun Q => part8 I c (Q := Q))) $$ [Hi]
  · iexact Hi
  iintro Hi
  try dsimp only
  iapply (seq c (fun Q => part9 I c (Q := Q))) $$ [Hi R10]
  · isplitl [Hi]; · iexact Hi
    iexact R10
  iintro ⟨Hi, P010, P110⟩
  try dsimp only
  iapply (seq c (fun Q => part10 I c (Q := Q))) $$ [P010 F01 D01 Ho P110 F11 D11 Hi]
  · isplitr [P010 F01 D01 Ho P110 F11 D11 Hi]; · iexact HC
    isplitl [P010]; · iexact P010
    isplitl [F01]; · iexact F01
    isplitl [D01]; · iexact D01
    isplitl [Ho]; · iexact Ho
    isplitl [P110]; · iexact P110
    isplitl [F11]; · iexact F11
    isplitl [D11]; · iexact D11
    iexact Hi
  iintro ⟨Ho, Hi, L01, L11⟩
  try dsimp only
  iapply (seq c (fun Q => part11 I c (Q := Q))) $$ [Hi]
  · iexact Hi
  iintro Hi
  try dsimp only
  iapply (seq c (fun Q => part12 I c (Q := Q))) $$ [Hi]
  · iexact Hi
  iintro Hi
  try dsimp only
  iapply (seq c (fun Q => part13 I c (Q := Q))) $$ [Hi]
  · iexact Hi
  iintro Hi
  try dsimp only
  iapply (seq c (fun Q => part14 I c (Q := Q))) $$ [Hi R01]
  · isplitl [Hi]; · iexact Hi
    iexact R01
  iintro ⟨Hi, P003, P101⟩
  try dsimp only
  iapply (seq c (fun Q => part15 I c (Q := Q))) $$ [Hi]
  · iexact Hi
  iintro Hi
  try dsimp only
  iapply (seq c (fun Q => part16 I c (Q := Q))) $$ [Hi]
  · iexact Hi
  iintro Hi
  try dsimp only
  iapply (seq c (fun Q => part17 I c (Q := Q))) $$ [Hi R03]
  · isplitl [Hi]; · iexact Hi
    iexact R03
  iintro ⟨Hi, P001, P103⟩
  try dsimp only
  iapply (seq c (fun Q => part18 I c (Q := Q))) $$ [L00 Ho P001]
  · isplitr [L00 Ho P001]; · iexact HC
    isplitl [L00]; · iexact L00
    isplitl [Ho]; · iexact Ho
    iexact P001
  iintro ⟨L00, Ho⟩
  try dsimp only
  iapply (seq c (fun Q => part19 I c (Q := Q))) $$ [L00 Ho L10]
  · isplitr [L00 Ho L10]; · iexact HC
    isplitl [L00]; · iexact L00
    isplitl [Ho]; · iexact Ho
    iexact L10
  iintro ⟨L00, Ho, L10⟩
  try dsimp only
  iapply (seq c (fun Q => part20 I c (Q := Q))) $$ [L10 Ho P101]
  · isplitr [L10 Ho P101]; · iexact HC
    isplitl [L10]; · iexact L10
    isplitl [Ho]; · iexact Ho
    iexact P101
  iintro ⟨L10, Ho⟩
  try dsimp only
  iapply (seq c (fun Q => part21 I c (Q := Q))) $$ [Hi]
  · iexact Hi
  iintro Hi
  try dsimp only
  iapply (seq c (fun Q => part22 I c (Q := Q))) $$ [Hi]
  · iexact Hi
  iintro Hi
  try dsimp only
  iapply (seq c (fun Q => part23 I c (Q := Q))) $$ [Hi R11]
  · isplitl [Hi]; · iexact Hi
    iexact R11
  iintro ⟨Hi, R11⟩
  try dsimp only
  iapply (seq c (fun Q => part24 I c (Q := Q))) $$ [R11 Hi]
  · isplitl [R11]; · iexact R11
    iexact Hi
  iintro ⟨Hi, P013, P111⟩
  try dsimp only
  iapply (seq c (fun Q => part25 I c (Q := Q))) $$ [Hi]
  · iexact Hi
  iintro Hi
  try dsimp only
  iapply (seq c (fun Q => part26 I c (Q := Q))) $$ [Hi R13]
  · isplitl [Hi]; · iexact Hi
    iexact R13
  iintro ⟨Hi, R13⟩
  try dsimp only
  iapply (seq c (fun Q => part27 I c (Q := Q))) $$ [R13 L01 Ho]
  · isplitr [R13 L01 Ho]; · iexact HC
    isplitl [R13]; · iexact R13
    isplitl [L01]; · iexact L01
    iexact Ho
  iintro ⟨L01, Ho, P011, P113⟩
  try dsimp only
  iapply (seq c (fun Q => part28 I c (Q := Q))) $$ [P011 L01 Ho L11]
  · isplitr [P011 L01 Ho L11]; · iexact HC
    isplitl [P011]; · iexact P011
    isplitl [L01]; · iexact L01
    isplitl [Ho]; · iexact Ho
    iexact L11
  iintro ⟨L01, Ho, L11⟩
  try dsimp only
  iapply (seq c (fun Q => part29 I c (Q := Q))) $$ [L11 Ho P111]
  · isplitr [L11 Ho P111]; · iexact HC
    isplitl [L11]; · iexact L11
    isplitl [Ho]; · iexact Ho
    iexact P111
  iintro ⟨L11, Ho⟩
  try dsimp only
  iapply (seq c (fun Q => part30 I c (Q := Q))) $$ [L11 Ho Hi]
  · isplitr [L11 Ho Hi]; · iexact HC
    isplitl [L11]; · iexact L11
    isplitl [Ho]; · iexact Ho
    iexact Hi
  iintro ⟨L11, Ho, Hi⟩
  try dsimp only
  iapply (seq c (fun Q => part31 I c (Q := Q))) $$ [Hi]
  · iexact Hi
  iintro Hi
  try dsimp only
  iapply (seq c (fun Q => part32 I c (Q := Q))) $$ [Hi]
  · iexact Hi
  iintro Hi
  try dsimp only
  iapply (seq c (fun Q => part33 I c (Q := Q))) $$ [Hi R02]
  · isplitl [Hi]; · iexact Hi
    iexact R02
  iintro ⟨Hi, P002, P102⟩
  try dsimp only
  iapply (seq c (fun Q => part34 I c (Q := Q))) $$ [L00 Ho P002]
  · isplitr [L00 Ho P002]; · iexact HC
    isplitl [L00]; · iexact L00
    isplitl [Ho]; · iexact Ho
    iexact P002
  iintro ⟨L00, Ho⟩
  try dsimp only
  iapply (seq c (fun Q => part35 I c (Q := Q))) $$ [L00 Ho L10]
  · isplitr [L00 Ho L10]; · iexact HC
    isplitl [L00]; · iexact L00
    isplitl [Ho]; · iexact Ho
    iexact L10
  iintro ⟨L00, Ho, L10⟩
  try dsimp only
  iapply (seq c (fun Q => part36 I c (Q := Q))) $$ [L10 Ho P102 Hi]
  · isplitr [L10 Ho P102 Hi]; · iexact HC
    isplitl [L10]; · iexact L10
    isplitl [Ho]; · iexact Ho
    isplitl [P102]; · iexact P102
    iexact Hi
  iintro ⟨L10, Ho, Hi⟩
  try dsimp only
  iapply (seq c (fun Q => part37 I c (Q := Q))) $$ [Hi]
  · iexact Hi
  iintro Hi
  try dsimp only
  iapply (seq c (fun Q => part38 I c (Q := Q))) $$ [Hi]
  · iexact Hi
  iintro Hi
  try dsimp only
  iapply (seq c (fun Q => part39 I c (Q := Q))) $$ [Hi R12]
  · isplitl [Hi]; · iexact Hi
    iexact R12
  iintro ⟨Hi, P012, P112⟩
  try dsimp only
  iapply (seq c (fun Q => part40 I c (Q := Q))) $$ [L01 Ho P012]
  · isplitr [L01 Ho P012]; · iexact HC
    isplitl [L01]; · iexact L01
    isplitl [Ho]; · iexact Ho
    iexact P012
  iintro ⟨L01, Ho⟩
  try dsimp only
  iapply (seq c (fun Q => part41 I c (Q := Q))) $$ [L01 Ho L11]
  · isplitr [L01 Ho L11]; · iexact HC
    isplitl [L01]; · iexact L01
    isplitl [Ho]; · iexact Ho
    iexact L11
  iintro ⟨L01, Ho, L11⟩
  try dsimp only
  iapply (seq c (fun Q => part42 I c (Q := Q))) $$ [L11 Ho P112]
  · isplitr [L11 Ho P112]; · iexact HC
    isplitl [L11]; · iexact L11
    isplitl [Ho]; · iexact Ho
    iexact P112
  iintro ⟨L11, Ho⟩
  try dsimp only
  iapply (seq c (fun Q => part43 I c (Q := Q))) $$ [L00 Ho P003]
  · isplitr [L00 Ho P003]; · iexact HC
    isplitl [L00]; · iexact L00
    isplitl [Ho]; · iexact Ho
    iexact P003
  iintro ⟨L00, Ho, P003⟩
  try dsimp only
  iapply (seq c (fun Q => part44 I c (Q := Q))) $$ [P003 L00 Ho]
  · isplitr [P003 L00 Ho]; · iexact HC
    isplitl [P003]; · iexact P003
    isplitl [L00]; · iexact L00
    iexact Ho
  iintro ⟨L00, Ho⟩
  try dsimp only
  iapply (seq c (fun Q => part45 I c (Q := Q))) $$ [L10 Ho P103]
  · isplitr [L10 Ho P103]; · iexact HC
    isplitl [L10]; · iexact L10
    isplitl [Ho]; · iexact Ho
    iexact P103
  iintro ⟨L10, Ho⟩
  try dsimp only
  iapply (seq c (fun Q => part46 I c (Q := Q))) $$ [L10 Ho L01]
  · isplitr [L10 Ho L01]; · iexact HC
    isplitl [L10]; · iexact L10
    isplitl [Ho]; · iexact Ho
    iexact L01
  iintro ⟨L10, Ho, L01⟩
  try dsimp only
  iapply (seq c (fun Q => part47 I c (Q := Q))) $$ [P013 L01]
  · isplitl [P013]; · iexact P013
    iexact L01
  iintro L01
  try dsimp only
  iapply (seq c (fun Q => part48 I c (Q := Q))) $$ [L01 Ho L11 P113]
  · isplitr [L01 Ho L11 P113]; · iexact HC
    isplitl [L01]; · iexact L01
    isplitl [Ho]; · iexact Ho
    isplitl [L11]; · iexact L11
    iexact P113
  iintro ⟨L01, Ho, L11, P113⟩
  try dsimp only
  iapply (seq c (fun Q => part49 I c (Q := Q))) $$ [P113 L11 Ho L00 HO L01]
  · isplitr [P113 L11 Ho L00 HO L01]; · iexact HC
    isplitl [P113]; · iexact P113
    isplitl [L11]; · iexact L11
    isplitl [Ho]; · iexact Ho
    isplitl [L00]; · iexact L00
    isplitl [HO]; · iexact HO
    iexact L01
  iintro ⟨L11, Ho, L00, HO, L01⟩
  try dsimp only
  iapply (seq c (fun Q => part50 I c (Q := Q))) $$ [L10 HO L11 L00 Ho]
  · isplitr [L10 HO L11 L00 Ho]; · iexact HC
    isplitl [L10]; · iexact L10
    isplitl [HO]; · iexact HO
    isplitl [L11]; · iexact L11
    isplitl [L00]; · iexact L00
    iexact Ho
  iintro ⟨L10, HO, L11, L00, Ho⟩
  try dsimp only
  iapply (seq c (fun Q => part51 I c (Q := Q))) $$ [L00 Ho L10]
  · isplitr [L00 Ho L10]; · iexact HC
    isplitl [L00]; · iexact L00
    isplitl [Ho]; · iexact Ho
    iexact L10
  iintro ⟨L00, Ho, L10⟩
  try dsimp only
  iapply (seq c (fun Q => part52 I c (Q := Q))) $$ [L10 Ho L01]
  · isplitr [L10 Ho L01]; · iexact HC
    isplitl [L10]; · iexact L10
    isplitl [Ho]; · iexact Ho
    iexact L01
  iintro ⟨L10, Ho, L01⟩
  try dsimp only
  iapply (seq c (fun Q => part53 I c (Q := Q))) $$ [L01 Ho]
  · isplitr [L01 Ho]; · iexact HC
    isplitl [L01]; · iexact L01
    iexact Ho
  iintro ⟨L01, Ho⟩
  try dsimp only
  iapply (seq c (fun Q => part54 I c (Q := Q))) $$ [L11 Ho L00 HO]
  · isplitr [L11 Ho L00 HO]; · iexact HC
    isplitl [L11]; · iexact L11
    isplitl [Ho]; · iexact Ho
    isplitl [L00]; · iexact L00
    iexact HO
  iintro ⟨L11, Ho, L00, HO⟩
  try dsimp only
  iapply (seq c (fun Q => part55 I c (Q := Q))) $$ [L01 HO L10 L11 L00 Ho]
  · isplitr [L01 HO L10 L11 L00 Ho]; · iexact HC
    isplitl [L01]; · iexact L01
    isplitl [HO]; · iexact HO
    isplitl [L10]; · iexact L10
    isplitl [L11]; · iexact L11
    isplitl [L00]; · iexact L00
    iexact Ho
  iintro ⟨L01, HO, L10, L11, L00, Ho⟩
  try dsimp only
  iapply (seq c (fun Q => part56 I c (Q := Q))) $$ [L00 Ho]
  · isplitr [L00 Ho]; · iexact HC
    isplitl [L00]; · iexact L00
    iexact Ho
  iintro ⟨L00, Ho⟩
  try dsimp only
  iapply (seq c (fun Q => part57 I c (Q := Q))) $$ [L10 Ho L01]
  · isplitr [L10 Ho L01]; · iexact HC
    isplitl [L10]; · iexact L10
    isplitl [Ho]; · iexact Ho
    iexact L01
  iintro ⟨L10, Ho, L01⟩
  try dsimp only
  iapply (seq c (fun Q => part58 I c (Q := Q))) $$ [L01 Ho]
  · isplitr [L01 Ho]; · iexact HC
    isplitl [L01]; · iexact L01
    iexact Ho
  iintro ⟨L01, Ho⟩
  try dsimp only
  iapply (seq c (fun Q => part59 I c (Q := Q))) $$ [L01 Ho L11 L00]
  · isplitr [L01 Ho L11 L00]; · iexact HC
    isplitl [L01]; · iexact L01
    isplitl [Ho]; · iexact Ho
    isplitl [L11]; · iexact L11
    iexact L00
  iintro ⟨L01, Ho, L11, L00⟩
  try dsimp only
  iapply (seq c (fun Q => part60 I c (Q := Q))) $$ [HO L01 L10 L11]
  · isplitl [HO]; · iexact HO
    isplitl [L01]; · iexact L01
    isplitl [L10]; · iexact L10
    iexact L11
  iintro ⟨HO, L01, L10, L11⟩
  try dsimp only
  iapply le_wp_ret
  iapply Hk
  isplitl [Hi]; · iexact Hi
  isplitl [HO]; · iexact HO
  isplitl [HS]; · iexact HS
  isplitl [Ho]; · iexact Ho
  isplitl [L00]; · iexact L00
  isplitl [L10]; · iexact L10
  isplitl [L01]; · iexact L01
  iexact L11

theorem body {Q : PUnit → sProp 𝕄} :
    iprop(Ctx (Vc I) ∗ ins I c ∗ raw (F := F) c 0 0 ∗ raw (F := F) c 0 1 ∗ raw (F := F) c 0 2 ∗ raw (F := F) c 0 3 ∗ raw (F := F) c 1 0 ∗ raw (F := F) c 1 1 ∗ raw (F := F) c 1 2 ∗ raw (F := F) c 1 3 ∗ fuel (F := F) 0 0 0 c ∗ fuel (F := F) 0 1 0 c ∗ fuel (F := F) 1 0 0 c ∗ fuel (F := F) 1 1 0 c ∗ BarPre (F := F) c ∗ OwB (F := F) c ∗ Out (Vc I) 16 c)
      ⊢ iprop(((ins I c ∗ Out (Vc I) 0 c ∗ semVal (barC c) 0 ∗ Ow (F := F) 24 c ∗ Ready (Vc I) 0 0 6 c ∗ Ready (Vc I) 1 0 6 c ∗ Ready (Vc I) 0 1 6 c ∗ Ready (Vc I) 1 1 6 c) -∗ Q ⟨⟩) -∗ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) Q) := by
  rw [cc0_body_eq_skeleton]
  unfold cc0_body_skel
  iintro ⟨#HC, Hi, R00, R01, R02, R03, R10, R11, R12, R13, F00, F01, F10, F11, HB, HW, HO⟩ Hk
  iapply (seq c (fun Q => part63 I c (Q := Q))) $$ [Hi R00 R01 R02 R03 R10 R11 R12 R13 F00 F01 F10 F11 HB HW HO]
  · isplitr [Hi R00 R01 R02 R03 R10 R11 R12 R13 F00 F01 F10 F11 HB HW HO]; · iexact HC
    isplitl [Hi]; · iexact Hi
    isplitl [R00]; · iexact R00
    isplitl [R01]; · iexact R01
    isplitl [R02]; · iexact R02
    isplitl [R03]; · iexact R03
    isplitl [R10]; · iexact R10
    isplitl [R11]; · iexact R11
    isplitl [R12]; · iexact R12
    isplitl [R13]; · iexact R13
    isplitl [F00]; · iexact F00
    isplitl [F01]; · iexact F01
    isplitl [F10]; · iexact F10
    isplitl [F11]; · iexact F11
    isplitl [HB]; · iexact HB
    isplitl [HW]; · iexact HW
    iexact HO
  iintro ⟨Hi, HO, HS, Ho, L00, L10, L01, L11⟩
  try dsimp only
  iapply (seq c (fun Q => part61 I c (Q := Q))) $$ [L00 Ho L10]
  · isplitr [L00 Ho L10]; · iexact HC
    isplitl [L00]; · iexact L00
    isplitl [Ho]; · iexact Ho
    iexact L10
  iintro ⟨L00, Ho, L10⟩
  try dsimp only
  iapply (seq c (fun Q => part62 I c (Q := Q))) $$ [L01 Ho L11 L00]
  · isplitr [L01 Ho L11 L00]; · iexact HC
    isplitl [L01]; · iexact L01
    isplitl [Ho]; · iexact Ho
    isplitl [L11]; · iexact L11
    iexact L00
  iintro ⟨L01, Ho, L11, L00⟩
  try dsimp only
  unfold x2059
  simp only [Prog.lift, Prog.bind_op, Prog.bind_ret, Prog.pure_eq_ret, Prog.bind_assoc]
  iapply (ld_out (Vc I) 4 c) $$ HO
  iintro HO
  iapply (st_out (Vc I) 3 c 0 0 6 rfl (by decide) (by decide) (oo26_2_0 c) (k0_pay1_emit _)) $$ HO
  iintro HO
  iapply (ld_ready (Vc I) 0 1 6 c (op27_2_0 c)) $$ L01
  iintro L01
  iapply (ld_out (Vc I) 3 c) $$ HO
  iintro HO
  iapply (st_out (Vc I) 2 c 0 1 6 rfl (by decide) (by decide) (oo28_2_0 c) (k0_pay2_emit _)) $$ HO
  iintro HO
  iapply (ld_ready (Vc I) 1 0 6 c (op25_2_256 c)) $$ L10
  iintro L10
  iapply (ld_out (Vc I) 2 c) $$ HO
  iintro HO
  iapply (st_out (Vc I) 1 c 1 0 6 rfl (by decide) (by decide) (oo26_2_256 c) (k0_pay3_emit _)) $$ HO
  iintro HO
  iapply (ld_ready (Vc I) 1 1 6 c (op27_2_256 c)) $$ L11
  iintro L11
  iapply (ld_out (Vc I) 1 c) $$ HO
  iintro HO
  iapply (st_out (Vc I) 0 c 1 1 6 rfl (by decide) (by decide) (oo28_2_256 c) (k0_pay4_emit _)) $$ HO
  iintro HO
  iapply le_wp_ret
  iapply Hk
  isplitl [Hi]; · iexact Hi
  isplitl [HO]; · iexact HO
  isplitl [HS]; · iexact HS
  isplitl [Ho]; · iexact Ho
  isplitl [L00]; · iexact L00
  isplitl [L10]; · iexact L10
  isplitl [L01]; · iexact L01
  iexact L11

end Cert.Ring

end

end
-- ==== Proof.Ghost.lean ====
module

public import proofs.«01_k».proof.Proof.Bar

/-!
# Dealing the ghost state out

All 49 semaphores of every device get their invariant at once, and the tokens go to the devices that pay with them: a
receive semaphore's token to the device it receives from, a barrier's two tokens to the two neighbours.
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Dev nD → Fin 2 → Fin 2 → ℕ → PV F)

/-! ## Big conjunctions over the steps of the four lanes -/

/-- A lane and one of its six steps. -/
abbrev Xs : Type := Fin 2 × Fin 2 × Fin 6

abbrev sCx (x : Xs) (c : Dev nD) : GSem nD τ sig := sC x.1 x.2.1 x.2.2.val c
abbrev vCx (x : Xs) (c : Dev nD) : GSem nD τ sig := vC x.1 x.2.1 x.2.2.val c

theorem sepL_map {A : Type} (f : A → ℕ) (P : ℕ → sProp 𝕄) (l : List A) : sepL P (l.map f) = bigSepL l fun a => P (f a) := by
  induction l with
  | nil => rfl
  | cons a l ih => rw [bigSepL_cons, ← ih]; rfl
theorem sepL_six (P : ℕ → sProp 𝕄) (l : List (Fin 6)) (h : Finset.univ = l.toFinset) (hl : l.Nodup) :
    (bigSep Finset.univ fun i : Fin 6 => P i.val) = sepL P (l.map Fin.val) := by
  rw [sepL_map]; exact bigSep_univ_eq_bigSepL l h hl _
theorem bigSep_two (Φ : Fin 2 → sProp 𝕄) : bigSep Finset.univ Φ = iprop(Φ 0 ∗ Φ 1) :=
  bigSep_univ_eq_bigSepL [0, 1] (by decide) (by decide) Φ

/-- The four lanes one by one, their steps listed in any order. -/
theorem lanes (P : Fin 2 → Fin 2 → ℕ → sProp 𝕄) (l : List (Fin 6)) (h : Finset.univ = l.toFinset) (hl : l.Nodup) :
    (bigSep Finset.univ fun x : Xs => P x.1 x.2.1 x.2.2.val)
      = iprop((sepL (P 0 0) (l.map Fin.val) ∗ sepL (P 0 1) (l.map Fin.val)) ∗ (sepL (P 1 0) (l.map Fin.val) ∗ sepL (P 1 1) (l.map Fin.val))) := by
  rw [bigSep_univ_prod, bigSep_two, bigSep_univ_prod, bigSep_univ_prod, bigSep_two, bigSep_two]
  simp only [← sepL_six _ l h hl]

/-- The numbering of the 49 semaphores by what they are. -/
def knum : Unit ⊕ (Xs ⊕ Xs) → Fin 49
  | .inl _ => 0
  | .inr (.inl x) => ⟨1 + ix x.1 x.2.1 x.2.2.val, by have := ix_lt x.1 x.2.1 x.2.2.val; omega⟩
  | .inr (.inr x) => ⟨25 + ix x.1 x.2.1 x.2.2.val, by have := ix_lt x.1 x.2.1 x.2.2.val; omega⟩
theorem knum_inj : Function.Injective knum := by decide +kernel
theorem knum_bij : Function.Bijective knum := ⟨knum_inj, by decide +kernel⟩

theorem kcell_b (c : Dev nD) (u : Unit) : kcell (c, knum (.inl u)) = barC c := rfl
theorem kcell_s (c : Dev nD) (x : Xs) : kcell (c, knum (.inr (.inl x))) = sCx x c := congrArg (Prod.mk (c : Thread nD τ)) (ksem_s x.1 x.2.1 x.2.2.val)
theorem kcell_v (c : Dev nD) (x : Xs) : kcell (c, knum (.inr (.inr x))) = vCx x c := congrArg (Prod.mk (c : Thread nD τ)) (ksem_v x.1 x.2.1 x.2.2.val)

/-- A device's cells: the barrier, the send and the receive semaphores. -/
theorem cells_split (Φ : GSem nD τ sig → sProp 𝕄) (c : Dev nD) : (bigSep Finset.univ fun k : Fin 49 => Φ (kcell (c, k)))
    = iprop(Φ (barC c) ∗ (bigSep Finset.univ fun x : Xs => Φ (sCx x c)) ∗ (bigSep Finset.univ fun x : Xs => Φ (vCx x c))) := by
  rw [bigSep_univ_equiv (Equiv.ofBijective knum knum_bij), BI.bigSep_univ_sum, BI.bigSep_univ_sum, bigSep_univ_eq_bigSepL [()] (by decide) (by decide), bigSepL_singleton]
  simp only [Equiv.ofBijective_apply, kcell_b, kcell_s, kcell_v]
  rfl

/-! ## Minting -/

theorem ksem_inj : Function.Injective ksem := by
  intro k k' h
  by_contra hn
  unfold ksem at h
  have hk : k.val ≠ k'.val := fun e => hn (Fin.ext e)
  split at h <;> split at h
  · omega
  · cases h
  · cases h
  · injection h with h; have := congrArg Fin.val h; simp only at this; omega
theorem kcell_injective : Function.Injective (kcell : Dev nD × Fin 49 → GSem nD τ sig) := by
  rintro ⟨c, k⟩ ⟨c', k'⟩ h
  have h1 : c = c' := congrArg (fun g : GSem nD τ sig => g.1.1) h
  have h2 : k = k' := ksem_inj (congrArg Prod.snd h)
  rw [h1, h2]
def ringCells : Finset (GSem nD τ sig) := Finset.univ.map ⟨kcell, kcell_injective⟩

/-- Every duty token of a device's own cells. -/
def tokOf (cj : Dev nD × (Bool ⊕ (Xs ⊕ Xs))) : GSem nD τ sig × ℕ × Bool := match cj.2 with
  | .inl b => (barC cj.1, 0, b)
  | .inr k => (kcell (cj.1, knum (.inr k)), 0, false)
theorem tokOf_injective : Function.Injective tokOf := by
  rintro ⟨c, j⟩ ⟨c', j'⟩ h
  rcases j with b | k <;> rcases j' with b' | k'
  · have h1 : c = c' := congrArg (fun x : GSem nD τ sig × ℕ × Bool => x.1.1.1) h
    have h2 : b = b' := congrArg (fun x : GSem nD τ sig × ℕ × Bool => x.2.2) h
    rw [h1, h2]
  · have h1 := kcell_injective (a₁ := (c, knum (.inl ()))) (a₂ := (c', knum (.inr k'))) (congrArg Prod.fst h)
    have h2 : knum (.inl ()) = knum (.inr k') := congrArg Prod.snd h1
    cases knum_inj h2
  · have h1 := kcell_injective (a₁ := (c, knum (.inr k))) (a₂ := (c', knum (.inl ()))) (congrArg Prod.fst h)
    have h2 : knum (.inr k) = knum (.inl ()) := congrArg Prod.snd h1
    cases knum_inj h2
  · have h1 := kcell_injective (a₁ := (c, knum (.inr k))) (a₂ := (c', knum (.inr k'))) (congrArg Prod.fst h)
    have h2 : c = c' := congrArg Prod.fst h1
    have h3 := knum_inj (congrArg Prod.snd h1)
    injection h3 with h3
    rw [h2, h3]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 := iprop((dutyTok ER (barC c) 0 false ∗ dutyTok ER (barC c) 0 true)
  ∗ (bigSep Finset.univ fun x : Xs => dutyTok ER (sCx x c) 0 false) ∗ bigSep Finset.univ fun x : Xs => dutyTok ER (vCx x c) 0 false)

/-- What a device starts from. -/
def G (c : Dev nD) : sProp 𝕄 :=
  iprop((bigSep Finset.univ fun k : Fin 49 => roundState ER (Rd V) (kcell (c, k)) 0)
    ∗ (bigSep Finset.univ fun k : Fin 49 => atPos ER (kcell (c, k)) 0 ∅ 0) ∗ (bigSep Finset.univ fun k : Fin 49 => reached ER (kcell (c, k)) 0) ∗ toks c)

omit [FloatOps F] in
theorem toks_eq (c : Dev nD) : (bigSep Finset.univ fun j : Bool ⊕ (Xs ⊕ Xs) => (dutyTok ER (tokOf (c, j)).1 (tokOf (c, j)).2.1 (tokOf (c, j)).2.2 : sProp 𝕄)) = toks c := by
  rw [BI.bigSep_univ_sum, BI.bigSep_univ_sum, bigSep_univ_eq_bigSepL [false, true] (by decide) (by decide), bigSepL_cons_cons, bigSepL_singleton]
  unfold toks tokOf
  simp only [kcell_s, kcell_v]
  rfl

theorem fund_ring : BI.own (ER (initOf ringCells ringToks)) ⊢ (|==> bigSep Finset.univ (G V) : sProp 𝕄) := by
  have hX (Φ : GSem nD τ sig → sProp 𝕄) : bigSep ringCells Φ = bigSep Finset.univ fun c : Dev nD => bigSep Finset.univ fun k : Fin 49 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Rd V) ringCells ringToks) $$ HX with ⟨Hst, Hr, Hat, Htok⟩
  imodintro
  ihave Hst' := (Entails.of_eq (hX fun g => roundState ER (Rd V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores of the kernel -/

/-- The 48 DMA semaphores are the kernel's own, -/
def osem : Xs ⊕ Xs → SemLoc sig
  | .inl x => .dma (sQ x.1 x.2.1 x.2.2.val)
  | .inr x => .dma (vQ x.1 x.2.1 x.2.2.val)

theorem ownSems0_eq (c : Dev nD) : (Pipeline.ownSems0 (Ix := Unit) (Name := ℕ) (U := UU) (Lvl := ℕ) (Val := Elt F) (τ := τ) osem c : sProp 𝕄)
    = iprop((bigSep Finset.univ fun x : Xs => semVal (sCx x c) 0) ∗ bigSep Finset.univ fun x : Xs => semVal (vCx x c) 0) := by
  unfold Pipeline.ownSems0; rw [BI.bigSep_univ_sum]; rfl
/-- and the barrier semaphore is the only one outside. -/
theorem unscopedSems0_eq (c : Dev nD) : (unscopedSems0 c : sProp 𝕄) = semVal (barC c) 0 := by
  unfold unscopedSems0; rw [bigSep_eq_bigSepL_of_eq [SemLoc.reg barS] (by decide +kernel) (by decide)]; rfl

/-- Four lanes of closed semaphores are the kernel's own. -/
theorem zeros_own (c : Dev nD) : iprop(zeros (F := F) 0 0 6 c ∗ zeros (F := F) 0 1 6 c ∗ zeros (F := F) 1 0 6 c ∗ zeros (F := F) 1 1 6 c)
    ⊢ (Pipeline.ownSems0 (Ix := Unit) (Name := ℕ) (U := UU) (Lvl := ℕ) (Val := Elt F) (τ := τ) osem c : sProp 𝕄) := by
  have h : _ = iprop((zeros (F := F) 0 0 6 c ∗ zeros (F := F) 0 1 6 c) ∗ (zeros (F := F) 1 0 6 c ∗ zeros (F := F) 1 1 6 c)) := lanes (F := F) (fun d w t => iprop(semVal (sC d w t c) 0 ∗ semVal (vC d w t c) 0)) [5, 4, 3, 2, 1, 0] (by decide) (by decide)
  rw [bigSep_sep'] at h
  rw [ownSems0_eq, h]
  iintro ⟨H1, H2, H3, H4⟩
  isplitl [H1 H2]
  · isplitl [H1]; · iexact H1
    iexact H2
  · isplitl [H3]; · iexact H3
    iexact H4

/-! ## The invariants -/

theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k => iprop(∃ κ : ℕ, cellInv ER (Rd V) κ (kcell (c, k))))
          ∗ (bigSep Finset.univ fun k : Fin 49 => atPos ER (kcell (c, k)) 0 ∅ 0) ∗ (bigSep Finset.univ fun k : Fin 49 => reached ER (kcell (c, k)) 0) ∗ toks c) := by
  have hv := (Entails.of_eq (cells_split (F := F) (fun g => semVal g 0) c).symm)
  have ha : iprop((bigSep Finset.univ fun k : Fin 49 => semVal (kcell (c, k)) 0) ∗ bigSep Finset.univ fun k : Fin 49 => roundState ER (Rd V) (kcell (c, k)) 0)
      ⊢ (|={Set.univ}=> bigSep Finset.univ fun k => iprop(∃ κ : ℕ, cellInv ER (Rd V) κ (kcell (c, k))) : sProp 𝕄) := by
    rw [← bigSep_sep']
    exact (bigSep_mono fun k _ => (Rounds.body_intro ER (Rd V) (kcell (c, k))).trans inv_alloc).trans (bigSep_fupd _ _)
  unfold G
  rw [ownSems0_eq, unscopedSems0_eq]
  iintro ⟨⟨Hs, Hv⟩, Hb, Hst, Hrest⟩
  ihave Hz := hv $$ [Hs Hv Hb]
  · isplitl [Hb]; · iexact Hb
    isplitl [Hs]; · iexact Hs
    iexact Hv
  imod ha $$ [Hz Hst] with Hinv
  · isplitl [Hz]; · iexact Hz
    iexact Hst
  imodintro
  isplitl [Hinv]; · iexact Hinv
  iexact Hrest

/-- All the invariants and first rounds, under one choice of names. -/
def recs : sProp 𝕄 := iprop(∃ κ : Dev nD × Fin 49 → ℕ, bigSep Finset.univ fun ck => iprop(cellInv ER (Rd V) (κ ck) (kcell ck) ∗ reached ER (kcell ck) 0))
instance recs_persistent : BI.Persistent (recs V) := by unfold recs; infer_instance

/-- The four tokens and positions of a step. -/
def step1 (x : Xs) (c : Dev nD) : sProp 𝕄 := iprop(dutyTok ER (sCx x c) 0 false ∗ dutyTok ER (vCx x (dn x.1 c)) 0 false
  ∗ atPos ER (sCx x c) 0 ∅ 0 ∗ atPos ER (vCx x c) 0 ∅ 0)
/-- What a device owns after the dealing. -/
def deal (c : Dev nD) : sProp 𝕄 := iprop((dutyTok ER (barC (dn 1 c)) 0 true ∗ dutyTok ER (barC (dn 0 c)) 0 false ∗ atPos ER (barC c) 0 ∅ 0)
  ∗ bigSep Finset.univ fun x : Xs => step1 (F := F) x c)
def G' (c : Dev nD) : sProp 𝕄 := iprop(recs V ∗ deal (F := F) c)

theorem v_round (Φ : Xs → Dev nD → sProp 𝕄) : (bigSep Finset.univ fun c : Dev nD => bigSep Finset.univ fun x : Xs => Φ x c)
    = bigSep Finset.univ fun c : Dev nD => bigSep Finset.univ fun x : Xs => Φ x (dn x.1 c) := by
  rw [← bigSep_univ_prod (fun p : Dev nD × Xs => Φ p.2 p.1), ← bigSep_univ_prod (fun p : Dev nD × Xs => Φ p.2 (dn p.2.1 p.1)),
    bigSep_univ_equiv (⟨fun p => (dn p.2.1 p.1, p.2), fun p => (up p.2.1 p.1, p.2), fun p => by simp only [up_dn], fun p => by simp only [dn_up]⟩ : Dev nD × Xs ≃ Dev nD × Xs)]
  rfl

/-- The tokens go round, and each step gets its own. -/
theorem deal_all : iprop((bigSep Finset.univ fun c : Dev nD => bigSep Finset.univ fun k : Fin 49 => (atPos ER (kcell (c, k)) 0 ∅ 0 : sProp 𝕄)) ∗ bigSep Finset.univ fun c : Dev nD => toks c)
    ⊢ bigSep Finset.univ fun c : Dev nD => deal (F := F) c := by
  unfold toks deal step1
  simp only [cells_split (F := F) (fun g => atPos ER g 0 ∅ 0)]
  simp only [bigSep_sep']
  rw [bigSep_univ_equiv (ring 0) (fun c : Dev nD => (dutyTok ER (barC c) 0 false : sProp 𝕄)),
    bigSep_univ_equiv (ring 1) (fun c : Dev nD => (dutyTok ER (barC c) 0 true : sProp 𝕄)),
    v_round (fun x c => (dutyTok ER (vCx x c) 0 false : sProp 𝕄))]
  iintro ⟨⟨Hb, Hs, Hv⟩, ⟨Hf, Ht⟩, HS, HV⟩
  isplitl [Hb Hf Ht]
  · isplitl [Ht]; · iexact Ht
    isplitl [Hf]; · iexact Hf
    iexact Hb
  isplitl [HS]; · iexact HS
  isplitl [HV]; · iexact HV
  isplitl [Hs]; · iexact Hs
  iexact Hv

theorem bigSep_keep {I : Type} [DecidableEq I] {S : Finset I} {R : sProp 𝕄} [BI.Persistent R] {Φ : I → sProp 𝕄} :
    iprop(R ∗ bigSep S Φ) ⊢ bigSep S fun i => iprop(R ∗ Φ i) :=
  (sep_mono_left (BI.bigSep_of_persistent S R)).trans (Entails.of_eq (bigSep_sep' _ _ _).symm)

theorem regroup :
    (bigSep Finset.univ fun c : Dev nD => iprop((bigSep Finset.univ fun k => iprop(∃ κ : ℕ, cellInv ER (Rd V) κ (kcell (c, k))))
          ∗ (bigSep Finset.univ fun k : Fin 49 => atPos ER (kcell (c, k)) 0 ∅ 0) ∗ (bigSep Finset.univ fun k : Fin 49 => reached ER (kcell (c, k)) 0) ∗ toks c) : sProp 𝕄)
      ⊢ bigSep Finset.univ (G' V) := by
  have hk : (bigSep Finset.univ fun ck : Dev nD × Fin 49 => iprop(∃ κ : ℕ, cellInv ER (Rd V) κ (kcell ck)))
      ⊢ (iprop(∃ κ : Dev nD × Fin 49 → ℕ, bigSep Finset.univ fun ck => cellInv ER (Rd V) (κ ck) (kcell ck)) : sProp 𝕄) :=
    BI.bigSep_exists_pi Finset.univ (fun (ck : Dev nD × Fin 49) (κ : ℕ) => (cellInv ER (Rd V) κ (kcell ck) : sProp 𝕄))
  rw [bigSep_sep', bigSep_sep', bigSep_sep', ← bigSep_univ_prod (fun ck : Dev nD × Fin 49 => iprop(∃ κ : ℕ, cellInv ER (Rd V) κ (kcell ck))),
    ← bigSep_univ_prod (fun ck : Dev nD × Fin 49 => (reached ER (kcell ck) 0 : sProp 𝕄))]
  iintro ⟨HI, Hat, HR, Htok⟩
  ihave HK := hk $$ HI
  icases HK with ⟨%κ, HI⟩
  ihave Hd := (deal_all (F := F)) $$ [Hat Htok]
  · isplitl [Hat]; · iexact Hat
    iexact Htok
  iapply (bigSep_keep (R := recs V) (Φ := fun c => deal (F := F) c))
  isplitr [Hd]
  · unfold recs
    iexists κ
    rw [bigSep_sep']
    isplitl [HI]; · iexact HI
    iexact HR
  iexact Hd

/-- Every device's semaphores and share of the launch, set up at once. -/
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-! ## The launch credit -/

theorem sends_nodup : sends.Nodup := by decide

theorem vC_inj {d d' w w' : Fin 2} {t t' : ℕ} (ht : t < 6) (ht' : t' < 6) {c c' : Dev nD} (h : vC d w t c = vC d' w' t' c') : (d, w, t) = (d', w', t') ∧ c = c' := by
  have hc : c = c' := congrArg (fun g : GSem nD τ sig => g.1.1) h
  have hq : vQ d w t = vQ d' w' t' := by have := congrArg Prod.snd h; injection this
  have hi : ix d w t = ix d' w' t' := by
    have h2 : 30 + ix d w t = 30 + ix d' w' t' := congrArg Fin.val hq
    exact Nat.add_left_cancel h2
  have h1 : d = d' := (ixD_ix d w t ht).symm.trans ((congrArg ixD hi).trans (ixD_ix d' w' t' ht'))
  have h2 : w = w' := (ixW_ix d w t ht).symm.trans ((congrArg ixW hi).trans (ixW_ix d' w' t' ht'))
  have h3 : t = t' := (ixT_ix d w t ht).symm.trans ((congrArg ixT hi).trans (ixT_ix d' w' t' ht'))
  exact ⟨by rw [h1, h2, h3], hc⟩

theorem owe_at (e c : Dev nD) (x : Xf) (hx : x.2.2 < 6) : ∀ l : List Xf, l.Nodup → (∀ y ∈ l, y.2.2 < 6) →
    owe e l (vC x.1 x.2.1 x.2.2 c) () = if x ∈ l ∧ c = dn x.1 e then N else 0
  | [], _, _ => by rw [if_neg (fun h => List.not_mem_nil h.1)]; rfl
  | y :: l, hn, hl => by
    unfold owe
    rw [Pi.add_apply, Finsupp.add_apply, owe_at e c x hx l (List.nodup_cons.mp hn).2 (fun z hz => hl z (List.mem_cons_of_mem _ hz)), tallyAt_apply]
    by_cases hy : x = y
    · subst hy
      rw [if_neg (fun h => (List.nodup_cons.mp hn).1 h.1), Nat.zero_add]
      by_cases hc : c = dn x.1 e
      · rw [if_pos ⟨by rw [hc], rfl⟩, if_pos ⟨List.mem_cons_self, hc⟩]
      · rw [if_neg (fun h => hc (vC_inj hx hx h.1.symm).2.symm), if_neg (fun h => hc h.2)]
    · have h0 : ¬(vC x.1 x.2.1 x.2.2 c = vC y.1 y.2.1 y.2.2 (dn y.1 e) ∧ () = ()) := fun h => hy (vC_inj hx (hl y List.mem_cons_self) h.1).1
      rw [if_neg h0, Nat.add_zero]
      refine if_congr ?_ rfl rfl
      rw [List.mem_cons, or_iff_right hy]

theorem owe_bar (e c : Dev nD) (l : List Xf) : owe e l (barC c) () = 0 :=
  Nat.eq_zero_of_not_pos fun h => by obtain ⟨x, -, hx⟩ := owe_pos h; cases congrArg Prod.snd hx

theorem in_sends (x : Xs) : ((x.1, x.2.1, x.2.2.val) : Xf) ∈ sends := by revert x; decide

theorem bar_eq {a b : Dev nD} : barC a = barC b ↔ a = b := ⟨fun h => congrArg (fun g : GSem nD τ sig => g.1.1) h, fun h => h ▸ rfl⟩
theorem dn_iff (d : Fin 2) (e c : Dev nD) : c = dn d e ↔ e = up d c := ⟨fun h => by rw [h, up_dn], fun h => by rw [h, dn_up]⟩

theorem owed_v (x : Xs) (e c : Dev nD) : O₀ e (vCx x c) () = if e = up x.1 c then N else 0 := by
  unfold O₀ O₁
  rw [Pi.add_apply, Finsupp.add_apply, Pi.add_apply, Finsupp.add_apply, tallyAt_ne_cell (fun h => by cases congrArg Prod.snd h),
    tallyAt_ne_cell (fun h => by cases congrArg Prod.snd h), Finsupp.zero_apply, Nat.add_zero, Nat.add_zero,
    owe_at e c (x.1, x.2.1, x.2.2.val) x.2.2.isLt sends sends_nodup (fun y hy => (sends_lt y hy).1)]
  refine if_congr ?_ rfl rfl
  rw [← dn_iff, and_iff_right (in_sends x)]

theorem owed_bar (e c : Dev nD) : O₀ e (barC c) () = (if e = up 0 c then 1 else 0) + (if e = up 1 c then 1 else 0) := by
  unfold O₀ O₁
  rw [Pi.add_apply, Finsupp.add_apply, Pi.add_apply, Finsupp.add_apply, owe_bar, Nat.zero_add, tallyAt_apply, tallyAt_apply]
  simp only [and_true, bar_eq, dn_iff]

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun e _ => owed_bar e c, Finset.sum_add_distrib,
    Finset.sum_ite_eq' Finset.univ (up 0 c) fun _ => 1, Finset.sum_ite_eq' Finset.univ (up 1 c) fun _ => 1, if_pos (Finset.mem_univ _), if_pos (Finset.mem_univ _)]

theorem launch_v (x : Xs) (c : Dev nD) :
    tallyOn (vCx x c) (launchCredit (Pipeline.owing O₀) 0 (vCx x c)) = (tallyAt (vCx x c) () N : CellTallies nD τ sig Unit) := by
  unfold tallyAt; refine congrArg _ (Finsupp.ext fun u => ?_); cases u
  rw [Pipeline.launchCredit_owing, Finsupp.single_eq_same, Finset.sum_congr rfl fun e _ => owed_v x e c, Finset.sum_ite_eq' Finset.univ (up x.1 c) fun _ => N,
    if_pos (Finset.mem_univ _)]

def vLoc (x : Xs) : SemLoc sig := .dma (vQ x.1 x.2.1 x.2.2.val)
theorem vLoc_inj : Function.Injective vLoc := by
  intro x y h
  have := (vC_inj (c := 0) (c' := 0) x.2.2.isLt y.2.2.isLt (congrArg (Prod.mk ((0 : Dev nD) : Thread nD τ)) h)).1
  injection this with h1 h2; injection h2 with h2 h3
  exact Prod.ext h1 (Prod.ext h2 (Fin.ext h3))

theorem creds (c : Dev nD) :
    (Pipeline.launchCred O₀ c : sProp 𝕄) ⊢ iprop(cred (tallyAt (barC c) () 2) ∗ bigSep Finset.univ fun x : Xs => cred (tallyAt (vCx x c) () N)) := by
  unfold Pipeline.launchCred
  rw [bigSep_univ_at _ (SemLoc.reg barS), launch_bar]
  refine sep_mono_right ?_
  rw [show (fun x : Xs => (cred (tallyAt (vCx x c) () N) : sProp 𝕄)) = fun x => cred (tallyOn (vCx x c) (launchCredit (Pipeline.owing O₀) 0 (vCx x c))) from funext fun x => by rw [launch_v]]
  have hs : Finset.univ.map ⟨vLoc, vLoc_inj⟩ ⊆ Finset.univ.erase (SemLoc.reg barS : SemLoc sig) := fun s hs => by
    obtain ⟨x, -, rfl⟩ := Finset.mem_map.mp hs
    exact Finset.mem_erase.mpr ⟨(fun h => absurd (show SemLoc.dma _ = SemLoc.reg _ from h) (fun h => by cases h)), Finset.mem_univ _⟩
  refine BIBase.Entails.trans (BI.bigSep_subset hs) (Entails.of_eq ?_)
  rw [bigSep_map]; rfl

/-! ## What the kernel's body starts with -/

theorem step_fuel (x : Xs) (c : Dev nD) : iprop(step1 (F := F) x c ∗ cred (tallyAt (vCx x c) () N)) ⊢ fuel1 (F := F) x.1 x.2.1 x.2.2.val c := by
  unfold step1 fuel1
  iintro ⟨⟨H1, H2, H3, H4⟩, H5⟩
  isplitl [H1]; · iexact H1
  isplitl [H2]; · iexact H2
  isplitl [H3]; · iexact H3
  isplitl [H4]; · iexact H4
  iexact H5

theorem fuels (c : Dev nD) : iprop((bigSep Finset.univ fun x : Xs => step1 (F := F) x c) ∗ bigSep Finset.univ fun x : Xs => cred (tallyAt (vCx x c) () N))
    ⊢ (iprop((fuel (F := F) 0 0 0 c ∗ fuel (F := F) 0 1 0 c) ∗ (fuel (F := F) 1 0 0 c ∗ fuel (F := F) 1 1 0 c)) : sProp 𝕄) := by
  have h := lanes (F := F) (fun d w t => fuel1 (F := F) d w t c) [0, 1, 2, 3, 4, 5] (by decide) (by decide)
  rw [← bigSep_sep']
  exact BIBase.Entails.trans (bigSep_mono fun x _ => step_fuel x c) (Entails.of_eq h)

end Cert.Ring

end

end
-- ==== Proof.Run.lean ====
module

public import proofs.«01_k».proof.Proof.Body
public import proofs.«01_k».proof.Proof.Ghost
public import proofs.«01_k».proof.Proof.Gen.KernelIdeal.Points
public import Idealize.ShloMosaic.Lib.Pipeline.CollectiveSegs

/-!
# The kernel runs

The launch: each device's staged arguments, what the body takes and leaves, and from these that every execution ends,
with the arguments as they were, the result at the computed contents, and every semaphore at zero.
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Memory at the start: any contents, all semaphores zero. -/
def s₀ : MemSt nD τ sig (Elt F) := ⟨m, fun _ => 0, ρ⟩

/-- The argument arrays as each device stages them. -/
def args (c : Dev nD) : In F where
  x := (win0_0.blk (0 : Fin 1)).view.read (Elt F) (m ((c : Thread nD τ).loc main_arg0))
  rw := (win0_1.blk (0 : Fin 1)).view.read (Elt F) (m ((c : Thread nD τ).loc main_arg1))
  ix := (win0_2.blk (0 : Fin 1)).view.read (Elt F) (m ((c : Thread nD τ).loc main_arg2))
  ew := (win0_3.blk (0 : Fin 1)).view.read (Elt F) (m ((c : Thread nD τ).loc main_arg3))
  sw := (win0_4.blk (0 : Fin 1)).view.read (Elt F) (m ((c : Thread nD τ).loc main_arg4))

/-- What each device computes by itself, and the whole result. -/
abbrev VV : Dev nD → Fin 2 → Fin 2 → ℕ → PV F := Vc (args m)
abbrev res : FVec F S2048x1024 .f32 := outF (VV m)

/-- The three scratch buffers. -/
def scr (c : Dev nD) : sProp 𝕄 := iprop((∃ f, whole (F := F) c cc0_scratch0 f) ∗ (∃ f, whole (F := F) c cc0_scratch1 f) ∗ ∃ f, whole (F := F) c cc0_scratch2 f)

/-- What the body takes besides the scratch buffers, -/
def start (c : Dev nD) : sProp 𝕄 := iprop(Ctx (VV m)
  ∗ ((fuel (F := F) 0 0 0 c ∗ fuel (F := F) 0 1 0 c) ∗ (fuel (F := F) 1 0 0 c ∗ fuel (F := F) 1 1 0 c))
  ∗ dutyTok ER (barC (dn 1 c)) 0 true ∗ dutyTok ER (barC (dn 0 c)) 0 false ∗ cred (tallyAt (barC c) () 2) ∗ atPos ER (barC c) 0 ∅ 0)
def Φ₀ (c : Dev nD) : sProp 𝕄 := iprop(start m c ∗ scr (F := F) c)
/-- and what it leaves. -/
def Φ₁ (c : Dev nD) : sProp 𝕄 := iprop(scr (F := F) c ∗ semVal (barC c) 0
  ∗ zeros (F := F) 0 0 6 c ∗ zeros (F := F) 0 1 6 c ∗ zeros (F := F) 1 0 6 c ∗ zeros (F := F) 1 1 6 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (args m c).x
    | ⟨1, _⟩ => (args m c).rw
    | ⟨2, _⟩ => (args m c).ix
    | ⟨3, _⟩ => (args m c).ew
    | ⟨4, _⟩ => (args m c).sw
    | ⟨5, _⟩ => res m
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body at its one grid point -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem stg_whole (c : Dev nD) (b : Ref sig .tc) (X : b.ty.Contents (Elt F)) : (stg c b X : sProp 𝕄) ⊢ whole c b X := by
  iintro ⟨%f, %hf, H⟩
  subst hf
  iexact H
theorem whole_stg (c : Dev nD) (b : Ref sig .tc) (X : b.ty.Contents (Elt F)) : (whole c b X : sProp 𝕄) ⊢ stg c b X := by
  iintro H
  iexists X
  isplitr; · ipureintro; rfl
  iexact H

def pre (c : Dev nD) : sProp 𝕄 := iprop(Φ₀ m c ∗ (dats m ρ 0 c).owesAt () t0_0.castSucc
  ∗ (∃ d, stg c cc0_stg0_0 ((dats m ρ 0 c).before (0 : Fin 6) t0_0 d)) ∗ (∃ d, stg c cc0_stg1_0 ((dats m ρ 0 c).before (1 : Fin 6) t0_0 d))
  ∗ (∃ d, stg c cc0_stg2_0 ((dats m ρ 0 c).before (2 : Fin 6) t0_0 d)) ∗ (∃ d, stg c cc0_stg3_0 ((dats m ρ 0 c).before (3 : Fin 6) t0_0 d))
  ∗ (∃ d, stg c cc0_stg4_0 ((dats m ρ 0 c).before (4 : Fin 6) t0_0 d)) ∗ (∃ d, stg c cc0_stg5_0 ((dats m ρ 0 c).before (5 : Fin 6) t0_0 d)))
def post (c : Dev nD) : sProp 𝕄 := iprop(Φ₁ (F := F) c ∗ (dats m ρ 0 c).owesAt () t0_0.succ
  ∗ stg c cc0_stg0_0 (args m c).x ∗ stg c cc0_stg1_0 (args m c).rw ∗ stg c cc0_stg2_0 (args m c).ix ∗ stg c cc0_stg3_0 (args m c).ew
  ∗ stg c cc0_stg4_0 (args m c).sw ∗ stg c cc0_stg5_0 (res m))

/-- The body's one precondition, assembled. -/
def given (c : Dev nD) : sProp 𝕄 := iprop(Ctx (VV m) ∗ ins (args m) c ∗ raw (F := F) c 0 0 ∗ raw (F := F) c 0 1 ∗ raw (F := F) c 0 2 ∗ raw (F := F) c 0 3
  ∗ raw (F := F) c 1 0 ∗ raw (F := F) c 1 1 ∗ raw (F := F) c 1 2 ∗ raw (F := F) c 1 3
  ∗ fuel (F := F) 0 0 0 c ∗ fuel (F := F) 0 1 0 c ∗ fuel (F := F) 1 0 0 c ∗ fuel (F := F) 1 1 0 c ∗ BarPre (F := F) c ∗ OwB (F := F) c ∗ Out (VV m) 16 c)
def left (c : Dev nD) : sProp 𝕄 := iprop(ins (args m) c ∗ Out (VV m) 0 c ∗ semVal (barC c) 0 ∗ Ow (F := F) 24 c
  ∗ Ready (VV m) 0 0 6 c ∗ Ready (VV m) 1 0 6 c ∗ Ready (VV m) 0 1 6 c ∗ Ready (VV m) 1 1 6 c)

theorem take (c : Dev nD) : pre m ρ c ⊢ given m c := by
  unfold pre given Φ₀ start scr BarPre OwB ins
  have ho : (dats m ρ 0 c).owesAt () t0_0.castSucc ⊢ (iprop(∃ W, owes (c : Thread nD τ) (O₀ c) W) : sProp 𝕄) := by
    unfold Dat.owesAt Pipeline.owesWithin
    iintro ⟨%W, -, H⟩
    iexists W
    iexact H
  have h0 (d) : (stg c cc0_stg0_0 ((dats m ρ 0 c).before (0 : Fin 6) t0_0 d) : sProp 𝕄) ⊢ whole c cc0_stg0_0 (args m c).x := by
    unfold Dat.before; rw [if_pos (fetch0_0 t0_0)]; exact stg_whole c _ _
  have h1 (d) : (stg c cc0_stg1_0 ((dats m ρ 0 c).before (1 : Fin 6) t0_0 d) : sProp 𝕄) ⊢ whole c cc0_stg1_0 (args m c).rw := by
    unfold Dat.before; rw [if_pos (fetch0_1 t0_0)]; exact stg_whole c _ _
  have h2 (d) : (stg c cc0_stg2_0 ((dats m ρ 0 c).before (2 : Fin 6) t0_0 d) : sProp 𝕄) ⊢ whole c cc0_stg2_0 (args m c).ix := by
    unfold Dat.before; rw [if_pos (fetch0_2 t0_0)]; exact stg_whole c _ _
  have h3 (d) : (stg c cc0_stg3_0 ((dats m ρ 0 c).before (3 : Fin 6) t0_0 d) : sProp 𝕄) ⊢ whole c cc0_stg3_0 (args m c).ew := by
    unfold Dat.before; rw [if_pos (fetch0_3 t0_0)]; exact stg_whole c _ _
  have h4 (d) : (stg c cc0_stg4_0 ((dats m ρ 0 c).before (4 : Fin 6) t0_0 d) : sProp 𝕄) ⊢ whole c cc0_stg4_0 (args m c).sw := by
    unfold Dat.before; rw [if_pos (fetch0_4 t0_0)]; exact stg_whole c _ _
  have h5 (d) : (stg c cc0_stg5_0 ((dats m ρ 0 c).before (5 : Fin 6) t0_0 d) : sProp 𝕄) ⊢ Out (VV m) 16 c := by
    exact (stg_whole c _ _).trans (out_start (VV m) c _)
  have hb (f) : (whole c cc0_scratch1 f : sProp 𝕄) ⊢ rbE (F := F) c 0 := by unfold rbE; iintro H; iexists f; iexact H
  have hb' (f) : (whole c cc0_scratch2 f : sProp 𝕄) ⊢ rbE (F := F) c 1 := by unfold rbE; iintro H; iexists f; iexact H
  iintro ⟨⟨⟨HC, ⟨⟨F1, F2⟩, F3, F4⟩, T1, T2, Hc, Ha⟩, ⟨%f0, S0⟩, ⟨%f1, S1⟩, ⟨%f2, S2⟩⟩, Ho, ⟨%d0, X0⟩, ⟨%d1, X1⟩, ⟨%d2, X2⟩, ⟨%d3, X3⟩, ⟨%d4, X4⟩, ⟨%d5, X5⟩⟩
  ihave R := (raws_all c f0) $$ S0
  icases R with ⟨R0, R1, R2, R3, R4, R5, R6, R7⟩
  isplitl [HC]; · iexact HC
  isplitl [X0 X1 X2 X3 X4]
  · isplitl [X0]; · iapply (h0 d0); iexact X0
    isplitl [X1]; · iapply (h1 d1); iexact X1
    isplitl [X2]; · iapply (h2 d2); iexact X2
    isplitl [X3]; · iapply (h3 d3); iexact X3
    iapply (h4 d4); iexact X4
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [F1]; · iexact F1
  isplitl [F2]; · iexact F2
  isplitl [F3]; · iexact F3
  isplitl [F4]; · iexact F4
  isplitl [S1 S2 T1 T2 Hc Ha]
  · isplitl [S1]; · iapply (hb f1); iexact S1
    isplitl [S2]; · iapply (hb' f2); iexact S2
    isplitl [T1]; · iexact T1
    isplitl [T2]; · iexact T2
    isplitl [Hc]; · iexact Hc
    iexact Ha
  isplitl [Ho]; · iapply ho; iexact Ho
  iapply (h5 d5); iexact X5

theorem give (c : Dev nD) : left m c ⊢ post m ρ c := by
  unfold left post Φ₁ scr ins Ow
  have ho (W) : (owes (c : Thread nD τ) (owe c (sends.drop 24)) W : sProp 𝕄) ⊢ (dats m ρ 0 c).owesAt () t0_0.succ := by
    unfold Dat.owesAt Pipeline.owesWithin
    iintro H
    iexists W
    isplitr; · ipureintro; exact fun _ _ => Or.inl trivial
    iexact H
  have hb : (rbE (F := F) c 0 : sProp 𝕄) ⊢ iprop(∃ f, whole (F := F) c cc0_scratch1 f) := by unfold rbE; iintro ⟨%f, H⟩; iexists f; iexact H
  have hb' : (rbE (F := F) c 1 : sProp 𝕄) ⊢ iprop(∃ f, whole (F := F) c cc0_scratch2 f) := by unfold rbE; iintro ⟨%f, H⟩; iexists f; iexact H
  iintro ⟨⟨X0, X1, X2, X3, X4⟩, X5, Hb, ⟨%W, Ho⟩, A0, A1, A2, A3⟩
  ihave B0 := (ready_ends (VV m) 0 0 c) $$ A0
  ihave B1 := (ready_ends (VV m) 1 0 c) $$ A1
  ihave B2 := (ready_ends (VV m) 0 1 c) $$ A2
  ihave B3 := (ready_ends (VV m) 1 1 c) $$ A3
  icases B0 with ⟨E0, Z0⟩
  icases B1 with ⟨E1, Z1⟩
  icases B2 with ⟨E2, Z2⟩
  icases B3 with ⟨E3, Z3⟩
  ihave R := (ends_all (F := F) c) $$ [E0 E1 E2 E3]
  · isplitl [E0]; · iexact E0
    isplitl [E2]; · iexact E2
    isplitl [E1]; · iexact E1
    iexact E3
  icases R with ⟨R0, R1, R2⟩
  isplitl [R0 R1 R2 Hb Z0 Z1 Z2 Z3]
  · isplitl [R0 R1 R2]
    · isplitl [R0]; · iexact R0
      isplitl [R1]; · iapply hb; iexact R1
      iapply hb'; iexact R2
    isplitl [Hb]; · iexact Hb
    isplitl [Z0]; · iexact Z0
    isplitl [Z2]; · iexact Z2
    isplitl [Z1]; · iexact Z1
    iexact Z3
  isplitl [Ho]; · iapply (ho W); iexact Ho
  isplitl [X0]; · iapply (whole_stg c cc0_stg0_0 (args m c).x); iexact X0
  isplitl [X1]; · iapply (whole_stg c cc0_stg1_0 (args m c).rw); iexact X1
  isplitl [X2]; · iapply (whole_stg c cc0_stg2_0 (args m c).ix); iexact X2
  isplitl [X3]; · iapply (whole_stg c cc0_stg3_0 (args m c).ew); iexact X3
  isplitl [X4]; · iapply (whole_stg c cc0_stg4_0 (args m c).sw); iexact X4
  iapply (whole_stg c cc0_stg5_0 (res m))
  iapply (out_done (VV m) c)
  iexact X5

theorem body_at (c : Dev nD) : pre m ρ c ⊢ WP c (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) (Memref.whole cc0_scratch1) (Memref.isWhole_whole _)
      (Memref.whole cc0_scratch2) (Memref.isWhole_whole _) cc0_scratch3 cc0_scratch4) (fun _ => post m ρ c) := by
  have h := body (args m) c (Q := fun _ => post m ρ c)
  have ht := take m ρ c
  unfold given at ht
  have hg := give m ρ c
  unfold left at hg
  iintro H
  ihave H' := ht $$ H
  iapply h $$ H'
  iintro H2
  iapply hg
  iexact H2

set_option maxRecDepth 20000 in
theorem body_obligation (c : Dev nD) : BodyObligation (dats (F := F) m ρ 0 c) (defs₀ (F := F)) 𝒱₀ () Set.univ := fun t => by
  rw [fin_N0 t]
  rw [bigSep_W0, bigSep_W0]
  simp only [owns_stg]
  exact body_at m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (VV m) c)
      ⊢ |={Set.univ}=> iprop(start m c ∗ emp) := by
  unfold start G' deal Ctx recs
  iintro ⟨-, Hlev, Hcr, -, HI, ⟨T1, T2, Ha⟩, Hs⟩
  ihave Hc := (creds (F := F) c) $$ Hcr
  icases Hc with ⟨H1, HN⟩
  ihave Hf := (fuels (F := F) c) $$ [Hs HN]
  · isplitl [Hs]; · iexact Hs
    iexact HN
  imodintro
  isplitl
  · isplitl [HI Hlev]
    · isplitl [HI]; · iexact HI
      iexact Hlev
    isplitl [Hf]; · iexact Hf
    isplitl [T1]; · iexact T1
    isplitl [T2]; · iexact T2
    isplitl [H1]; · iexact H1
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scr
  iintro ⟨Hr, Hb, Hz⟩
  isplitl [Hb]; · iexact Hb
  isplitl [Hz]; · iapply (zeros_own (F := F) c); iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The arrays of the windows at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- Every weakly fair execution on the four devices ends without fault, with each window's array at its computed contents
    and all semaphores back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (VV m)) (G' := G' (VV m)) (u₀ := u₀)
    (hu₀ := by
      unfold u₀
      iintro Hu
      ihave H := (ownU_pair _ _) $$ Hu
      icases H with ⟨HP, HX⟩
      imod (fund_ring (VV m)) $$ HX with HG
      imodintro
      isplitl [HP] <;> iassumption)
    (hglob := glob (VV m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem kept_0 (c : Dev nD) : finalA m ρ c (0 : Fin 6) = m ((c : Thread nD τ).loc main_arg0) := (dats (F := F) m ρ 0 c).arrAt_in (0 : Fin 6) rfl _
theorem kept_1 (c : Dev nD) : finalA m ρ c (1 : Fin 6) = m ((c : Thread nD τ).loc main_arg1) := (dats (F := F) m ρ 0 c).arrAt_in (1 : Fin 6) rfl _
theorem kept_2 (c : Dev nD) : finalA m ρ c (2 : Fin 6) = m ((c : Thread nD τ).loc main_arg2) := (dats (F := F) m ρ 0 c).arrAt_in (2 : Fin 6) rfl _
theorem kept_3 (c : Dev nD) : finalA m ρ c (3 : Fin 6) = m ((c : Thread nD τ).loc main_arg3) := (dats (F := F) m ρ 0 c).arrAt_in (3 : Fin 6) rfl _
theorem kept_4 (c : Dev nD) : finalA m ρ c (4 : Fin 6) = m ((c : Thread nD τ).loc main_arg4) := (dats (F := F) m ρ 0 c).arrAt_in (4 : Fin 6) rfl _

/-- The run, in words of the program's own arrays, with the arguments kept. -/
theorem run_kept : θ_run defs (onTc (τ := τ) (main (F := F))) (s₀ m ρ) (fun r => QC m ρ r ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨h.1, fun c => ⟨(h.1 c (0 : Fin 6)).trans (kept_0 m ρ c), (h.1 c (1 : Fin 6)).trans (kept_1 m ρ c),
    (h.1 c (2 : Fin 6)).trans (kept_2 m ρ c), (h.1 c (3 : Fin 6)).trans (kept_3 m ρ c), (h.1 c (4 : Fin 6)).trans (kept_4 m ρ c)⟩, h.2⟩) (run_main m ρ)

end Cert.Ring

end

end
-- ==== Proof.Chunk.lean ====
module

public import proofs.«01_k».proof.Proof.Vals

/-!
# The eight stored chunks in one form

Each chunk of partial sums that a device stores is the same expression in the rows of the tokens that it is for.
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The gate of every token of a chunk: the probability of the expert that its index names, out of the softmax of its scores. -/
def gateV (X : Vec F S512x512 .f32) (IX : Vec F S512x1 .i32) (RW : Vec F S512x32 .f32) : FVec F S512x1 .f32 :=
  let s : FVec F S512x32 .f32 := matmul dot_S512x512_S512x32_S512x32_1_0_0_1_n_n none (shapeCast S512x512 X shapeCasts_S512x512_S512x512) (shapeCast S512x32 RW shapeCasts_S512x32_S512x32) (constant S512x32 .f32 0x00000000#32)
  let t : FVec F S512x32 .f32 := exp (subf s (broadcastTo S512x32 (shapeCast S512x1 (multiReduction .maximumf [1] S512 s 0xFF800000#32 reduces_S512x32_S512 (.inl rfl) rfl : FVec F S512 .f32) shapeCasts_S512_S512x1) broadcasts_S512x1_S512x32))
  let q : FVec F S512x32 .f32 := divf t (broadcastTo S512x32 (shapeCast S512x1 (multiReduction .add [1] S512 t 0x00000000#32 reduces_S512x32_S512 (.inl rfl) rfl : FVec F S512 .f32) shapeCasts_S512_S512x1) broadcasts_S512x1_S512x32)
  let k : FVec F S512x32 .f32 := select (cmpi .eq (broadcastTo S512x32 (shapeCast S512x1 IX shapeCasts_S512x1_S512x1) broadcasts_S512x1_S512x32) (iota .tc S512x32 32 [1] iota_S512x32_d1_w32)) q (broadcast S512x32 (Scalar.ofBits .f32 0x00000000#32))
  shapeCast S512x1 (multiReduction .add [1] S512 k 0x00000000#32 reduces_S512x32_S512 (.inl rfl) rfl : FVec F S512 .f32) shapeCasts_S512_S512x1

/-- What the expert `j` of the device adds to a chunk: the tokens weighted by the gate where their index names it, times its matrix. -/
def termV (o : Fin 2 → ℕ) (h : S512x1024.Slices o S512x512) (p j : BitVec 32) (X : FVec F S512x512 .f32) (IX : IVec S512x1 32) (G : FVec F S512x1 .f32) (E : Vec F S1x512x1024 .f32) : FVec F S512x512 .f32 :=
  matmul dot_S512x512_S512x512_S512x512_1_0_0_1_n_n none (mulf X (broadcastTo S512x512 (select (cmpi .eq IX (broadcast S512x1 (Scalar.addi (Scalar.muli p 8#32) j))) G (broadcast S512x1 (Scalar.ofBits .f32 0x00000000#32))) broadcasts_S512x1_S512x512)) (extractStridedSlice S512x512 o (shapeCast S512x1024 E shapeCasts_S1x512x1024_S512x1024) h) (constant S512x512 .f32 0x00000000#32)

/-- The sum over the device's eight experts, in the kernel's order. -/
def sumV (o : Fin 2 → ℕ) (h : S512x1024.Slices o S512x512) (p : BitVec 32) (X : FVec F S512x512 .f32) (IX : IVec S512x1 32) (G : FVec F S512x1 .f32) (E : Fin 8 → Vec F S1x512x1024 .f32) : FVec F S512x512 .f32 :=
  addf (addf (addf (addf (addf (addf (addf (termV o h p 0#32 X IX G (E 0)) (termV o h p 1#32 X IX G (E 1))) (termV o h p 2#32 X IX G (E 2))) (termV o h p 3#32 X IX G (E 3))) (termV o h p 4#32 X IX G (E 4))) (termV o h p 5#32 X IX G (E 5))) (termV o h p 6#32 X IX G (E 6))) (termV o h p 7#32 X IX G (E 7))

/-- The device's experts, as loaded. -/
def experts (I : Dev nD → In F) (c : Dev nD) : Fin 8 → Vec F S1x512x1024 .f32 :=
  ![l58 I c, l70 I c, l83 I c, l96 I c, l109 I c, l122 I c, l135 I c, l148 I c]

variable (I : Dev nD → In F) (c : Dev nD)

theorem st_0_0_eq : st_0_0 I c = shapeCast S1x512x512 (truncf .bf16 (addf (sumV ![0, 0] slices_S512x1024_o0_0_S512x512 (x2 I c) (shapeCast S512x512 (l17 I c) shapeCasts_S512x512_S512x512) (shapeCast S512x1 (l21 I c) shapeCasts_S512x1_S512x1) (gateV (l17 I c) (l21 I c) (l23 I c)) (experts I c)) (matmul dot_S512x512_S512x512_S512x512_1_0_0_1_n_n none (shapeCast S512x512 (l17 I c) shapeCasts_S512x512_S512x512) (shapeCast S512x512 (l153 I c) shapeCasts_S512x512_S512x512) (constant S512x512 .f32 0x00000000#32))) bitsLt_bf16_f32) shapeCasts_S512x512_S1x512x512 := rfl

theorem st_1_0_eq : st_1_0 I c = shapeCast S1x512x512 (truncf .bf16 (addf (sumV ![0, 512] slices_S512x1024_o0_512_S512x512 (x2 I c) (shapeCast S512x512 (l17 I c) shapeCasts_S512x512_S512x512) (shapeCast S512x1 (l21 I c) shapeCasts_S512x1_S512x1) (gateV (l17 I c) (l21 I c) (l23 I c)) (experts I c)) (matmul dot_S512x512_S512x512_S512x512_1_0_0_1_n_n none (shapeCast S512x512 (l17 I c) shapeCasts_S512x512_S512x512) (shapeCast S512x512 (l307 I c) shapeCasts_S512x512_S512x512) (constant S512x512 .f32 0x00000000#32))) bitsLt_bf16_f32) shapeCasts_S512x512_S1x512x512 := rfl

theorem st_0_1_eq : st_0_1 I c = shapeCast S1x512x512 (truncf .bf16 (sumV ![0, 0] slices_S512x1024_o0_0_S512x512 (x2 I c) (shapeCast S512x512 (l347 I c) shapeCasts_S512x512_S512x512) (shapeCast S512x1 (l351 I c) shapeCasts_S512x1_S512x1) (gateV (l347 I c) (l351 I c) (l353 I c)) (experts I c)) bitsLt_bf16_f32) shapeCasts_S512x512_S1x512x512 := rfl

theorem st_1_1_eq : st_1_1 I c = shapeCast S1x512x512 (truncf .bf16 (sumV ![0, 512] slices_S512x1024_o0_512_S512x512 (x2 I c) (shapeCast S512x512 (l347 I c) shapeCasts_S512x512_S512x512) (shapeCast S512x1 (l351 I c) shapeCasts_S512x1_S512x1) (gateV (l347 I c) (l351 I c) (l353 I c)) (experts I c)) bitsLt_bf16_f32) shapeCasts_S512x512_S1x512x512 := rfl

theorem st_0_2_eq : st_0_2 I c = shapeCast S1x512x512 (truncf .bf16 (sumV ![0, 0] slices_S512x1024_o0_0_S512x512 (x2 I c) (shapeCast S512x512 (l1041 I c) shapeCasts_S512x512_S512x512) (shapeCast S512x1 (l1045 I c) shapeCasts_S512x1_S512x1) (gateV (l1041 I c) (l1045 I c) (l1047 I c)) (experts I c)) bitsLt_bf16_f32) shapeCasts_S512x512_S1x512x512 := rfl

theorem st_1_2_eq : st_1_2 I c = shapeCast S1x512x512 (truncf .bf16 (sumV ![0, 512] slices_S512x1024_o0_512_S512x512 (x2 I c) (shapeCast S512x512 (l1041 I c) shapeCasts_S512x512_S512x512) (shapeCast S512x1 (l1045 I c) shapeCasts_S512x1_S512x1) (gateV (l1041 I c) (l1045 I c) (l1047 I c)) (experts I c)) bitsLt_bf16_f32) shapeCasts_S512x512_S1x512x512 := rfl

theorem st_0_3_eq : st_0_3 I c = shapeCast S1x512x512 (truncf .bf16 (sumV ![0, 0] slices_S512x1024_o0_0_S512x512 (x2 I c) (shapeCast S512x512 (l374 I c) shapeCasts_S512x512_S512x512) (shapeCast S512x1 (l378 I c) shapeCasts_S512x1_S512x1) (gateV (l374 I c) (l378 I c) (l380 I c)) (experts I c)) bitsLt_bf16_f32) shapeCasts_S512x512_S1x512x512 := rfl

theorem st_1_3_eq : st_1_3 I c = shapeCast S1x512x512 (truncf .bf16 (sumV ![0, 512] slices_S512x1024_o0_512_S512x512 (x2 I c) (shapeCast S512x512 (l374 I c) shapeCasts_S512x512_S512x512) (shapeCast S512x1 (l378 I c) shapeCasts_S512x1_S512x1) (gateV (l374 I c) (l378 I c) (l380 I c)) (experts I c)) bitsLt_bf16_f32) shapeCasts_S512x512_S1x512x512 := rfl

end Cert.Ring

end

end
-- ==== Proof.Entry.lean ====
module

public import Idealize.ShloMosaic.Lib.Pointwise

/-!
# The mathematics of one entry

One token and one output column. The reference multiplies the token by the matrix of the expert that its index names and
then by that expert's probability; the devices each sum over their own experts, with the probability folded into the
token where the index names the expert. The two agree when the probability is a real number that is not negative, which it
is when the token and the router are finite.
-/

@[expose] public section

noncomputable section

namespace Cert.Entry

open Idealize.ShloMosaic

/-- The scores of a token. -/
def scores (x : Fin 512 → EReal) (R : Fin 512 → Fin 32 → EReal) (e : Fin 32) : EReal := ∑ d, x d * R d e

/-- The exponentials of the scores less the greatest of them. -/
def weights (s : Fin 32 → EReal) (e : Fin 32) : EReal :=
  Ideal.exp (s e - Finset.fold max (Ideal.ofBits .f32 0xFF800000#32) s Finset.univ)

/-- The probabilities: the softmax of the scores. -/
def probs (s : Fin 32 → EReal) (e : Fin 32) : EReal := Ideal.div (weights s e) (∑ k, weights s k)

/-- A token's gate as the kernel forms it: the sum of the probabilities, each taken only where the index names it. -/
def gate (s : Fin 32 → EReal) (i : BitVec 32) : EReal :=
  ∑ e : Fin 32, Scalar.select (IntOp.cmpi .eq i (BitVec.ofNat 32 e.val)) (probs s e) 0

/-- What expert `e` adds to the entry. -/
def piece (x : Fin 512 → EReal) (i : BitVec 32) (g : EReal) (E : Fin 32 → Fin 512 → EReal) (e : Fin 32) : EReal :=
  ∑ d, Scalar.select (IntOp.cmpi .eq i (BitVec.ofNat 32 e.val)) (x d * g * E e d) 0

theorem select_eq (i j : BitVec 32) (a b : EReal) : Scalar.select (IntOp.cmpi .eq i j) a b = if i = j then a else b := by
  by_cases h : i = j
  · simp [h, Scalar.select, IntOp.cmpi]
  · have hb : (i == j) = false := by simpa using h
    simp [h, hb, Scalar.select, IntOp.cmpi]

theorem word_inj {a b : Fin 32} (h : BitVec.ofNat 32 a.val = BitVec.ofNat 32 b.val) : a = b := by
  revert a b; decide

/-- The gate of an index in range is that expert's probability. -/
theorem gate_of (s : Fin 32 → EReal) (e : Fin 32) : gate s (BitVec.ofNat 32 e.val) = probs s e := by
  unfold gate
  simp only [select_eq]
  rw [Finset.sum_eq_single e (fun b _ hb => if_neg fun h => hb (word_inj h).symm) (fun h => absurd (Finset.mem_univ _) h), if_pos rfl]

/-- An expert that the index does not name adds nothing. -/
theorem piece_other (x : Fin 512 → EReal) {i : BitVec 32} (g : EReal) (E : Fin 32 → Fin 512 → EReal) {e : Fin 32} (h : i ≠ BitVec.ofNat 32 e.val) :
    piece x i g E e = 0 := by
  unfold piece
  simp only [select_eq, if_neg h, Finset.sum_const_zero]

/-- A factor that is real and not negative comes out of a sum. -/
theorem sum_factor {ι : Type} (S : Finset ι) (g : EReal) (h0 : 0 ≤ g) (h1 : g ≠ ⊤) (f : ι → EReal) : ∑ d ∈ S, g * f d = g * ∑ d ∈ S, f d := by
  classical
  induction S using Finset.induction_on with
  | empty => simp
  | insert a S ha ih => rw [Finset.sum_insert ha, Finset.sum_insert ha, ih, EReal.left_distrib_of_nonneg_of_ne_top h0 h1]

theorem piece_self (x : Fin 512 → EReal) (g : EReal) (h0 : 0 ≤ g) (h1 : g ≠ ⊤) (E : Fin 32 → Fin 512 → EReal) (e : Fin 32) :
    piece x (BitVec.ofNat 32 e.val) g E e = g * ∑ d, x d * E e d := by
  unfold piece
  rw [← sum_factor _ g h0 h1]
  refine Finset.sum_congr rfl fun d _ => ?_
  rw [select_eq, if_pos rfl, mul_comm (x d) g, mul_assoc]

/-- The sum over all experts, where the index names one. -/
theorem pieces_known (x : Fin 512 → EReal) (g : EReal) (h0 : 0 ≤ g) (h1 : g ≠ ⊤) (E : Fin 32 → Fin 512 → EReal) (e : Fin 32) :
    ∑ k, piece x (BitVec.ofNat 32 e.val) g E k = g * ∑ d, x d * E e d := by
  rw [Finset.sum_eq_single e (fun b _ hb => piece_other x g E fun h => hb (word_inj h).symm) (fun h => absurd (Finset.mem_univ _) h),
    piece_self x g h0 h1 E e]

/-- The sum over all experts, where the index names none. -/
theorem pieces_unknown (x : Fin 512 → EReal) {i : BitVec 32} (g : EReal) (E : Fin 32 → Fin 512 → EReal) (h : ∀ e : Fin 32, i ≠ BitVec.ofNat 32 e.val) :
    ∑ k, piece x i g E k = 0 :=
  Finset.sum_eq_zero fun e _ => piece_other x g E (h e)

/-! ## The probabilities of finite scores -/

theorem exp_nonneg (x : EReal) : 0 ≤ Ideal.exp x := by
  induction x with
  | bot => exact le_refl _
  | top => exact le_top
  | coe r => exact EReal.coe_nonneg.2 (Real.exp_pos r).le

theorem exp_ne_top {x : EReal} (h : x ≠ ⊤) : Ideal.exp x ≠ ⊤ := by
  induction x with
  | bot => exact EReal.zero_ne_top
  | top => exact absurd rfl h
  | coe r => exact EReal.coe_ne_top _

theorem exp_pos {x : EReal} (h : x ≠ ⊥) : 0 < Ideal.exp x := by
  induction x with
  | bot => exact absurd rfl h
  | top => exact EReal.zero_lt_top
  | coe r => exact EReal.coe_pos.2 (Real.exp_pos r)

theorem real_sum {ι : Type} (S : Finset ι) (f : ι → EReal) (h : ∀ d, f d ≠ ⊤ ∧ f d ≠ ⊥) : (∑ d ∈ S, f d) ≠ ⊤ ∧ (∑ d ∈ S, f d) ≠ ⊥ := by
  classical
  induction S using Finset.induction_on with
  | empty => simp
  | insert a S ha ih =>
    rw [Finset.sum_insert ha]
    lift f a to ℝ using h a with u
    lift ∑ d ∈ S, f d to ℝ using ih with v
    exact ⟨EReal.coe_ne_top (u + v), EReal.coe_ne_bot (u + v)⟩

theorem real_mul {a b : EReal} (ha : a ≠ ⊤ ∧ a ≠ ⊥) (hb : b ≠ ⊤ ∧ b ≠ ⊥) : a * b ≠ ⊤ ∧ a * b ≠ ⊥ := by
  lift a to ℝ using ha
  lift b to ℝ using hb
  exact ⟨EReal.coe_ne_top (a * b), EReal.coe_ne_bot (a * b)⟩

theorem real_scores (x : Fin 512 → EReal) (R : Fin 512 → Fin 32 → EReal) (hx : ∀ d, x d ≠ ⊤ ∧ x d ≠ ⊥) (hR : ∀ d e, R d e ≠ ⊤ ∧ R d e ≠ ⊥) (e : Fin 32) :
    scores x R e ≠ ⊤ ∧ scores x R e ≠ ⊥ := real_sum _ _ fun d => real_mul (hx d) (hR d e)

theorem ofBits_bot : Ideal.ofBits .f32 0xFF800000#32 = ⊥ := by
  simp [Ideal.ofBits, Ideal.ieee]

/-- The greatest of real scores is real. -/
theorem real_top (s : Fin 32 → EReal) (h : ∀ e, s e ≠ ⊤ ∧ s e ≠ ⊥) :
    Finset.fold max (Ideal.ofBits .f32 0xFF800000#32) s Finset.univ ≠ ⊤ ∧ Finset.fold max (Ideal.ofBits .f32 0xFF800000#32) s Finset.univ ≠ ⊥ := by
  rw [ofBits_bot]
  constructor
  · refine ne_of_lt ((Finset.fold_max_lt ⊤).2 ⟨bot_lt_top, fun e _ => lt_top_iff_ne_top.2 (h e).1⟩)
  · refine (ne_of_lt (lt_of_lt_of_le (bot_lt_iff_ne_bot.2 (h 0).2) ((Finset.le_fold_max _).2 (.inr ⟨0, Finset.mem_univ _, le_refl _⟩)))).symm

/-- The probabilities of real scores are real and not negative. -/
theorem probs_real (s : Fin 32 → EReal) (h : ∀ e, s e ≠ ⊤ ∧ s e ≠ ⊥) (e : Fin 32) : 0 ≤ probs s e ∧ probs s e ≠ ⊤ := by
  have hw : ∀ k, 0 < weights s k ∧ weights s k ≠ ⊤ := fun k => by
    unfold weights
    have ht := real_top s h
    have hk := h k
    lift Finset.fold max (Ideal.ofBits .f32 0xFF800000#32) s Finset.univ to ℝ using ht with t
    lift s k to ℝ using hk with u
    exact ⟨exp_pos (EReal.coe_ne_bot (u - t)), exp_ne_top (EReal.coe_ne_top (u - t))⟩
  have hS : 0 < ∑ k, weights s k := lt_of_lt_of_le (hw e).1 (Finset.single_le_sum (f := weights s) (fun k _ => (hw k).1.le) (Finset.mem_univ e))
  have hT := (real_sum Finset.univ (weights s) fun k => ⟨(hw k).2, (lt_trans EReal.bot_lt_zero (hw k).1).ne'⟩)
  unfold probs Ideal.div
  rw [if_neg hS.ne']
  have hwe := hw e
  have hb : weights s e ≠ ⊥ := (lt_trans EReal.bot_lt_zero hwe.1).ne'
  lift ∑ k, weights s k to ℝ using hT with t
  lift weights s e to ℝ using ⟨hwe.2, hb⟩ with u
  rw [← EReal.coe_inv, ← EReal.coe_mul]
  refine ⟨EReal.coe_nonneg.2 (mul_nonneg (EReal.coe_pos.1 hwe.1).le (inv_nonneg.2 (EReal.coe_pos.1 hS).le)), EReal.coe_ne_top _⟩

end Cert.Entry

end

end
-- ==== Proof.Read.lean ====
module

public import proofs.«01_k».proof.Proof.Chunk
public import proofs.«01_k».proof.Proof.Entry
public import Idealize.ShloMosaic.Lib.Pointwise

/-!
# The stored chunks at an index, over the extended reals
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Entry

/-! ## The loads at an index -/

/-- The row of the tokens that row `r` of chunk `q` is. -/
def rowOf (q : Fin 4) (r : Fin 512) : Fin 2048 := ⟨512 * q.val + r.val, by omega⟩
/-- The column of the result that column `k` of half `w` is. -/
def colOf (w : Fin 2) (k : Fin 512) : Fin 1024 := ⟨512 * w.val + k.val, by omega⟩
/-- The number of a device's expert `j` among all. -/
def entOf (c : Dev nD) (j : Fin 8) : Fin 32 := ⟨8 * c.val + j.val, by have := j.isLt; have h : c.val < 4 := c.isLt; omega⟩

theorem rd_x {off : Fin 2 → ℕ} {q : Fin 4} (h : off = ![512 * q.val, 0]) (hi : ∀ a, off a + S512x512.size a ≤ S2048x512.size a) (X : (cc0_stg0_0 : Ref sig .tc).ty.Contents (Elt Ideal)) (r d : Fin 512) :
    (Memref.whole cc0_stg0_0 : Memref sig .tc .vmem S2048x512 .f32).view.readAt (Elt Ideal) (Rect.unit (s := S2048x512) off S512x512.size hi).toLoadRect X (ix2 r d) = X (ix2 (rowOf q r) d) := by
  subst h
  refine congrArg X (funext fun a => Fin.ext ?_)
  fin_cases a
  · show 512 * q.val + 1 * r.val = 512 * q.val + r.val; omega
  · show 0 + 1 * d.val = d.val; omega

theorem rd_ix {off : Fin 2 → ℕ} {q : Fin 4} (h : off = ![512 * q.val, 0]) (hi : ∀ a, off a + S512x1.size a ≤ S2048x1.size a) (X : (cc0_stg2_0 : Ref sig .tc).ty.Contents (Elt Ideal)) (r : Fin 512) (z : Fin 1) :
    (Memref.whole cc0_stg2_0 : Memref sig .tc .vmem S2048x1 .i32).view.readAt (Elt Ideal) (Rect.unit (s := S2048x1) off S512x1.size hi).toLoadRect X (ix2 r z) = X (ix2 (rowOf q r) 0) := by
  subst h
  refine congrArg X (funext fun a => Fin.ext ?_)
  fin_cases a
  · show 512 * q.val + 1 * r.val = 512 * q.val + r.val; omega
  · show 0 + 1 * z.val = 0; omega

theorem rd_rw (hi : ∀ a, (![0, 0] : Fin 2 → ℕ) a + S512x32.size a ≤ S512x32.size a) (X : (cc0_stg1_0 : Ref sig .tc).ty.Contents (Elt Ideal)) (d : Fin 512) (e : Fin 32) :
    (Memref.whole cc0_stg1_0 : Memref sig .tc .vmem S512x32 .f32).view.readAt (Elt Ideal) (Rect.unit (s := S512x32) ![0, 0] S512x32.size hi).toLoadRect X (ix2 d e) = X (ix2 d e) := by
  refine congrArg X (funext fun a => Fin.ext ?_)
  fin_cases a
  · show 0 + 1 * d.val = d.val; omega
  · show 0 + 1 * e.val = e.val; omega

theorem rd_sw {w : Fin 2} {off : Fin 2 → ℕ} (h : off = ![0, 512 * w.val]) (hi : ∀ a, off a + S512x512.size a ≤ S512x1024.size a) (X : (cc0_stg4_0 : Ref sig .tc).ty.Contents (Elt Ideal)) (d k : Fin 512) :
    (Memref.whole cc0_stg4_0 : Memref sig .tc .vmem S512x1024 .f32).view.readAt (Elt Ideal) (Rect.unit (s := S512x1024) off S512x512.size hi).toLoadRect X (ix2 d k) = X (ix2 d (colOf w k)) := by
  subst h
  refine congrArg X (funext fun a => Fin.ext ?_)
  fin_cases a
  · show 0 + 1 * d.val = d.val; omega
  · show 512 * w.val + 1 * k.val = 512 * w.val + k.val; omega

theorem rd_ew {off : Fin 3 → ℕ} {j : Fin 8} (h : off = ![j.val, 0, 0]) (hi : ∀ a, off a + S1x512x1024.size a ≤ S8x512x1024.size a) (X : (cc0_stg3_0 : Ref sig .tc).ty.Contents (Elt Ideal)) (z : Fin 1) (d : Fin 512) (k : Fin 1024) :
    (Memref.whole cc0_stg3_0 : Memref sig .tc .vmem S8x512x1024 .f32).view.readAt (Elt Ideal) (Rect.unit (s := S8x512x1024) off S1x512x1024.size hi).toLoadRect X (ix3 z d k) = X (ix3 j d k) := by
  subst h
  refine congrArg X (funext fun a => Fin.ext ?_)
  fin_cases a
  · show j.val + 1 * z.val = j.val; omega
  · show 0 + 1 * d.val = d.val; omega
  · show 0 + 1 * k.val = k.val; omega

/-! ## The chunk at an index -/

theorem gate_at (X : Vec Ideal S512x512 .f32) (IX : Vec Ideal S512x1 .i32) (RW : Vec Ideal S512x32 .f32) (r : Fin 512) (z : Fin 1) :
    gateV X IX RW (ix2 r z) = gate (scores (fun d => X (ix2 r d)) fun d e => RW (ix2 d e)) (IX (ix2 r 0)) := by
  unfold gateV
  pointwise
  rfl

theorem term_at0 (p j : BitVec 32) (X : FVec Ideal S512x512 .f32) (IX : IVec S512x1 32) (G : FVec Ideal S512x1 .f32) (E : Vec Ideal S1x512x1024 .f32) (r k : Fin 512) :
    termV ![0, 0] slices_S512x1024_o0_0_S512x512 p j X IX G E (ix2 r k)
      = ∑ d, Scalar.select (IntOp.cmpi .eq (IX (ix2 r 0)) (Scalar.addi (Scalar.muli p 8#32) j)) (X (ix2 r d) * G (ix2 r 0) * E (ix3 0 d (colOf 0 k))) 0 := by
  have hk : (⟨k.val, by omega⟩ : Fin 1024) = colOf 0 k := Fin.ext (by show k.val = 512 * 0 + k.val; omega)
  unfold termV
  pointwise
  rw [← hk]

theorem term_at1 (p j : BitVec 32) (X : FVec Ideal S512x512 .f32) (IX : IVec S512x1 32) (G : FVec Ideal S512x1 .f32) (E : Vec Ideal S1x512x1024 .f32) (r k : Fin 512) :
    termV ![0, 512] slices_S512x1024_o0_512_S512x512 p j X IX G E (ix2 r k)
      = ∑ d, Scalar.select (IntOp.cmpi .eq (IX (ix2 r 0)) (Scalar.addi (Scalar.muli p 8#32) j)) (X (ix2 r d) * G (ix2 r 0) * E (ix3 0 d (colOf 1 k))) 0 := by
  unfold termV
  pointwise
  rfl

theorem expert_word (I : Dev nD → In Ideal) (c : Dev nD) (j : Fin 8) : Scalar.addi (Scalar.muli (x2 I c) 8#32) (BitVec.ofNat 32 j.val) = BitVec.ofNat 32 (entOf c j).val := by
  revert c j; unfold x2; decide

theorem experts_at (I : Dev nD → In Ideal) (c : Dev nD) (j : Fin 8) (d : Fin 512) (k : Fin 1024) : experts I c j (ix3 0 d k) = (I c).ew (ix3 j d k) := by
  fin_cases j
  · exact rd_ew (j := 0) rfl _ _ _ _ _
  · exact rd_ew (j := 1) rfl _ _ _ _ _
  · exact rd_ew (j := 2) rfl _ _ _ _ _
  · exact rd_ew (j := 3) rfl _ _ _ _ _
  · exact rd_ew (j := 4) rfl _ _ _ _ _
  · exact rd_ew (j := 5) rfl _ _ _ _ _
  · exact rd_ew (j := 6) rfl _ _ _ _ _
  · exact rd_ew (j := 7) rfl _ _ _ _ _

/-- The five arrays as every device reads them: four whole, the experts by blocks of eight. -/
structure Reads (I : Dev nD → In Ideal) (a0 : FVec Ideal S2048x512 .f32) (a1 : FVec Ideal S512x32 .f32) (a2 : IVec S2048x1 32) (a3 : FVec Ideal ⟨3, ![32, 512, 1024]⟩ .f32) (a4 : FVec Ideal S512x1024 .f32) : Prop where
  x : ∀ c, (I c).x = a0
  rw : ∀ c, (I c).rw = a1
  ix : ∀ c, (I c).ix = a2
  ew : ∀ c j d k, (I c).ew (ix3 j d k) = a3 (ix3 (entOf c j) d k)
  sw : ∀ c, (I c).sw = a4

section At
variable {I : Dev nD → In Ideal} {a0 : FVec Ideal S2048x512 .f32} {a1 : FVec Ideal S512x32 .f32} {a2 : IVec S2048x1 32} {a3 : FVec Ideal ⟨3, ![32, 512, 1024]⟩ .f32} {a4 : FVec Ideal S512x1024 .f32}

/-- What the device's experts add to entry (`n`, `k`) of the result. -/
def devSum (a0 : FVec Ideal S2048x512 .f32) (a1 : FVec Ideal S512x32 .f32) (a2 : IVec S2048x1 32) (a3 : FVec Ideal ⟨3, ![32, 512, 1024]⟩ .f32) (c : Dev nD) (n : Fin 2048) (k : Fin 1024) : EReal :=
  ∑ j : Fin 8, piece (fun d => a0 (ix2 n d)) (a2 (ix2 n 0)) (gate (scores (fun d => a0 (ix2 n d)) fun d e => a1 (ix2 d e)) (a2 (ix2 n 0))) (fun e d => a3 (ix3 e d k)) (entOf c j)
/-- What the shared expert adds. -/
def shared (a0 : FVec Ideal S2048x512 .f32) (a4 : FVec Ideal S512x1024 .f32) (n : Fin 2048) (k : Fin 1024) : EReal := ∑ d, a0 (ix2 n d) * a4 (ix2 d k)

theorem sum_at0 (H : Reads I a0 a1 a2 a3 a4) (c : Dev nD) (X : FVec Ideal S512x512 .f32) (IX : IVec S512x1 32) (G : FVec Ideal S512x1 .f32) (r k : Fin 512) :
    sumV ![0, 0] slices_S512x1024_o0_0_S512x512 (x2 I c) X IX G (experts I c) (ix2 r k)
      = ∑ j : Fin 8, piece (fun d => X (ix2 r d)) (IX (ix2 r 0)) (G (ix2 r 0)) (fun e d => a3 (ix3 e d (colOf 0 k))) (entOf c j) := by
  have h : ∀ j : Fin 8, termV ![0, 0] slices_S512x1024_o0_0_S512x512 (x2 I c) (BitVec.ofNat 32 j.val) X IX G (experts I c j) (ix2 r k)
      = piece (fun d => X (ix2 r d)) (IX (ix2 r 0)) (G (ix2 r 0)) (fun e d => a3 (ix3 e d (colOf 0 k))) (entOf c j) := fun j => by
    rw [term_at0, expert_word]
    simp only [experts_at, H.ew]
    rfl
  rw [Fin.sum_univ_eight, ← h 0, ← h 1, ← h 2, ← h 3, ← h 4, ← h 5, ← h 6, ← h 7]
  rfl

theorem sum_at1 (H : Reads I a0 a1 a2 a3 a4) (c : Dev nD) (X : FVec Ideal S512x512 .f32) (IX : IVec S512x1 32) (G : FVec Ideal S512x1 .f32) (r k : Fin 512) :
    sumV ![0, 512] slices_S512x1024_o0_512_S512x512 (x2 I c) X IX G (experts I c) (ix2 r k)
      = ∑ j : Fin 8, piece (fun d => X (ix2 r d)) (IX (ix2 r 0)) (G (ix2 r 0)) (fun e d => a3 (ix3 e d (colOf 1 k))) (entOf c j) := by
  have h : ∀ j : Fin 8, termV ![0, 512] slices_S512x1024_o0_512_S512x512 (x2 I c) (BitVec.ofNat 32 j.val) X IX G (experts I c j) (ix2 r k)
      = piece (fun d => X (ix2 r d)) (IX (ix2 r 0)) (G (ix2 r 0)) (fun e d => a3 (ix3 e d (colOf 1 k))) (entOf c j) := fun j => by
    rw [term_at1, expert_word]
    simp only [experts_at, H.ew]
    rfl
  rw [Fin.sum_univ_eight, ← h 0, ← h 1, ← h 2, ← h 3, ← h 4, ← h 5, ← h 6, ← h 7]
  rfl

/-- The row offsets of the loads: the chunk `j` steps after the device's own. -/
theorem off1_row (c : Dev nD) : k0_off1 c = ![512 * (cj c 0).val, 0] := by revert c; decide +kernel
theorem off2_row (c : Dev nD) : k0_off2 c = ![512 * (cj c 0).val, 0] := by revert c; decide +kernel
theorem off9_row1 (c : Dev nD) : k0_off9 c 1#32 = ![512 * (cj c 1).val, 0] := by revert c; decide +kernel
theorem off10_row1 (c : Dev nD) : k0_off10 c 1#32 = ![512 * (cj c 1).val, 0] := by revert c; decide +kernel
theorem off9_row2 (c : Dev nD) : k0_off9 c 2#32 = ![512 * (cj c 2).val, 0] := by revert c; decide +kernel
theorem off10_row2 (c : Dev nD) : k0_off10 c 2#32 = ![512 * (cj c 2).val, 0] := by revert c; decide +kernel
theorem off11_row (c : Dev nD) : k0_off11 c = ![512 * (cj c 3).val, 0] := by revert c; decide +kernel
theorem off12_row (c : Dev nD) : k0_off12 c = ![512 * (cj c 3).val, 0] := by revert c; decide +kernel

/-- One half of a chunk at an index, out of what its loads hold. -/
theorem plain_at (H : Reads I a0 a1 a2 a3 a4) (c : Dev nD) (q : Fin 4) (X : Vec Ideal S512x512 .f32) (IX : Vec Ideal S512x1 .i32) (RW : Vec Ideal S512x32 .f32) (r k : Fin 512) (w : Fin 2)
    (hX : ∀ d, X (ix2 r d) = a0 (ix2 (rowOf q r) d)) (hI : IX (ix2 r 0) = a2 (ix2 (rowOf q r) 0)) (hR : ∀ d e, RW (ix2 d e) = a1 (ix2 d e)) :
    ∑ j : Fin 8, piece (fun d => shapeCast S512x512 X shapeCasts_S512x512_S512x512 (ix2 r d)) (shapeCast S512x1 IX shapeCasts_S512x1_S512x1 (ix2 r 0)) (gateV X IX RW (ix2 r 0)) (fun e d => a3 (ix3 e d (colOf w k))) (entOf c j)
      = devSum a0 a1 a2 a3 c (rowOf q r) (colOf w k) := by
  rw [gate_at]
  pointwise
  simp only [hX, hI, hR]
  rfl

theorem cast_at (W : FVec Ideal S512x512 .f32) (r k : Fin 512) : shapeCast S1x512x512 (truncf .bf16 W bitsLt_bf16_f32) shapeCasts_S512x512_S1x512x512 (ix3 0 r k) = W (ix2 r k) := by
  pointwise

theorem shared_at (A X W : FVec Ideal S512x512 .f32) (r k : Fin 512) :
    addf A (matmul dot_S512x512_S512x512_S512x512_1_0_0_1_n_n none (shapeCast S512x512 X shapeCasts_S512x512_S512x512) (shapeCast S512x512 W shapeCasts_S512x512_S512x512) (constant S512x512 .f32 0x00000000#32)) (ix2 r k)
      = A (ix2 r k) + ∑ d, X (ix2 r d) * W (ix2 d k) := by
  pointwise

/-- The stored chunk `j` steps after the device's own: what its experts add to those rows, and the shared expert's part in its own rows. -/
theorem st_at (H : Reads I a0 a1 a2 a3 a4) (c : Dev nD) (w : Fin 2) (j : Fin 4) (r k : Fin 512) :
    stW I c w j.val (ix3 0 r k) = devSum a0 a1 a2 a3 c (rowOf (cj c j.val) r) (colOf w k) + if j = 0 then shared a0 a4 (rowOf (cj c j.val) r) (colOf w k) else 0 := by
  have hx := H.x c
  have hR := H.rw c
  have hi := H.ix c
  have hs := H.sw c
  subst hx hR hi hs
  fin_cases j <;> fin_cases w
  · show st_0_0 I c (ix3 0 r k) = devSum _ _ _ a3 c (rowOf (cj c 0) r) (colOf 0 k) + shared _ _ (rowOf (cj c 0) r) (colOf 0 k)
    rw [st_0_0_eq, cast_at, shared_at, sum_at0 H, plain_at H c (cj c 0) (l17 I c) (l21 I c) (l23 I c) r k 0 (fun d => rd_x (off1_row c) _ _ r d) (rd_ix (off2_row c) _ _ r 0) (fun d e => rd_rw _ _ d e)]
    exact congrArg (_ + ·) (Finset.sum_congr rfl fun d _ => congrArg₂ (· * ·) (rd_x (off1_row c) _ _ r d) (rd_sw (w := 0) rfl _ _ d k))
  · show st_1_0 I c (ix3 0 r k) = devSum _ _ _ a3 c (rowOf (cj c 0) r) (colOf 1 k) + shared _ _ (rowOf (cj c 0) r) (colOf 1 k)
    rw [st_1_0_eq, cast_at, shared_at, sum_at1 H, plain_at H c (cj c 0) (l17 I c) (l21 I c) (l23 I c) r k 1 (fun d => rd_x (off1_row c) _ _ r d) (rd_ix (off2_row c) _ _ r 0) (fun d e => rd_rw _ _ d e)]
    exact congrArg (_ + ·) (Finset.sum_congr rfl fun d _ => congrArg₂ (· * ·) (rd_x (off1_row c) _ _ r d) (rd_sw (w := 1) rfl _ _ d k))
  · show st_0_1 I c (ix3 0 r k) = devSum _ _ _ a3 c (rowOf (cj c 1) r) (colOf 0 k) + 0
    rw [st_0_1_eq, cast_at, sum_at0 H, plain_at H c (cj c 1) (l347 I c) (l351 I c) (l353 I c) r k 0 (fun d => rd_x (off9_row1 c) _ _ r d) (rd_ix (off10_row1 c) _ _ r 0) (fun d e => rd_rw _ _ d e), add_zero]
  · show st_1_1 I c (ix3 0 r k) = devSum _ _ _ a3 c (rowOf (cj c 1) r) (colOf 1 k) + 0
    rw [st_1_1_eq, cast_at, sum_at1 H, plain_at H c (cj c 1) (l347 I c) (l351 I c) (l353 I c) r k 1 (fun d => rd_x (off9_row1 c) _ _ r d) (rd_ix (off10_row1 c) _ _ r 0) (fun d e => rd_rw _ _ d e), add_zero]
  · show st_0_2 I c (ix3 0 r k) = devSum _ _ _ a3 c (rowOf (cj c 2) r) (colOf 0 k) + 0
    rw [st_0_2_eq, cast_at, sum_at0 H, plain_at H c (cj c 2) (l1041 I c) (l1045 I c) (l1047 I c) r k 0 (fun d => rd_x (off9_row2 c) _ _ r d) (rd_ix (off10_row2 c) _ _ r 0) (fun d e => rd_rw _ _ d e), add_zero]
  · show st_1_2 I c (ix3 0 r k) = devSum _ _ _ a3 c (rowOf (cj c 2) r) (colOf 1 k) + 0
    rw [st_1_2_eq, cast_at, sum_at1 H, plain_at H c (cj c 2) (l1041 I c) (l1045 I c) (l1047 I c) r k 1 (fun d => rd_x (off9_row2 c) _ _ r d) (rd_ix (off10_row2 c) _ _ r 0) (fun d e => rd_rw _ _ d e), add_zero]
  · show st_0_3 I c (ix3 0 r k) = devSum _ _ _ a3 c (rowOf (cj c 3) r) (colOf 0 k) + 0
    rw [st_0_3_eq, cast_at, sum_at0 H, plain_at H c (cj c 3) (l374 I c) (l378 I c) (l380 I c) r k 0 (fun d => rd_x (off11_row c) _ _ r d) (rd_ix (off12_row c) _ _ r 0) (fun d e => rd_rw _ _ d e), add_zero]
  · show st_1_3 I c (ix3 0 r k) = devSum _ _ _ a3 c (rowOf (cj c 3) r) (colOf 1 k) + 0
    rw [st_1_3_eq, cast_at, sum_at1 H, plain_at H c (cj c 3) (l374 I c) (l378 I c) (l380 I c) r k 1 (fun d => rd_x (off11_row c) _ _ r d) (rd_ix (off12_row c) _ _ r 0) (fun d e => rd_rw _ _ d e), add_zero]

end At

end Cert.Ring

end

end
-- ==== Proof.Total.lean ====
module

public import proofs.«01_k».proof.Proof.Read

/-!
# The kernel's result at an index

Every entry is what all 32 experts add, and the shared expert's part.
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Entry
section Total
variable {I : Dev nD → In Ideal} {a0 : FVec Ideal S2048x512 .f32} {a1 : FVec Ideal S512x32 .f32} {a2 : IVec S2048x1 32} {a3 : FVec Ideal ⟨3, ![32, 512, 1024]⟩ .f32} {a4 : FVec Ideal S512x1024 .f32}

/-- Row `i` of the upper or lower half of a chunk, counted in the chunk. -/
def inHalf (d : Fin 2) (i : Fin 256) : Fin 512 := ⟨256 * d.val + i.val, by omega⟩

theorem half_at (d : Fin 2) (W : FVec Ideal S1x512x512 .bf16) (i : Fin 256) (k : Fin 512) : half d W (ix2 i k) = W (ix3 0 (inHalf d i) k) :=
  congrArg W (funext fun a => Fin.ext (by fin_cases a <;> rfl))

/-- What device `c` adds when a sum for chunk `q`, `j` chunks after its own, comes by. -/
theorem part_at (H : Reads I a0 a1 a2 a3 a4) (c : Dev nD) (d w : Fin 2) (t : ℕ) (j q : Fin 4) (i : Fin 256) (k : Fin 512) (hj : (if d = 0 then (4 - t) % 4 else t) = j.val) (hq : cj c j.val = q) :
    Vc I c d w t (ix2 i k) = devSum a0 a1 a2 a3 c (rowOf q (inHalf d i)) (colOf w k) + if j = 0 then shared a0 a4 (rowOf q (inHalf d i)) (colOf w k) else 0 := by
  unfold Vc
  rw [hj, half_at, st_at H, hq]

/-- The place of the chunk, among those after a device's own, whose sum ends on the device. -/
def lastOf (d : Fin 2) : Fin 4 := if d = 0 then 1 else 3

theorem ring_order (g : Dev nD → EReal) (d : Fin 2) (c : Dev nD) (s : EReal) :
    g c + (g (up d c) + (g (up d (up d c)) + (g (up d (up d (up d c))) + s))) = ∑ c, g c + s := by
  have e : ∑ c, g c = g 0 + g 1 + g 2 + g 3 := Fin.sum_univ_four g
  rw [e]
  have h : ∀ (d : Fin 2) (c : Dev nD), (c = 0 ∨ c = 1 ∨ c = 2 ∨ c = 3) ∧ up d 0 = (if d = 0 then 3 else 1) ∧ up d 1 = (if d = 0 then 0 else 2) ∧ up d 2 = (if d = 0 then 1 else 3) ∧ up d 3 = (if d = 0 then 2 else 0) := by decide
  obtain ⟨hc, h0, h1, h2, h3⟩ := h d c
  have hd : d = 0 ∨ d = 1 := by revert d; decide
  rcases hd with rfl | rfl <;> simp only [if_true, one_ne_zero, if_false] at h0 h1 h2 h3 <;> rcases hc with rfl | rfl | rfl | rfl <;> simp only [h0, h1, h2, h3] <;> ac_rfl

/-- A finished sum holds what all four devices add, and the shared expert's part once. -/
theorem done_at (H : Reads I a0 a1 a2 a3 a4) (d w : Fin 2) (c : Dev nD) (i : Fin 256) (k : Fin 512) :
    M (Vc I) d w 3 c (ix2 i k) = ∑ c', devSum a0 a1 a2 a3 c' (rowOf (cj c (lastOf d).val) (inHalf d i)) (colOf w k) + shared a0 a4 (rowOf (cj c (lastOf d).val) (inHalf d i)) (colOf w k) := by
  have e : M (Vc I) d w 3 c (ix2 i k) = Vc I c d w 3 (ix2 i k) + (Vc I (up d c) d w 2 (ix2 i k) + (Vc I (up d (up d c)) d w 1 (ix2 i k) + Vc I (up d (up d (up d c))) d w 0 (ix2 i k))) := rfl
  have hq : ∀ (d : Fin 2) (c : Dev nD), cj (up d c) 2 = cj c (lastOf d).val ∧ cj (up d (up d c)) (if d = 0 then 3 else 1 : Fin 4).val = cj c (lastOf d).val ∧ cj (up d (up d (up d c))) 0 = cj c (lastOf d).val := by decide
  obtain ⟨q1, q2, q3⟩ := hq d c
  have hj : ∀ d : Fin 2, (if d = 0 then (4 - 3) % 4 else 3) = (lastOf d).val ∧ (if d = 0 then (4 - 2) % 4 else 2) = 2 ∧ (if d = 0 then (4 - 1) % 4 else 1) = (if d = 0 then 3 else 1 : Fin 4).val ∧ (if d = 0 then (4 - 0) % 4 else 0) = 0
      ∧ lastOf d ≠ 0 ∧ (if d = 0 then 3 else 1 : Fin 4) ≠ 0 := by decide
  obtain ⟨j0, j1, j2, j3, n0, n2⟩ := hj d
  rw [e, part_at H c d w 3 (lastOf d) _ i k j0 rfl, part_at H (up d c) d w 2 2 _ i k j1 q1, part_at H (up d (up d c)) d w 1 _ _ i k j2 q2, part_at H (up d (up d (up d c))) d w 0 0 _ i k j3 q3,
    if_neg n0, if_neg (by decide), if_neg n2, if_pos rfl, add_zero, add_zero, add_zero]
  exact ring_order (fun c' => devSum a0 a1 a2 a3 c' (rowOf (cj c (lastOf d).val) (inHalf d i)) (colOf w k)) d c _

/-- All experts, device by device. -/
theorem all_experts (f : Fin 32 → EReal) : ∑ c : Dev nD, ∑ j : Fin 8, f (entOf c j) = ∑ e, f e := by
  rw [← Finset.sum_product']
  refine Finset.sum_bij (fun p _ => entOf p.1 p.2) (fun _ _ => Finset.mem_univ _) (fun p _ p' _ h => ?_) (fun e _ => ?_) (fun _ _ => rfl)
  · obtain ⟨c, j⟩ := p
    obtain ⟨c', j'⟩ := p'
    have h' : 8 * c.val + j.val = 8 * c'.val + j'.val := congrArg Fin.val h
    exact Prod.ext (Fin.ext (by show c.val = c'.val; omega)) (Fin.ext (by show j.val = j'.val; omega))
  · exact ⟨(⟨e.val / 8, by show _ < 4; omega⟩, ⟨e.val % 8, Nat.mod_lt _ (by decide)⟩), Finset.mem_univ _, Fin.ext (by show 8 * (e.val / 8) + e.val % 8 = e.val; omega)⟩

/-- The kernel's result at an index. -/
theorem out_at (H : Reads I a0 a1 a2 a3 a4) (n : Fin 2048) (k : Fin 1024) :
    outF (Vc I) (ix2 n k)
      = ∑ e, piece (fun d => a0 (ix2 n d)) (a2 (ix2 n 0)) (gate (scores (fun d => a0 (ix2 n d)) fun d e => a1 (ix2 d e)) (a2 (ix2 n 0))) (fun e d => a3 (ix3 e d k)) e + shared a0 a4 n k := by
  have e : outF (Vc I) (ix2 n k) = M (Vc I) ⟨n.val / 256 % 2, Nat.mod_lt _ (by decide)⟩ ⟨k.val / 512, by omega⟩ 3 (fdev ⟨n.val / 256, by omega⟩) (ix2 ⟨n.val % 256, Nat.mod_lt _ (by decide)⟩ ⟨k.val % 512, Nat.mod_lt _ (by decide)⟩) := by
    refine congrArg (M (Vc I) ⟨n.val / 256 % 2, Nat.mod_lt _ (by decide)⟩ ⟨k.val / 512, by omega⟩ 3 (fdev ⟨n.val / 256, by omega⟩)) (funext fun a => ?_)
    fin_cases a <;> rfl
  have hq : ∀ r : Fin 8, (cj (fdev r) (lastOf ⟨r.val % 2, Nat.mod_lt _ (by decide)⟩).val).val = r.val / 2 := by decide
  have hr : rowOf (cj (fdev ⟨n.val / 256, by omega⟩) (lastOf ⟨n.val / 256 % 2, Nat.mod_lt _ (by decide)⟩).val) (inHalf ⟨n.val / 256 % 2, Nat.mod_lt _ (by decide)⟩ ⟨n.val % 256, Nat.mod_lt _ (by decide)⟩) = n := by
    have := hq ⟨n.val / 256, by omega⟩
    refine Fin.ext ?_
    show 512 * (cj (fdev ⟨n.val / 256, by omega⟩) (lastOf ⟨n.val / 256 % 2, Nat.mod_lt _ (by decide)⟩).val).val + (256 * (n.val / 256 % 2) + n.val % 256) = n.val
    rw [this]
    show 512 * (n.val / 256 / 2) + (256 * (n.val / 256 % 2) + n.val % 256) = n.val
    omega
  have hk : colOf ⟨k.val / 512, by omega⟩ ⟨k.val % 512, Nat.mod_lt _ (by decide)⟩ = k := Fin.ext (by show 512 * (k.val / 512) + k.val % 512 = k.val; omega)
  rw [e, done_at H, hr, hk]
  exact congrArg (· + _) (all_experts fun e => piece (fun d => a0 (ix2 n d)) (a2 (ix2 n 0)) (gate (scores (fun d => a0 (ix2 n d)) fun d e => a1 (ix2 d e)) (a2 (ix2 n 0))) (fun e d => a3 (ix3 e d k)) e)

end Total

end Cert.Ring

end

end
-- ==== Proof.RefVal.lean ====
module

public import proofs.«01_k».proof.Proof.Gen.ReferenceIdeal.Run
public import proofs.«01_k».proof.Proof.Entry
public import Idealize.ShloMosaic.Lib.Pointwise

/-!
# The reference's result at an index
-/

@[expose] public section

noncomputable section

namespace Cert.RefVal

open Cert.ReferenceIdeal Cert.ReferenceIdeal.Gen
open Idealize.ShloMosaic
open Cert.Entry

abbrev gP := gather_S2048x32_S2048x1x1_S2048x1_n_1_0_0_1_2_11
abbrev gE := gather_S32x512x1024_S2048x1_S2048x512x1024_12_0_n_n_0_1_15121024

theorem word_toInt (e : Fin 32) : (BitVec.ofNat 32 e.val).toInt.toNat = e.val := by revert e; decide

theorem gP_at {α : Type} (x : S2048x32.Idx → α) (I : IVec S2048x1x1 32) (n : Fin 2048) (e : Fin 32) (h : I (ix3 n 0 0) = BitVec.ofNat 32 e.val) :
    Host.gather gP x I (ix2 n 0) = x (ix2 n e) := by
  unfold Host.gather
  refine congrArg x (funext fun a => Fin.ext ?_)
  fin_cases a
  · show gP.start (ix2 n 0) I 0 + gP.batchCoord (ix2 n 0) 0 + gP.offCoord (ix2 n 0) 0 = n.val
    rw [gP.start_batching _ _ _ (by decide), gP.offCoord_eq_zero _ _ (by decide)]
    have h0 : gP.batchCoord (ix2 n 0) 0 = n.val := rfl
    omega
  · show gP.start (ix2 n 0) I 1 + gP.batchCoord (ix2 n 0) 1 + gP.offCoord (ix2 n 0) 1 = e.val
    rw [gP.batchCoord_eq_zero _ _ (by decide), gP.offCoord_eq_zero _ _ (by decide)]
    have hi : gP.siIdx (ix2 n 0) ⟨0, by decide⟩ = ix3 n 0 0 := by funext b; fin_cases b <;> rfl
    have hs : gP.start (ix2 n 0) I 1 = min (I (gP.siIdx (ix2 n 0) ⟨0, by decide⟩)).toInt.toNat 31 := rfl
    rw [hs, hi, h, word_toInt]
    have := e.isLt
    omega

theorem gE_at {α : Type} (x : S32x512x1024.Idx → α) (I : IVec S2048x1 32) (n : Fin 2048) (d : Fin 512) (k : Fin 1024) (e : Fin 32) (h : I (ix2 n 0) = BitVec.ofNat 32 e.val) :
    Host.gather gE x I (ix3 n d k) = x (ix3 e d k) := by
  unfold Host.gather
  refine congrArg x (funext fun a => Fin.ext ?_)
  fin_cases a
  · show gE.start (ix3 n d k) I 0 + gE.batchCoord (ix3 n d k) 0 + gE.offCoord (ix3 n d k) 0 = e.val
    rw [gE.batchCoord_eq_zero _ _ (by decide), gE.offCoord_eq_zero _ _ (by decide)]
    have hi : gE.siIdx (ix3 n d k) ⟨0, by decide⟩ = ix2 n 0 := by funext b; fin_cases b <;> rfl
    have hs : gE.start (ix3 n d k) I 0 = min (I (gE.siIdx (ix3 n d k) ⟨0, by decide⟩)).toInt.toNat 31 := rfl
    rw [hs, hi, h, word_toInt]
    have := e.isLt
    omega
  · show gE.start (ix3 n d k) I 1 + gE.batchCoord (ix3 n d k) 1 + gE.offCoord (ix3 n d k) 1 = d.val
    have h0 : gE.start (ix3 n d k) I 1 = 0 := rfl
    have h1 : gE.offCoord (ix3 n d k) 1 = d.val := rfl
    rw [gE.batchCoord_eq_zero _ _ (by decide), h0, h1]; omega
  · show gE.start (ix3 n d k) I 2 + gE.batchCoord (ix3 n d k) 2 + gE.offCoord (ix3 n d k) 2 = k.val
    have h0 : gE.start (ix3 n d k) I 2 = 0 := rfl
    have h1 : gE.offCoord (ix3 n d k) 2 = k.val := rfl
    rw [gE.batchCoord_eq_zero _ _ (by decide), h0, h1]; omega

/-- What the reference computes, of its five arguments. -/
def refV (a0 : FVec Ideal S2048x512 .f32) (a1 : FVec Ideal S512x32 .f32) (a2 : IVec S2048x1 32) (a3 : FVec Ideal S32x512x1024 .f32) (a4 : FVec Ideal S512x1024 .f32) : FVec Ideal S2048x1024 .f32 :=
  addf (Host.dotGeneral dot_S2048x512_S512x1024_S2048x1024_1_0_0_1_n_n none a0 a4) (select (broadcastInDim S2048x1024 ![0, 1] bcast_S2048x1_S2048x1024_0_1 (andi (cmpi .sge a2 (broadcastInDim S2048x1 ![] bcast_S_S2048x1 (constantI S_ 32 0#32))) (cmpi .slt a2 (broadcastInDim S2048x1 ![] bcast_S_S2048x1 (constantI S_ 32 32#32))))) (mulf (broadcastInDim S2048x1024 ![0, 1] bcast_S2048x1_S2048x1024_0_1 (Host.gather gather_S2048x32_S2048x1x1_S2048x1_n_1_0_0_1_2_11 (Host.divf (Host.exp (subf (Host.dotGeneral dot_S2048x512_S512x32_S2048x32_1_0_0_1_n_n none a0 a1) (broadcastInDim S2048x32 ![0, 1] bcast_S2048x1_S2048x32_0_1 (broadcastInDim S2048x1 ![0] bcast_S2048_S2048x1_0 (Host.reduce FloatOps.maximumf (Host.dotGeneral dot_S2048x512_S512x32_S2048x32_1_0_0_1_n_n none a0 a1) (constant S_ .f32 0xFF800000#32) reducesTo_S2048x32_S2048_d1 h_S_))))) (broadcastInDim S2048x32 ![0, 1] bcast_S2048x1_S2048x32_0_1 (broadcastInDim S2048x1 ![0] bcast_S2048_S2048x1_0 (Host.reduceAdd (Host.exp (subf (Host.dotGeneral dot_S2048x512_S512x32_S2048x32_1_0_0_1_n_n none a0 a1) (broadcastInDim S2048x32 ![0, 1] bcast_S2048x1_S2048x32_0_1 (broadcastInDim S2048x1 ![0] bcast_S2048_S2048x1_0 (Host.reduce FloatOps.maximumf (Host.dotGeneral dot_S2048x512_S512x32_S2048x32_1_0_0_1_n_n none a0 a1) (constant S_ .f32 0xFF800000#32) reducesTo_S2048x32_S2048_d1 h_S_))))) (constant S_ .f32 0x00000000#32) reducesTo_S2048x32_S2048_d1 h_S_)))) (shapeCast _ (select (cmpi .slt a2 (broadcastInDim S2048x1 ![] bcast_S_S2048x1 (constantI S_ 32 0#32))) (addi a2 (broadcastInDim S2048x1 ![] bcast_S_S2048x1 (constantI S_ 32 32#32))) a2) shapeCasts_S2048x1_S2048x1x1))) (Host.dotGeneral dot_S2048x512_S2048x512x1024_S2048x1024_1_1_n_2_0_0 none a0 (Host.gather gather_S32x512x1024_S2048x1_S2048x512x1024_12_0_n_n_0_1_15121024 a3 (broadcastInDim S2048x1 ![0] bcast_S2048_S2048x1_0 (select (cmpi .slt (shapeCast _ a2 shapeCasts_S2048x1_S2048) (broadcastInDim S2048 ![] bcast_S_S2048 (constantI S_ 32 0#32))) (addi (shapeCast _ a2 shapeCasts_S2048x1_S2048) (broadcastInDim S2048 ![] bcast_S_S2048 (constantI S_ 32 32#32))) (shapeCast _ a2 shapeCasts_S2048x1_S2048)))))) (broadcastInDim S2048x1024 ![] bcast_S_S2048x1024 (id (constant S_ .f32 0x00000000#32))))

/-- An index that names an expert is in range; -/
theorem known_word : ∀ e : Fin 32, IntOp.cmpi .sge (BitVec.ofNat 32 e.val) 0#32 = 1#1 ∧ IntOp.cmpi .slt (BitVec.ofNat 32 e.val) 32#32 = 1#1 ∧ IntOp.cmpi .slt (BitVec.ofNat 32 e.val) 0#32 = 0#1 := by decide
/-- one that names none is not. -/
theorem unknown_word (i : BitVec 32) (h : ∀ e : Fin 32, i ≠ BitVec.ofNat 32 e.val) : Scalar.andi (IntOp.cmpi .sge i 0#32) (IntOp.cmpi .slt i 32#32) = 0#1 := by
  by_contra hne
  have h1 : ∀ b : BitVec 1, b ≠ 0#1 → b = 1#1 := by decide
  have hm : IntOp.andi (IntOp.cmpi .sge i 0#32) (IntOp.cmpi .slt i 32#32) = 1#1 := h1 _ hne
  have hs : ∀ a b : BitVec 1, IntOp.andi a b = 1#1 → a = 1#1 ∧ b = 1#1 := by decide
  obtain ⟨ha, hb⟩ := hs _ _ hm
  have ha' : (0 : ℤ) ≤ i.toInt := IntOp.cmpi_sge.1 ha
  have hb' : i.toInt < 32 := IntOp.cmpi_slt.1 hb
  have hc := BitVec.toInt_eq_toNat_cond i
  have hw := i.isLt
  have hl : i.toNat < 32 := by split at hc <;> omega
  exact h ⟨i.toNat, hl⟩ (BitVec.eq_of_toNat_eq (by rw [BitVec.toNat_ofNat]; exact (Nat.mod_eq_of_lt hw).symm))

section At
variable (a0 : FVec Ideal S2048x512 .f32) (a1 : FVec Ideal S512x32 .f32) (a2 : IVec S2048x1 32) (a3 : FVec Ideal S32x512x1024 .f32) (a4 : FVec Ideal S512x1024 .f32) (n : Fin 2048) (h : Fin 1024)

theorem ref_known (e : Fin 32) (hi : a2 (ix2 n 0) = BitVec.ofNat 32 e.val) :
    refV a0 a1 a2 a3 a4 (ix2 n h) = ∑ d, a0 (ix2 n d) * a4 (ix2 d h) + probs (scores (fun d => a0 (ix2 n d)) fun d e => a1 (ix2 d e)) e * ∑ d, a0 (ix2 n d) * a3 (ix3 e d h) := by
  unfold refV
  pointwise
  rw [gP_at _ _ n e (by pointwise; rw [hi, (known_word e).2.2]; rfl)]
  have hE : ∀ I : IVec S2048x1 32, I (ix2 n 0) = BitVec.ofNat 32 e.val → ∑ d, a0 (ix2 n d) * Host.gather gE a3 I (ix3 n d h) = ∑ d, a0 (ix2 n d) * a3 (ix3 e d h) := fun I hI =>
    Finset.sum_congr rfl fun d _ => by rw [gE_at _ I n d h e hI]
  rw [hE _ (by pointwise; rw [hi, (known_word e).2.2]; rfl), hi, (known_word e).1, (known_word e).2.1]
  pointwise
  rfl

theorem ref_unknown (hi : ∀ e : Fin 32, a2 (ix2 n 0) ≠ BitVec.ofNat 32 e.val) :
    refV a0 a1 a2 a3 a4 (ix2 n h) = ∑ d, a0 (ix2 n d) * a4 (ix2 d h) := by
  unfold refV
  pointwise
  rw [show IntOp.andi (IntOp.cmpi .sge (a2 (ix2 n 0)) 0#32) (IntOp.cmpi .slt (a2 (ix2 n 0)) 32#32) = 0#1 from unknown_word _ hi]
  refine Eq.trans (congrArg (_ + ·) (?_ : _ = (0 : EReal))) (add_zero _)
  show (constant S_ .f32 0#32 : FVec Ideal S_ .f32) ix0 = 0
  pointwise
end At

end Cert.RefVal

end

end
-- ==== Proof.Value.lean ====
module

public import proofs.«01_k».proof.Defs
public import proofs.«01_k».proof.Proof.Run
public import proofs.«01_k».proof.Proof.Total
public import proofs.«01_k».proof.Proof.RefVal
public import Idealize.ShloMosaic.Lib.ReduceAll
public import Idealize.ShloMosaic.Lib.Layout

/-!
# The kernel computes what the reference computes

`sides_agree` is the equation of the two results at one index, from finite tokens and a finite router; `result_eq` says
that every device's result array ends as the ring's total; `algebraic` joins the two runs.
-/

@[expose] public section

noncomputable section

namespace Cert.Value

open Cert.KernelIdeal Cert.KernelIdeal.Gen
open Idealize.ShloMosaic Idealize.ShloMosaic.TcCoe Idealize.SL.Sem
open Cert.Ring Cert.Entry

theorem facts_kernel : Cert.Pre_finite_scores_inputs_KernelIdeal.Facts := by
  constructor <;> decide
theorem facts_reference : Cert.Pre_finite_scores_inputs_ReferenceIdeal.Facts := by
  constructor <;> decide

/-! ## The precondition -/

/-- A value whose absolute value is below infinity is real. -/
theorem real_of_abs {x : EReal} (h : max x (-x) < ⊤) : x ≠ ⊤ ∧ x ≠ ⊥ := by
  constructor
  · rintro rfl; exact absurd h (by simp)
  · rintro rfl; exact absurd h (by simp)

theorem ofBits_top : Ideal.ofBits .f32 0x7F800000#32 = ⊤ := by
  simp [Ideal.ofBits, Ideal.ieee]

theorem real_of_bit {x : EReal} (h : Ideal.cmp .olt (max x (-x)) (Ideal.ofBits .f32 0x7F800000#32) = 1#1) : x ≠ ⊤ ∧ x ≠ ⊥ := by
  rw [ofBits_top] at h
  have hb : ∀ b : Bool, BitVec.ofBool b = 1#1 → b = true := by decide
  exact real_of_abs (of_decide_eq_true (hb _ h))

theorem pre_reads (a0 : FVec Ideal S2048x512 .f32) (a1 : FVec Ideal S512x32 .f32) (a2 : IVec S2048x1 32) (a3 : FVec Ideal S8x512x1024 .f32) (a4 : FVec Ideal S512x1024 .f32)
    (h : @Cert.Pre_finite_scores_inputs_KernelIdeal.fn facts_kernel Ideal _ a0 a1 a2 a3 a4 = fun _ => 1#1) : (∀ i, a0 i ≠ ⊤ ∧ a0 i ≠ ⊥) ∧ ∀ i, a1 i ≠ ⊤ ∧ a1 i ≠ ⊥ := by
  have hb : ∀ a b : BitVec 1, IntOp.andi a b = 1#1 → a = 1#1 ∧ b = 1#1 := by decide
  obtain ⟨h0, h1⟩ := hb _ _ (congrFun h ix0)
  haveI : Subsingleton Cert.Pre_finite_scores_inputs_KernelIdeal.S_.Idx := ⟨fun x y => funext fun a => a.elim0⟩
  constructor
  · intro i
    have e := Host.reduce_andi_all _ _ _ _ ix0 h0 i
    exact real_of_bit e
  · intro i
    have e := Host.reduce_andi_all _ _ _ _ ix0 h1 i
    exact real_of_bit e

/-! ## One entry of both results -/

theorem sides_agree {I : Dev nD → In Ideal} {a0 : FVec Ideal S2048x512 .f32} {a1 : FVec Ideal S512x32 .f32} {a2 : IVec S2048x1 32} {a3 : FVec Ideal ⟨3, ![32, 512, 1024]⟩ .f32} {a4 : FVec Ideal S512x1024 .f32}
    (H : Reads I a0 a1 a2 a3 a4) (h0 : ∀ i, a0 i ≠ ⊤ ∧ a0 i ≠ ⊥) (h1 : ∀ i, a1 i ≠ ⊤ ∧ a1 i ≠ ⊥) (n : Fin 2048) (k : Fin 1024) :
    outF (Vc I) (ix2 n k) = Cert.RefVal.refV a0 a1 a2 a3 a4 (ix2 n k) := by
  rw [out_at H]
  by_cases hi : ∃ e : Fin 32, a2 (ix2 n 0) = BitVec.ofNat 32 e.val
  · obtain ⟨e, he⟩ := hi
    obtain ⟨p0, p1⟩ := probs_real _ (real_scores (fun d => a0 (ix2 n d)) (fun d e => a1 (ix2 d e)) (fun d => h0 _) fun d e => h1 _) e
    rw [Cert.RefVal.ref_known a0 a1 a2 a3 a4 n k e he, he, gate_of, pieces_known _ _ p0 p1, add_comm]
    rfl
  · have hn : ∀ e : Fin 32, a2 (ix2 n 0) ≠ BitVec.ofNat 32 e.val := fun e he => hi ⟨e, he⟩
    rw [Cert.RefVal.ref_unknown a0 a1 a2 a3 a4 n k hn, pieces_unknown _ _ _ hn, zero_add]
    rfl

/-! ## The arrays of the run -/

/-- Each argument's window is the whole array. -/
theorem whole_0 (f : main_arg0.ty.Contents (Elt Ideal)) : (win0_0.blk (0 : Fin 1)).view.read (Elt Ideal) f = f :=
  have hz : (fun a => (win0_0.index (0 : Fin 1)) a * main_arg0.ty.shape.size a) = fun _ => 0 := funext fun a => by fin_cases a <;> decide
  Memref.read_access_unit_zero (Elt Ideal) main_arg0 hz (fun a => by fin_cases a <;> decide) f
theorem whole_1 (f : main_arg1.ty.Contents (Elt Ideal)) : (win0_1.blk (0 : Fin 1)).view.read (Elt Ideal) f = f :=
  have hz : (fun a => (win0_1.index (0 : Fin 1)) a * main_arg1.ty.shape.size a) = fun _ => 0 := funext fun a => by fin_cases a <;> decide
  Memref.read_access_unit_zero (Elt Ideal) main_arg1 hz (fun a => by fin_cases a <;> decide) f
theorem whole_2 (f : main_arg2.ty.Contents (Elt Ideal)) : (win0_2.blk (0 : Fin 1)).view.read (Elt Ideal) f = f :=
  have hz : (fun a => (win0_2.index (0 : Fin 1)) a * main_arg2.ty.shape.size a) = fun _ => 0 := funext fun a => by fin_cases a <;> decide
  Memref.read_access_unit_zero (Elt Ideal) main_arg2 hz (fun a => by fin_cases a <;> decide) f
theorem whole_3 (f : main_arg3.ty.Contents (Elt Ideal)) : (win0_3.blk (0 : Fin 1)).view.read (Elt Ideal) f = f :=
  have hz : (fun a => (win0_3.index (0 : Fin 1)) a * main_arg3.ty.shape.size a) = fun _ => 0 := funext fun a => by fin_cases a <;> decide
  Memref.read_access_unit_zero (Elt Ideal) main_arg3 hz (fun a => by fin_cases a <;> decide) f
theorem whole_4 (f : main_arg4.ty.Contents (Elt Ideal)) : (win0_4.blk (0 : Fin 1)).view.read (Elt Ideal) f = f :=
  have hz : (fun a => (win0_4.index (0 : Fin 1)) a * main_arg4.ty.shape.size a) = fun _ => 0 := funext fun a => by fin_cases a <;> decide
  Memref.read_access_unit_zero (Elt Ideal) main_arg4 hz (fun a => by fin_cases a <;> decide) f

section Arrays
variable (m : (ℓ : Loc nD τ sig) → Buf (Elt Ideal) ℓ) (ρ : Dev nD → PrngReg)

theorem result_eq (c : Dev nD) : finalA m ρ c (5 : Fin 6) = res m := by
  have hz : (fun a => (win0_5.index (0 : Fin 1)) a * main_v1.ty.shape.size a) = fun _ => 0 := funext fun a => by fin_cases a <;> decide
  have ho : (win0_5.blk (0 : Fin 1)).view.read (Elt Ideal) (finalA m ρ c (5 : Fin 6)) = res m := by
    unfold finalA
    rw [show cfg0.N = ((0 : Fin 1) : Fin cfg0.N).val + 1 from rfl, (dats m ρ 0 c).arrAt_succ (5 : Fin 6) (0 : Fin 1), show (cfg0.win (5 : Fin 6)).flush (0 : Fin 1) = true from by decide, if_pos rfl]
    exact View.read_write_univ _ _
  exact (Memref.read_access_unit_zero (Elt Ideal) main_v1 hz (fun a => by fin_cases a <;> decide) _).symm.trans ho

theorem reads (a0 : FVec Ideal S2048x512 .f32) (a1 : FVec Ideal S512x32 .f32) (a2 : IVec S2048x1 32) (a3 : FVec Ideal ⟨3, ![32, 512, 1024]⟩ .f32) (a4 : FVec Ideal S512x1024 .f32)
    (h : ∀ c : Dev nD, m ((c.tc : Thread nD τ).loc main_arg0) = a0 ∧ m ((c.tc : Thread nD τ).loc main_arg1) = a1 ∧ m ((c.tc : Thread nD τ).loc main_arg2) = a2
      ∧ m ((c.tc : Thread nD τ).loc main_arg3) = Layout.block ⟨3, ![8, 512, 1024]⟩ ⟨3, ![32, 512, 1024]⟩ 0 4 c a3 ∧ m ((c.tc : Thread nD τ).loc main_arg4) = a4) :
    Reads (args m) a0 a1 a2 a3 a4 where
  x c := (whole_0 _).trans (h c).1
  rw c := (whole_1 _).trans (h c).2.1
  ix c := (whole_2 _).trans (h c).2.2.1
  ew c j d k := by
    have e : (args m c).ew = Layout.block ⟨3, ![8, 512, 1024]⟩ ⟨3, ![32, 512, 1024]⟩ 0 4 c a3 :=
      (whole_3 _).trans (h c).2.2.2.1
    rw [e, Layout.block_apply]
    refine congrArg a3 (funext fun b => Fin.ext ?_)
    rw [Layout.Tiles.idx_val]
    fin_cases b
    · show c.val * 8 + j.val = 8 * c.val + j.val; omega
    · rfl
    · rfl
  sw c := (whole_4 _).trans (h c).2.2.2.2

end Arrays

/-! ## The claim -/

theorem algebraic : Cert.algebraic_KernelIdeal_ReferenceIdeal_pre_finite_scores_inputs_KernelIdeal
    (hKernelIdeal := Cert.KernelIdeal.Gen.facts) (hReferenceIdeal := Cert.ReferenceIdeal.Gen.facts) (hPre_finite_scores_inputs_KernelIdeal := facts_kernel) := by
  intro m g m' g' hp hm
  have H := reads m _ _ _ _ _ hm
  have hf := pre_reads _ _ _ _ _ (hp 0)
  rw [(hm 0).1, (hm 0).2.1] at hf
  have he : res m = Cert.RefVal.refV _ _ _ _ _ := funext fun i => by
    rw [eq_ix2 i]
    exact sides_agree H hf.1 hf.2 (i 0) (i 1)
  refine ⟨Cert.RefVal.refV _ _ _ _ _, (θ_run Cert.KernelIdeal.defs _ _).mono (fun r h c => ⟨((h.1 c (5 : Fin 6)).trans (result_eq m g c)).trans he, h.2.1 c⟩) (run_kept (F := Ideal) m g),
    (θ_run Cert.ReferenceIdeal.defs _ _).mono (fun r h => h 0) (Cert.ReferenceIdeal.Value.run (F := Ideal) m' g')⟩

end Cert.Value

end

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

/-!
# The claims

The kernel's run is proved once, for floats of any kind (Proof/Run.lean). The program as printed and its idealization are
the same text, so both frames are that run, read at machine floats and at exact reals. The values are joined in
Proof/Value.lean: what the four devices' partial sums add up to is what the reference computes.
-/

@[expose] public section

noncomputable section

namespace Cert.Proof

open Idealize.ShloMosaic Idealize.SL.Sem

/-- The two texts have the same body, -/
theorem same_body : @Cert.Kernel.defs₀ Bits _ _ = @Cert.KernelIdeal.defs₀ Bits _ _ :=
  congrArg (Defs.onTc (nD := Cert.KernelIdeal.nD) (τ := Cert.KernelIdeal.τ) (sig := Cert.KernelIdeal.sig) (Λ := Cert.KernelIdeal.Λ₀)) (funext fun x => funext fun y => by
    rcases x with ⟨_ | n, h⟩
    · rcases y with ⟨t, s⟩
      rfl
    · omega)
/-- and so the same functions. -/
theorem same_defs : Cert.Kernel.defs (F := Bits) = Cert.KernelIdeal.defs (F := Bits) :=
  congrArg (Pipeline.defs (Cert.KernelIdeal.pcfgs (F := Bits))) same_body

theorem frame_kernel : Cert.quiescent_Kernel := fun m ρ _ => by
  rw [same_defs]
  exact (θ_run (Cert.KernelIdeal.defs (F := Bits)) _ _).mono (fun _ h => h.2) (Cert.Ring.run_kept (F := Bits) m ρ)

theorem frame_ideal : Cert.quiescent_KernelIdeal := fun m ρ _ =>
  (θ_run (Cert.KernelIdeal.defs (F := Ideal)) _ _).mono (fun _ h => h.2) (Cert.Ring.run_kept (F := Ideal) m ρ)

/-- The reference is a straight line of array operations and declares no semaphore. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- All the claims. The frames hold of every memory, and so of those that meet the precondition. -/
theorem claim : Cert.Claim :=
  ⟨Cert.Kernel.Gen.facts, Cert.KernelIdeal.Gen.facts, Cert.ReferenceIdeal.Gen.facts, Cert.Value.facts_kernel, Cert.Value.facts_reference,
    frame_kernel, frame_ideal, fun m ρ _ => frame_ideal m ρ trivial, frame_reference, fun m ρ _ => frame_reference m ρ trivial, trivial, Cert.Value.algebraic⟩

end Cert.Proof

end

end
